-- ==== Defs.lean ====
def Pre_Kernel [hPre_permutations : Cert.Pre_permutations.Facts] (m : (ℓ : Loc Cert.Kernel.nD Cert.Kernel.τ Cert.Kernel.sig) → Buf (Elt Bits) ℓ) : Prop :=
  ∀ c : Dev Cert.Kernel.nD,
    (Cert.Pre_permutations.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_permutations : Cert.Pre_permutations.Facts] (m : (ℓ : Loc Cert.KernelIdeal.nD Cert.KernelIdeal.τ Cert.KernelIdeal.sig) → Buf (Elt Ideal) ℓ) : Prop :=
  ∀ c : Dev Cert.KernelIdeal.nD,
    (Cert.Pre_permutations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutations [hPre_permutations : Cert.Pre_permutations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_sums_of_products [hPre_sums_of_products : Cert.Pre_sums_of_products.Facts] (m : (ℓ : Loc Cert.LastIdeal.nD Cert.LastIdeal.τ Cert.LastIdeal.sig) → Buf (Elt Ideal) ℓ) : Prop :=
  ∀ c : Dev Cert.LastIdeal.nD,
    (Cert.Pre_sums_of_products.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_sums_of_products [hPre_sums_of_products : Cert.Pre_sums_of_products.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_sums_of_products.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3))) = (fun _ => 1#1)

def quiescent_Kernel [hKernel : Cert.Kernel.Facts] [hPre_permutations : Cert.Pre_permutations.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_permutations [hReferenceIdeal : Cert.ReferenceIdeal.Facts] [hPre_permutations : Cert.Pre_permutations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastIdeal_pre_sums_of_products [hLastIdeal : Cert.LastIdeal.Facts] [hPre_sums_of_products : Cert.Pre_sums_of_products.Facts] : Prop :=
  ∀ (m : (ℓ : Loc Cert.LastIdeal.nD Cert.LastIdeal.τ Cert.LastIdeal.sig) → Buf (Elt Ideal) ℓ) (g : Dev Cert.LastIdeal.nD → PrngReg), Pre_LastIdeal_sums_of_products m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_LastReferenceIdeal_pre_sums_of_products [hLastReferenceIdeal : Cert.LastReferenceIdeal.Facts] [hPre_sums_of_products : Cert.Pre_sums_of_products.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_sums_of_products m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v54_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v1_0)) (v1 : (c : Dev Cert.FirstIdeal.nD) → Buf (Elt Ideal) ((c.tc : Thread Cert.FirstIdeal.nD Cert.FirstIdeal.τ).loc Cert.FirstIdeal.main_v1_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1_0) = v0 c
          ∧ r.2.mem ((c.tc : Thread Cert.FirstIdeal.nD Cert.FirstIdeal.τ).loc Cert.FirstIdeal.main_v1_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v10) = v0 c
          ∧ r.2.mem ((c.tc : Thread Cert.FirstReferenceIdeal.nD Cert.FirstReferenceIdeal.τ).loc Cert.FirstReferenceIdeal.main_v9) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1))

def preserves_Last_LastIdeal : Prop :=
  IdealRules.named_const.Statement Cert.LastIdeal.κ "inv_npix" .f32 0x373A69DC#32 ((90000⁻¹ : ℝ) : EReal)

def algebraic_LastIdeal_LastReferenceIdeal_pre_sums_of_products [hLastIdeal : Cert.LastIdeal.Facts] [hLastReferenceIdeal : Cert.LastReferenceIdeal.Facts] [hPre_sums_of_products : Cert.Pre_sums_of_products.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal_sums_of_products m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v19) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hLast : Cert.Last.Facts) (hLastIdeal : Cert.LastIdeal.Facts) (hLastReferenceIdeal : Cert.LastReferenceIdeal.Facts) (hPre_permutations : Cert.Pre_permutations.Facts) (hPre_sums_of_products : Cert.Pre_sums_of_products.Facts),
    quiescent_Kernel (hKernel := hKernel) (hPre_permutations := hPre_permutations)
    ∧ quiescent_KernelIdeal (hKernelIdeal := hKernelIdeal) (hPre_permutations := hPre_permutations)
    ∧ quiescent_ReferenceIdeal (hReferenceIdeal := hReferenceIdeal)
    ∧ quiescent_ReferenceIdeal_pre_permutations (hReferenceIdeal := hReferenceIdeal) (hPre_permutations := hPre_permutations)
    ∧ quiescent_First (hFirst := hFirst)
    ∧ quiescent_FirstIdeal (hFirstIdeal := hFirstIdeal)
    ∧ quiescent_FirstReferenceIdeal (hFirstReferenceIdeal := hFirstReferenceIdeal)
    ∧ quiescent_Last (hLast := hLast)
    ∧ quiescent_LastIdeal (hLastIdeal := hLastIdeal)
    ∧ quiescent_LastIdeal_pre_sums_of_products (hLastIdeal := hLastIdeal) (hPre_sums_of_products := hPre_sums_of_products)
    ∧ quiescent_LastReferenceIdeal (hLastReferenceIdeal := hLastReferenceIdeal)
    ∧ quiescent_LastReferenceIdeal_pre_sums_of_products (hLastReferenceIdeal := hLastReferenceIdeal) (hPre_sums_of_products := hPre_sums_of_products)
    ∧ preserves_Kernel_KernelIdeal
    ∧ algebraic_KernelIdeal_ReferenceIdeal (hKernelIdeal := hKernelIdeal) (hReferenceIdeal := hReferenceIdeal) (hPre_permutations := hPre_permutations)
    ∧ preserves_First_FirstIdeal
    ∧ algebraic_FirstIdeal_FirstReferenceIdeal (hFirstIdeal := hFirstIdeal) (hFirstReferenceIdeal := hFirstReferenceIdeal)
    ∧ preserves_Last_LastIdeal
    ∧ algebraic_LastIdeal_LastReferenceIdeal_pre_sums_of_products (hLastIdeal := hLastIdeal) (hLastReferenceIdeal := hLastReferenceIdeal) (hPre_sums_of_products := hPre_sums_of_products)
-- ==== Pre_permutations.lean ====
abbrev S180000x128 : Shape := ⟨2, ![180000, 128]⟩
abbrev S64 : Shape := ⟨1, ![64]⟩
abbrev S45000 : Shape := ⟨1, ![45000]⟩
abbrev S2x300x300 : Shape := ⟨3, ![2, 300, 300]⟩
abbrev S32x32 : Shape := ⟨2, ![32, 32]⟩
abbrev S64x32 : Shape := ⟨2, ![64, 32]⟩
abbrev S64x64 : Shape := ⟨2, ![64, 64]⟩
abbrev S64x128 : Shape := ⟨2, ![64, 128]⟩
abbrev S90000 : Shape := ⟨1, ![90000]⟩
abbrev S_ : Shape := ⟨0, ![]⟩
abbrev S1x150x300 : Shape := ⟨3, ![1, 150, 300]⟩
abbrev S150x300 : Shape := ⟨2, ![150, 300]⟩

class Facts : Prop where
  concatenates_S45000_S45000_S90000_d0 : Shape.Concatenates [S45000, S45000] S90000 0
  reducesTo_S90000_S_d0 : S90000.ReducesTo [0] S_
  h_S_ : 0 < S_.numel
  slices_S2x300x300_S1x150x300_0_0_0 : S2x300x300.Slices ![0, 0, 0] S1x150x300
  shapeCasts_S1x150x300_S150x300 : S1x150x300.ShapeCasts S150x300
  shapeCasts_S150x300_S45000 : S150x300.ShapeCasts S45000
  reducesTo_S45000_S_d0 : S45000.ReducesTo [0] S_
  slices_S2x300x300_S1x150x300_0_150_0 : S2x300x300.Slices ![0, 150, 0] S1x150x300
  slices_S2x300x300_S1x150x300_1_0_0 : S2x300x300.Slices ![1, 0, 0] S1x150x300
  slices_S2x300x300_S1x150x300_1_150_0 : S2x300x300.Slices ![1, 150, 0] S1x150x300

variable [Facts]

def comparator_i32_d0 : BitVec 32 → BitVec 32 → BitVec 1 :=
  fun l r =>
    let v1 := IntOp.cmpi .slt l r
    v1
def fn_sort {F : FTy → Type} [FloatOps F] (arg0 : IVec S90000 32) : IVec S90000 32 :=
  let v0 : IVec S90000 32 := (fun x => Host.sort S90000 0 comparator_i32_d0 x) arg0
  v0

def fn_sort_0 {F : FTy → Type} [FloatOps F] (arg0 : IVec S45000 32) : IVec S45000 32 :=
  let v0 : IVec S45000 32 := (fun x => Host.sort S45000 0 comparator_i32_d0 x) arg0
  v0

def fn_part1 {F : FTy → Type} [FloatOps F] (main_arg5 : IVec S2x300x300 32) (main_v0 : IVec S45000 32) (main_v19 : IVec S_ 1) (main_v20 : IVec S1x150x300 32) : IVec S_ 1 :=
  let main_v21 : IVec S150x300 32 := shapeCast S150x300 main_v20 shapeCasts_S1x150x300_S150x300
  let main_v22 : IVec S45000 32 := shapeCast S45000 main_v21 shapeCasts_S150x300_S45000
  let main_v23 : IVec S45000 32 := fn_sort_0 (F := F) main_v22
  let main_v24 : IVec S45000 1 := cmpi .eq main_v23 main_v0
  let main_c_2 : IVec S_ 1 := constantI S_ 1 1#1
  let main_v25 : IVec S_ 1 := (fun x v => Host.reduce IntOp.andi x v reducesTo_S45000_S_d0 h_S_) main_v24 main_c_2
  let main_v26 : IVec S_ 1 := andi main_v19 main_v25
  let main_v27 : IVec S1x150x300 32 := (extractStridedSlice S1x150x300 ![1, 150, 0] · slices_S2x300x300_S1x150x300_1_150_0) main_arg5
  let main_v28 : IVec S150x300 32 := shapeCast S150x300 main_v27 shapeCasts_S1x150x300_S150x300
  let main_v29 : IVec S45000 32 := shapeCast S45000 main_v28 shapeCasts_S150x300_S45000
  let main_v30 : IVec S45000 32 := fn_sort_0 (F := F) main_v29
  let main_v31 : IVec S45000 1 := cmpi .eq main_v30 main_v0
  let main_c_3 : IVec S_ 1 := constantI S_ 1 1#1
  let main_v32 : IVec S_ 1 := (fun x v => Host.reduce IntOp.andi x v reducesTo_S45000_S_d0 h_S_) main_v31 main_c_3
  let main_v33 : IVec S_ 1 := andi main_v26 main_v32
  main_v33

def fn {F : FTy → Type} [FloatOps F] (main_arg0 : FVec F S180000x128 .f32) (main_arg1 : FVec F S64 .f32) (main_arg2 : FVec F S64 .f32) (main_arg3 : IVec S45000 32) (main_arg4 : IVec S45000 32) (main_arg5 : IVec S2x300x300 32) (main_arg6 : FVec F S32x32 .f32) (main_arg7 : FVec F S64x32 .f32) (main_arg8 : FVec F S64x64 .f32) (main_arg9 : FVec F S64 .f32) (main_arg10 : FVec F S64x128 .f32) : IVec S_ 1 :=
  let main_v0 : IVec S45000 32 := iotaInDim S45000 32 0
  let main_v1 : IVec S90000 32 := (fun a b => concatenate S90000 0 [⟨S45000, a⟩, ⟨S45000, b⟩] concatenates_S45000_S45000_S90000_d0) main_arg3 main_arg4
  let main_v2 : IVec S90000 32 := fn_sort (F := F) main_v1
  let main_v3 : IVec S90000 32 := iotaInDim S90000 32 0
  let main_v4 : IVec S90000 1 := cmpi .eq main_v2 main_v3
  let main_c : IVec S_ 1 := constantI S_ 1 1#1
  let main_v5 : IVec S_ 1 := (fun x v => Host.reduce IntOp.andi x v reducesTo_S90000_S_d0 h_S_) main_v4 main_c
  let main_v6 : IVec S1x150x300 32 := (extractStridedSlice S1x150x300 ![0, 0, 0] · slices_S2x300x300_S1x150x300_0_0_0) main_arg5
  let main_v7 : IVec S150x300 32 := shapeCast S150x300 main_v6 shapeCasts_S1x150x300_S150x300
  let main_v8 : IVec S45000 32 := shapeCast S45000 main_v7 shapeCasts_S150x300_S45000
  let main_v9 : IVec S45000 32 := fn_sort_0 (F := F) main_v8
  let main_v10 : IVec S45000 1 := cmpi .eq main_v9 main_v0
  let main_c_0 : IVec S_ 1 := constantI S_ 1 1#1
  let main_v11 : IVec S_ 1 := (fun x v => Host.reduce IntOp.andi x v reducesTo_S45000_S_d0 h_S_) main_v10 main_c_0
  let main_v12 : IVec S_ 1 := andi main_v5 main_v11
  let main_v13 : IVec S1x150x300 32 := (extractStridedSlice S1x150x300 ![0, 150, 0] · slices_S2x300x300_S1x150x300_0_150_0) main_arg5
  let main_v14 : IVec S150x300 32 := shapeCast S150x300 main_v13 shapeCasts_S1x150x300_S150x300
  let main_v15 : IVec S45000 32 := shapeCast S45000 main_v14 shapeCasts_S150x300_S45000
  let main_v16 : IVec S45000 32 := fn_sort_0 (F := F) main_v15
  let main_v17 : IVec S45000 1 := cmpi .eq main_v16 main_v0
  let main_c_1 : IVec S_ 1 := constantI S_ 1 1#1
  let main_v18 : IVec S_ 1 := (fun x v => Host.reduce IntOp.andi x v reducesTo_S45000_S_d0 h_S_) main_v17 main_c_1
  let main_v19 : IVec S_ 1 := andi main_v12 main_v18
  let main_v20 : IVec S1x150x300 32 := (extractStridedSlice S1x150x300 ![1, 0, 0] · slices_S2x300x300_S1x150x300_1_0_0) main_arg5
  fn_part1 (F := F) main_arg5 main_v0 main_v19 main_v20
-- ==== Pre_sums_of_products.lean ====
abbrev S90000x64 : Shape := ⟨2, ![90000, 64]⟩
abbrev S2x64 : Shape := ⟨2, ![2, 64]⟩
abbrev S64 : Shape := ⟨1, ![64]⟩
abbrev S1x64 : Shape := ⟨2, ![1, 64]⟩
abbrev S_ : Shape := ⟨0, ![]⟩

class Facts : Prop where
  slices_S2x64_S1x64_0_0 : S2x64.Slices ![0, 0] S1x64
  shapeCasts_S1x64_S64 : S1x64.ShapeCasts S64
  reducesTo_S90000x64_S64_d0 : S90000x64.ReducesTo [0] S64
  h_S_ : 0 < S_.numel
  reducesTo_S64_S_d0 : S64.ReducesTo [0] S_
  slices_S2x64_S1x64_1_0 : S2x64.Slices ![1, 0] S1x64
  bcast_S_S90000x64 : S_.BroadcastsInDim S90000x64 (![] : Fin 0 → Fin S90000x64.rank)
  reducesTo_S90000x64_S_d0_1 : S90000x64.ReducesTo [0, 1] S_
  bcast_S_S64 : S_.BroadcastsInDim S64 (![] : Fin 0 → Fin S64.rank)

variable [Facts]

def fn_part1 {F : FTy → Type} [FloatOps F] (main_v16 : IVec S_ 1) (main_v17 : FVec F S64 .f32) : IVec S_ 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v16 main_v20
  main_v21

def fn {F : FTy → Type} [FloatOps F] (main_arg0 : FVec F S90000x64 .f32) (main_arg1 : FVec F S2x64 .f32) (main_arg2 : FVec F S64 .f32) (main_arg3 : FVec F S64 .f32) : IVec S_ 1 :=
  let main_v0 : FVec F S1x64 .f32 := (extractStridedSlice S1x64 ![0, 0] · slices_S2x64_S1x64_0_0) main_arg1
  let main_v1 : FVec F S64 .f32 := shapeCast S64 main_v0 shapeCasts_S1x64_S64
  let main_cst : FVec F S_ .f32 := constant S_ .f32 0x00000000#32
  let main_v2 : FVec F S64 .f32 := (fun x v => Host.reduceAdd x v reducesTo_S90000x64_S64_d0 h_S_) main_arg0 main_cst
  let main_v3 : IVec S64 1 := cmpf .oeq main_v1 main_v2
  let main_c : IVec S_ 1 := constantI S_ 1 1#1
  let main_v4 : IVec S_ 1 := (fun x v => Host.reduce IntOp.andi x v reducesTo_S64_S_d0 h_S_) main_v3 main_c
  let main_v5 : FVec F S1x64 .f32 := (extractStridedSlice S1x64 ![1, 0] · slices_S2x64_S1x64_1_0) main_arg1
  let main_v6 : FVec F S64 .f32 := shapeCast S64 main_v5 shapeCasts_S1x64_S64
  let main_v7 : FVec F S90000x64 .f32 := mulf main_arg0 main_arg0
  let main_cst_0 : FVec F S_ .f32 := constant S_ .f32 0x00000000#32
  let main_v8 : FVec F S64 .f32 := (fun x v => Host.reduceAdd x v reducesTo_S90000x64_S64_d0 h_S_) main_v7 main_cst_0
  let main_v9 : IVec S64 1 := cmpf .oeq main_v6 main_v8
  let main_c_1 : IVec S_ 1 := constantI S_ 1 1#1
  let main_v10 : IVec S_ 1 := (fun x v => Host.reduce IntOp.andi x v reducesTo_S64_S_d0 h_S_) main_v9 main_c_1
  let main_v11 : IVec S_ 1 := andi main_v4 main_v10
  let main_v12 : FVec F S90000x64 .f32 := Host.absf main_arg0
  let main_cst_2 : FVec F S_ .f32 := constant S_ .f32 0x7F800000#32
  let main_v13 : FVec F S90000x64 .f32 := broadcastInDim S90000x64 ![] bcast_S_S90000x64 main_cst_2
  let main_v14 : IVec S90000x64 1 := cmpf .olt main_v12 main_v13
  let main_c_3 : IVec S_ 1 := constantI S_ 1 1#1
  let main_v15 : IVec S_ 1 := (fun x v => Host.reduce IntOp.andi x v reducesTo_S90000x64_S_d0_1 h_S_) main_v14 main_c_3
  let main_v16 : IVec S_ 1 := andi main_v11 main_v15
  let main_v17 : FVec F S64 .f32 := Host.absf main_arg2
  fn_part1 (F := F) main_v16 main_v17
-- ==== Kernel.lean ====
abbrev S180000x128 : Shape := ⟨2, ![180000, 128]⟩
abbrev S64 : Shape := ⟨1, ![64]⟩
abbrev S45000 : Shape := ⟨1, ![45000]⟩
abbrev S2x300x300 : Shape := ⟨3, ![2, 300, 300]⟩
abbrev S32x32 : Shape := ⟨2, ![32, 32]⟩
abbrev S64x32 : Shape := ⟨2, ![64, 32]⟩
abbrev S64x64 : Shape := ⟨2, ![64, 64]⟩
abbrev S64x128 : Shape := ⟨2, ![64, 128]⟩
abbrev S90000 : Shape := ⟨1, ![90000]⟩
abbrev S300 : Shape := ⟨1, ![300]⟩
abbrev S_ : Shape := ⟨0, ![]⟩
abbrev S1x300x1 : Shape := ⟨3, ![1, 300, 1]⟩
abbrev S180000 : Shape := ⟨1, ![180000]⟩
abbrev S180000x1 : Shape := ⟨2, ![180000, 1]⟩
abbrev S1 : Shape := ⟨1, ![1]⟩
abbrev S1x1 : Shape := ⟨2, ![1, 1]⟩
abbrev S2 : Shape := ⟨1, ![2]⟩
abbrev S2x1x1 : Shape := ⟨3, ![2, 1, 1]⟩
abbrev S224 : Shape := ⟨1, ![224]⟩
abbrev S180224 : Shape := ⟨1, ![180224]⟩
abbrev S600 : Shape := ⟨1, ![600]⟩
abbrev S2x32 : Shape := ⟨2, ![2, 32]⟩
abbrev S600x1 : Shape := ⟨2, ![600, 1]⟩
abbrev S600x32 : Shape := ⟨2, ![600, 32]⟩
abbrev S180224x128 : Shape := ⟨2, ![180224, 128]⟩
abbrev S512 : Shape := ⟨1, ![512]⟩
abbrev S512x128 : Shape := ⟨2, ![512, 128]⟩
abbrev S600x300x32 : Shape := ⟨3, ![600, 300, 32]⟩
abbrev S2400x128 : Shape := ⟨2, ![2400, 128]⟩
abbrev S8x32 : Shape := ⟨2, ![8, 32]⟩
abbrev S8x300x32 : Shape := ⟨3, ![8, 300, 32]⟩
abbrev S2400x32 : Shape := ⟨2, ![2400, 32]⟩
abbrev S8x1x32 : Shape := ⟨3, ![8, 1, 32]⟩
abbrev S2400x64 : Shape := ⟨2, ![2400, 64]⟩
abbrev S8x300x300 : Shape := ⟨3, ![8, 300, 300]⟩
abbrev S8x300 : Shape := ⟨2, ![8, 300]⟩
abbrev S8x300x1 : Shape := ⟨3, ![8, 300, 1]⟩
abbrev S600x32x300 : Shape := ⟨3, ![600, 32, 300]⟩
abbrev S180000x32 : Shape := ⟨2, ![180000, 32]⟩
abbrev S1x64 : Shape := ⟨2, ![1, 64]⟩
abbrev S90000x64 : Shape := ⟨2, ![90000, 64]⟩
abbrev S2x64 : Shape := ⟨2, ![2, 64]⟩
abbrev S3600x128 : Shape := ⟨2, ![3600, 128]⟩
abbrev S3600x64 : Shape := ⟨2, ![3600, 64]⟩
abbrev S3600x32 : Shape := ⟨2, ![3600, 32]⟩

abbrev nBuf : Table → Nat
  | .hbm => 118
  | .local .tc .vmem => 26
  | .local .scVector .vmem => 4
  | _ => 0

abbrev bufTy : (tb : Table) → Fin (nBuf tb) → BufTy
  | .hbm, ⟨0, _⟩ => ⟨S180000x128, .f32⟩
  | .hbm, ⟨1, _⟩ => ⟨S64, .f32⟩
  | .hbm, ⟨2, _⟩ => ⟨S64, .f32⟩
  | .hbm, ⟨3, _⟩ => ⟨S45000, .i32⟩
  | .hbm, ⟨4, _⟩ => ⟨S45000, .i32⟩
  | .hbm, ⟨5, _⟩ => ⟨S2x300x300, .i32⟩
  | .hbm, ⟨6, _⟩ => ⟨S32x32, .f32⟩
  | .hbm, ⟨7, _⟩ => ⟨S64x32, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S90000, .i32⟩
  | .hbm, ⟨12, _⟩ => ⟨S300, .i32⟩
  | .hbm, ⟨13, _⟩ => ⟨S_, .i32⟩
  | .hbm, ⟨14, _⟩ => ⟨S300, .i32⟩
  | .hbm, ⟨15, _⟩ => ⟨S300, .i1⟩
  | .hbm, ⟨16, _⟩ => ⟨S300, .i32⟩
  | .hbm, ⟨17, _⟩ => ⟨S_, .i32⟩
  | .hbm, ⟨18, _⟩ => ⟨S300, .i32⟩
  | .hbm, ⟨19, _⟩ => ⟨S300, .i32⟩
  | .hbm, ⟨20, _⟩ => ⟨S1x300x1, .i32⟩
  | .hbm, ⟨21, _⟩ => ⟨S2x300x300, .i32⟩
  | .hbm, ⟨22, _⟩ => ⟨S2x300x300, .i32⟩
  | .hbm, ⟨23, _⟩ => ⟨S180000, .i32⟩
  | .hbm, ⟨24, _⟩ => ⟨S_, .i32⟩
  | .hbm, ⟨25, _⟩ => ⟨S180000, .i32⟩
  | .hbm, ⟨26, _⟩ => ⟨S180000, .i1⟩
  | .hbm, ⟨27, _⟩ => ⟨S_, .i32⟩
  | .hbm, ⟨28, _⟩ => ⟨S180000, .i32⟩
  | .hbm, ⟨29, _⟩ => ⟨S180000, .i32⟩
  | .hbm, ⟨30, _⟩ => ⟨S180000, .i32⟩
  | .hbm, ⟨31, _⟩ => ⟨S180000x1, .i32⟩
  | .hbm, ⟨32, _⟩ => ⟨S1, .i32⟩
  | .hbm, ⟨33, _⟩ => ⟨S_, .i32⟩
  | .hbm, ⟨34, _⟩ => ⟨S180000x1, .i32⟩
  | .hbm, ⟨35, _⟩ => ⟨S180000x1, .i1⟩
  | .hbm, ⟨36, _⟩ => ⟨S1x1, .i32⟩
  | .hbm, ⟨37, _⟩ => ⟨S180000x1, .i32⟩
  | .hbm, ⟨38, _⟩ => ⟨S180000x1, .i1⟩
  | .hbm, ⟨39, _⟩ => ⟨S180000x1, .i1⟩
  | .hbm, ⟨40, _⟩ => ⟨S_, .i1⟩
  | .hbm, ⟨41, _⟩ => ⟨S180000, .i1⟩
  | .hbm, ⟨42, _⟩ => ⟨S180000, .i32⟩
  | .hbm, ⟨43, _⟩ => ⟨S_, .i32⟩
  | .hbm, ⟨44, _⟩ => ⟨S180000, .i32⟩
  | .hbm, ⟨45, _⟩ => ⟨S180000, .i32⟩
  | .hbm, ⟨46, _⟩ => ⟨S2x300x300, .i32⟩
  | .hbm, ⟨47, _⟩ => ⟨S2, .i32⟩
  | .hbm, ⟨48, _⟩ => ⟨S_, .i32⟩
  | .hbm, ⟨49, _⟩ => ⟨S2, .i32⟩
  | .hbm, ⟨50, _⟩ => ⟨S2, .i32⟩
  | .hbm, ⟨51, _⟩ => ⟨S2x1x1, .i32⟩
  | .hbm, ⟨52, _⟩ => ⟨S2x300x300, .i32⟩
  | .hbm, ⟨53, _⟩ => ⟨S2x300x300, .i32⟩
  | .hbm, ⟨54, _⟩ => ⟨S180000, .i32⟩
  | .hbm, ⟨55, _⟩ => ⟨S_, .i32⟩
  | .hbm, ⟨56, _⟩ => ⟨S224, .i32⟩
  | .hbm, ⟨57, _⟩ => ⟨S180224, .i32⟩
  | .hbm, ⟨58, _⟩ => ⟨S224, .i32⟩
  | .hbm, ⟨59, _⟩ => ⟨S_, .i32⟩
  | .hbm, ⟨60, _⟩ => ⟨S224, .i32⟩
  | .hbm, ⟨61, _⟩ => ⟨S224, .i32⟩
  | .hbm, ⟨62, _⟩ => ⟨S180224, .i32⟩
  | .hbm, ⟨63, _⟩ => ⟨S600, .i32⟩
  | .hbm, ⟨64, _⟩ => ⟨S_, .i32⟩
  | .hbm, ⟨65, _⟩ => ⟨S_, .i32⟩
  | .hbm, ⟨66, _⟩ => ⟨S600, .i32⟩
  | .hbm, ⟨67, _⟩ => ⟨S600, .i32⟩
  | .hbm, ⟨68, _⟩ => ⟨S600, .i32⟩
  | .hbm, ⟨69, _⟩ => ⟨S_, .i32⟩
  | .hbm, ⟨70, _⟩ => ⟨S600, .i32⟩
  | .hbm, ⟨71, _⟩ => ⟨S600, .i1⟩
  | .hbm, ⟨72, _⟩ => ⟨S600, .i32⟩
  | .hbm, ⟨73, _⟩ => ⟨S600, .i32⟩
  | .hbm, ⟨74, _⟩ => ⟨S_, .i32⟩
  | .hbm, ⟨75, _⟩ => ⟨S600, .i32⟩
  | .hbm, ⟨76, _⟩ => ⟨S600, .i1⟩
  | .hbm, ⟨77, _⟩ => ⟨S600, .i1⟩
  | .hbm, ⟨78, _⟩ => ⟨S_, .i32⟩
  | .hbm, ⟨79, _⟩ => ⟨S600, .i32⟩
  | .hbm, ⟨80, _⟩ => ⟨S600, .i32⟩
  | .hbm, ⟨81, _⟩ => ⟨S600, .i32⟩
  | .hbm, ⟨82, _⟩ => ⟨S2x32, .f32⟩
  | .hbm, ⟨83, _⟩ => ⟨S_, .i32⟩
  | .hbm, ⟨84, _⟩ => ⟨S600, .i32⟩
  | .hbm, ⟨85, _⟩ => ⟨S600, .i1⟩
  | .hbm, ⟨86, _⟩ => ⟨S_, .i32⟩
  | .hbm, ⟨87, _⟩ => ⟨S600, .i32⟩
  | .hbm, ⟨88, _⟩ => ⟨S600, .i32⟩
  | .hbm, ⟨89, _⟩ => ⟨S600, .i32⟩
  | .hbm, ⟨90, _⟩ => ⟨S600x1, .i32⟩
  | .hbm, ⟨91, _⟩ => ⟨S600x32, .f32⟩
  | .hbm, ⟨92, _⟩ => ⟨S2x32, .f32⟩
  | .hbm, ⟨93, _⟩ => ⟨S_, .i32⟩
  | .hbm, ⟨94, _⟩ => ⟨S600, .i32⟩
  | .hbm, ⟨95, _⟩ => ⟨S600, .i1⟩
  | .hbm, ⟨96, _⟩ => ⟨S_, .i32⟩
  | .hbm, ⟨97, _⟩ => ⟨S600, .i32⟩
  | .hbm, ⟨98, _⟩ => ⟨S600, .i32⟩
  | .hbm, ⟨99, _⟩ => ⟨S600, .i32⟩
  | .hbm, ⟨100, _⟩ => ⟨S600x1, .i32⟩
  | .hbm, ⟨101, _⟩ => ⟨S600x32, .f32⟩
  | .hbm, ⟨102, _⟩ => ⟨S180224x128, .f32⟩
  | .hbm, ⟨103, _⟩ => ⟨S600x300x32, .f32⟩
  | .hbm, ⟨104, _⟩ => ⟨S600x32x300, .f32⟩
  | .hbm, ⟨105, _⟩ => ⟨S600x300x32, .f32⟩
  | .hbm, ⟨106, _⟩ => ⟨S180000x32, .f32⟩
  | .hbm, ⟨107, _⟩ => ⟨S_, .i32⟩
  | .hbm, ⟨108, _⟩ => ⟨S_, .f32⟩
  | .hbm, ⟨109, _⟩ => ⟨S180224x128, .f32⟩
  | .hbm, ⟨110, _⟩ => ⟨S180224x128, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S90000x64, .f32⟩
  | .hbm, ⟨115, _⟩ => ⟨S2x64, .f32⟩
  | .hbm, ⟨116, _⟩ => ⟨S180000x128, .f32⟩
  | .hbm, ⟨117, _⟩ => ⟨S180000x32, .f32⟩
  | .local .tc .vmem, ⟨0, _⟩ => ⟨S2400x128, .f32⟩
  | .local .tc .vmem, ⟨1, _⟩ => ⟨S2400x128, .f32⟩
  | .local .tc .vmem, ⟨2, _⟩ => ⟨S8x32, .f32⟩
  | .local .tc .vmem, ⟨3, _⟩ => ⟨S8x32, .f32⟩
  | .local .tc .vmem, ⟨4, _⟩ => ⟨S8x32, .f32⟩
  | .local .tc .vmem, ⟨5, _⟩ => ⟨S8x32, .f32⟩
  | .local .tc .vmem, ⟨6, _⟩ => ⟨S32x32, .f32⟩
  | .local .tc .vmem, ⟨7, _⟩ => ⟨S64x32, .f32⟩
  | .local .tc .vmem, ⟨8, _⟩ => ⟨S8x300x32, .f32⟩
  | .local .tc .vmem, ⟨9, _⟩ => ⟨S8x300x32, .f32⟩
  | .local .tc .vmem, ⟨10, _⟩ => ⟨S3600x128, .f32⟩
  | .local .tc .vmem, ⟨11, _⟩ => ⟨S3600x128, .f32⟩
  | .local .tc .vmem, ⟨12, _⟩ => ⟨S3600x128, .f32⟩
  | .local .tc .vmem, ⟨13, _⟩ => ⟨S3600x128, .f32⟩
  | .local .tc .vmem, ⟨14, _⟩ => ⟨S3600x128, .f32⟩
  | .local .tc .vmem, ⟨15, _⟩ => ⟨S3600x128, .f32⟩
  | .local .tc .vmem, ⟨16, _⟩ => ⟨S3600x128, .f32⟩
  | .local .tc .vmem, ⟨17, _⟩ => ⟨S3600x128, .f32⟩
  | .local .tc .vmem, ⟨18, _⟩ => ⟨S1x64, .f32⟩
  | .local .tc .vmem, ⟨19, _⟩ => ⟨S1x64, .f32⟩
  | .local .tc .vmem, ⟨20, _⟩ => ⟨S64x64, .f32⟩
  | .local .tc .vmem, ⟨21, _⟩ => ⟨S1x64, .f32⟩
  | .local .tc .vmem, ⟨22, _⟩ => ⟨S64x128, .f32⟩
  | .local .tc .vmem, ⟨23, _⟩ => ⟨S3600x64, .f32⟩
  | .local .tc .vmem, ⟨24, _⟩ => ⟨S3600x64, .f32⟩
  | .local .tc .vmem, ⟨25, _⟩ => ⟨S2x64, .f32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S180000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 72 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTables nBuf rfl bufTy 4 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_c_4 : Ref sig .tc := ⟨.hbm, 43, rfl⟩
abbrev main_call0_v14 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v27 : Ref sig .tc := ⟨.hbm, 81, rfl⟩
abbrev main_v28 : Ref sig .tc := ⟨.hbm, 82, rfl⟩
abbrev main_c_5 : Ref sig .tc := ⟨.hbm, 83, rfl⟩
abbrev main_v29 : Ref sig .tc := ⟨.hbm, 84, rfl⟩
abbrev main_v30 : Ref sig .tc := ⟨.hbm, 85, rfl⟩
abbrev main_c_6 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_7 : Ref sig .tc := ⟨.hbm, 93, rfl⟩
abbrev main_v37 : Ref sig .tc := ⟨.hbm, 94, rfl⟩
abbrev main_v38 : Ref sig .tc := ⟨.hbm, 95, rfl⟩
abbrev main_c_8 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_c_9 : Ref sig .tc := ⟨.hbm, 107, rfl⟩
abbrev main_call2_v0 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54_0 : Ref sig .tc := ⟨.hbm, 114, rfl⟩
abbrev main_v54_1 : Ref sig .tc := ⟨.hbm, 115, rfl⟩
abbrev main_v55 : Ref sig .tc := ⟨.hbm, 116, rfl⟩
abbrev main_v56 : Ref sig .tc := ⟨.hbm, 117, rfl⟩
abbrev main_arg0_scv : Ref sig .scVector := ⟨.hbm, 0, rfl⟩
abbrev main_v21_scv : Ref sig .scVector := ⟨.hbm, 57, rfl⟩
abbrev main_v44_scv : Ref sig .scVector := ⟨.hbm, 102, rfl⟩
abbrev main_v49_scv : Ref sig .scVector := ⟨.hbm, 109, rfl⟩
abbrev main_v25_scv : Ref sig .scVector := ⟨.hbm, 62, rfl⟩
abbrev main_v50_scv : Ref sig .scVector := ⟨.hbm, 110, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg3_1 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg9_0 : Ref sig .tc := ⟨.vmem, 23, rfl⟩
abbrev cc3_stg9_1 : Ref sig .tc := ⟨.vmem, 24, rfl⟩
abbrev cc3_stg10_0 : Ref sig .tc := ⟨.vmem, 25, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem4_0 : DmaSem sig := 30
abbrev cc1_sem5_0 : DmaSem sig := 31
abbrev cc1_sem5_1 : DmaSem sig := 32
abbrev cc3_sem0_0 : DmaSem sig := 56
abbrev cc3_sem0_1 : DmaSem sig := 57
abbrev cc3_sem1_0 : DmaSem sig := 58
abbrev cc3_sem1_1 : DmaSem sig := 59
abbrev cc3_sem2_0 : DmaSem sig := 60
abbrev cc3_sem2_1 : DmaSem sig := 61
abbrev cc3_sem3_0 : DmaSem sig := 62
abbrev cc3_sem3_1 : DmaSem sig := 63
abbrev cc3_sem4_0 : DmaSem sig := 64
abbrev cc3_sem5_0 : DmaSem sig := 65
abbrev cc3_sem6_0 : DmaSem sig := 66
abbrev cc3_sem7_0 : DmaSem sig := 67
abbrev cc3_sem8_0 : DmaSem sig := 68
abbrev cc3_sem9_0 : DmaSem sig := 69
abbrev cc3_sem9_1 : DmaSem sig := 70
abbrev cc3_sem10_0 : DmaSem sig := 71
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5632_i32 : BitVec 32 := 5632#32
  let v2 : BitVec 32 := Scalar.muli v1 c5632_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5632_i32 : BitVec 32 := 5632#32
  let v2 : BitVec 32 := Scalar.muli v1 c5632_i32
  let v3 : BitVec 32 := Scalar.addi v2 c0_i32
  let c0_i32_44_r1 : BitVec 32 := 0#32
  ![v3.toNat, 0]
abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x300x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5632_i32 : BitVec 32 := 5632#32
  let v2 : BitVec 32 := Scalar.muli v1 c5632_i32
  let v3 : BitVec 32 := Scalar.addi v2 c0_i32
  ![v3.toNat]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5632_i32 : BitVec 32 := 5632#32
  let v2 : BitVec 32 := Scalar.muli v1 c5632_i32
  let v3 : BitVec 32 := Scalar.addi v2 c0_i32
  let c0_i32_44_r1 : BitVec 32 := 0#32
  ![v3.toNat, 0]
abbrev grid3 : Pipeline.Grid := ⟨1, ![25], ![false]⟩

def k3_cond1 (i : grid3.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_25 : BitVec 32 := 0#32
  let v45 : BitVec 1 := Scalar.cmpi .ne v44 c0_i32_25
  v45

def k3_cond2 (i : grid3.Coords) : BitVec 1 :=
  let arg0 : BitVec 32 := BitVec.ofNat 32 (i 0).val
  let c0_i32_26 : BitVec 32 := 0#32
  let v46 : BitVec 1 := Scalar.cmpi .sgt arg0 c0_i32_26
  let v47 : BitVec 32 := Scalar.extui v46
  let c0_i32_27 : BitVec 32 := 0#32
  let v48 : BitVec 1 := Scalar.cmpi .ne v47 c0_i32_27
  v48

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3600x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3600x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3600x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3600x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S3600x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S2x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S180000x128 : Shape := ⟨2, ![180000, 128]⟩
abbrev S64 : Shape := ⟨1, ![64]⟩
abbrev S45000 : Shape := ⟨1, ![45000]⟩
abbrev S2x300x300 : Shape := ⟨3, ![2, 300, 300]⟩
abbrev S32x32 : Shape := ⟨2, ![32, 32]⟩
abbrev S64x32 : Shape := ⟨2, ![64, 32]⟩
abbrev S64x64 : Shape := ⟨2, ![64, 64]⟩
abbrev S64x128 : Shape := ⟨2, ![64, 128]⟩
abbrev S90000x128 : Shape := ⟨2, ![90000, 128]⟩
abbrev S1x300x300 : Shape := ⟨3, ![1, 300, 300]⟩
abbrev S300x300 : Shape := ⟨2, ![300, 300]⟩
abbrev S150x300 : Shape := ⟨2, ![150, 300]⟩
abbrev S_ : Shape := ⟨0, ![]⟩
abbrev S150x300x1 : Shape := ⟨3, ![150, 300, 1]⟩
abbrev S1 : Shape := ⟨1, ![1]⟩
abbrev S1x1x1 : Shape := ⟨3, ![1, 1, 1]⟩
abbrev S90000 : Shape := ⟨1, ![90000]⟩
abbrev S90000x1 : Shape := ⟨2, ![90000, 1]⟩
abbrev S32 : Shape := ⟨1, ![32]⟩
abbrev S90000x32 : Shape := ⟨2, ![90000, 32]⟩
abbrev S1x32 : Shape := ⟨2, ![1, 32]⟩
abbrev S300x300x1 : Shape := ⟨3, ![300, 300, 1]⟩
abbrev S300x300x32 : Shape := ⟨3, ![300, 300, 32]⟩
abbrev S32x90000 : Shape := ⟨2, ![32, 90000]⟩
abbrev S600x300x32 : Shape := ⟨3, ![600, 300, 32]⟩
abbrev S32x64 : Shape := ⟨2, ![32, 64]⟩
abbrev S600x300x64 : Shape := ⟨3, ![600, 300, 64]⟩
abbrev S600x300x300 : Shape := ⟨3, ![600, 300, 300]⟩
abbrev S600x300 : Shape := ⟨2, ![600, 300]⟩
abbrev S600x300x1 : Shape := ⟨3, ![600, 300, 1]⟩
abbrev S600x32x300 : Shape := ⟨3, ![600, 32, 300]⟩
abbrev S300x32x300 : Shape := ⟨3, ![300, 32, 300]⟩
abbrev S32x300x300 : Shape := ⟨3, ![32, 300, 300]⟩
abbrev S90000x64 : Shape := ⟨2, ![90000, 64]⟩
abbrev S1x64 : Shape := ⟨2, ![1, 64]⟩
abbrev S128x64 : Shape := ⟨2, ![128, 64]⟩
abbrev S2x64 : Shape := ⟨2, ![2, 64]⟩
abbrev S180000x32 : Shape := ⟨2, ![180000, 32]⟩

abbrev nBuf : Space → Nat
  | .hbm => 255
  | .vmem => 0
  | .smem => 0
  | _ => 0

abbrev hbmTy0_0 (i : Nat) : BufTy := match i % 128 with
  | 0 => ⟨S180000x128, .f32⟩
  | 1 => ⟨S64, .f32⟩
  | 2 => ⟨S64, .f32⟩
  | 3 => ⟨S45000, .i32⟩
  | 4 => ⟨S45000, .i32⟩
  | 5 => ⟨S2x300x300, .i32⟩
  | 6 => ⟨S32x32, .f32⟩
  | 7 => ⟨S64x32, .f32⟩
  | 8 => ⟨S64x64, .f32⟩
  | 9 => ⟨S64, .f32⟩
  | 10 => ⟨S64x128, .f32⟩
  | 11 => ⟨S90000x128, .f32⟩
  | 12 => ⟨S1x300x300, .i32⟩
  | 13 => ⟨S300x300, .i32⟩
  | 14 => ⟨S150x300, .i32⟩
  | 15 => ⟨S_, .i32⟩
  | 16 => ⟨S150x300, .i32⟩
  | 17 => ⟨S150x300, .i1⟩
  | 18 => ⟨S_, .i32⟩
  | 19 => ⟨S150x300, .i32⟩
  | 20 => ⟨S150x300, .i32⟩
  | 21 => ⟨S150x300, .i32⟩
  | 22 => ⟨S150x300x1, .i32⟩
  | 23 => ⟨S1, .i32⟩
  | 24 => ⟨S_, .i32⟩
  | 25 => ⟨S150x300x1, .i32⟩
  | 26 => ⟨S150x300x1, .i1⟩
  | 27 => ⟨S1x1x1, .i32⟩
  | 28 => ⟨S150x300x1, .i32⟩
  | 29 => ⟨S150x300x1, .i1⟩
  | 30 => ⟨S150x300x1, .i1⟩
  | 31 => ⟨S_, .i1⟩
  | 32 => ⟨S150x300, .i1⟩
  | 33 => ⟨S150x300, .i32⟩
  | 34 => ⟨S_, .i32⟩
  | 35 => ⟨S150x300, .i32⟩
  | 36 => ⟨S150x300, .i32⟩
  | 37 => ⟨S150x300, .i32⟩
  | 38 => ⟨S_, .i32⟩
  | 39 => ⟨S150x300, .i32⟩
  | 40 => ⟨S150x300, .i1⟩
  | 41 => ⟨S_, .i32⟩
  | 42 => ⟨S150x300, .i32⟩
  | 43 => ⟨S150x300, .i32⟩
  | 44 => ⟨S150x300, .i32⟩
  | 45 => ⟨S150x300x1, .i32⟩
  | 46 => ⟨S1, .i32⟩
  | 47 => ⟨S_, .i32⟩
  | 48 => ⟨S150x300x1, .i32⟩
  | 49 => ⟨S150x300x1, .i1⟩
  | 50 => ⟨S1x1x1, .i32⟩
  | 51 => ⟨S150x300x1, .i32⟩
  | 52 => ⟨S150x300x1, .i1⟩
  | 53 => ⟨S150x300x1, .i1⟩
  | 54 => ⟨S_, .i1⟩
  | 55 => ⟨S150x300, .i1⟩
  | 56 => ⟨S150x300, .i32⟩
  | 57 => ⟨S_, .i32⟩
  | 58 => ⟨S150x300, .i32⟩
  | 59 => ⟨S150x300, .i32⟩
  | 60 => ⟨S300x300, .i32⟩
  | 61 => ⟨S90000, .i32⟩
  | 62 => ⟨S_, .i32⟩
  | 63 => ⟨S90000, .i32⟩
  | 64 => ⟨S90000, .i1⟩
  | 65 => ⟨S_, .i32⟩
  | 66 => ⟨S90000, .i32⟩
  | 67 => ⟨S90000, .i32⟩
  | 68 => ⟨S90000, .i32⟩
  | 69 => ⟨S90000x1, .i32⟩
  | 70 => ⟨S90000x128, .f32⟩
  | 71 => ⟨S32, .f32⟩
  | 72 => ⟨S32, .f32⟩
  | 73 => ⟨S90000x32, .f32⟩
  | 74 => ⟨S1x32, .f32⟩
  | 75 => ⟨S90000x32, .f32⟩
  | 76 => ⟨S90000x32, .f32⟩
  | 77 => ⟨S1x32, .f32⟩
  | 78 => ⟨S90000x32, .f32⟩
  | 79 => ⟨S90000x32, .f32⟩
  | 80 => ⟨S_, .f32⟩
  | 81 => ⟨S90000x32, .f32⟩
  | 82 => ⟨S90000x32, .f32⟩
  | 83 => ⟨S_, .i32⟩
  | 84 => ⟨S300x300, .i32⟩
  | 85 => ⟨S300x300, .i1⟩
  | 86 => ⟨S_, .i32⟩
  | 87 => ⟨S300x300, .i32⟩
  | 88 => ⟨S300x300, .i32⟩
  | 89 => ⟨S300x300, .i32⟩
  | 90 => ⟨S300x300x1, .i32⟩
  | 91 => ⟨S300x300x32, .f32⟩
  | 92 => ⟨S32x90000, .f32⟩
  | 93 => ⟨S90000x128, .f32⟩
  | 94 => ⟨S1x300x300, .i32⟩
  | 95 => ⟨S300x300, .i32⟩
  | 96 => ⟨S150x300, .i32⟩
  | 97 => ⟨S_, .i32⟩
  | 98 => ⟨S150x300, .i32⟩
  | 99 => ⟨S150x300, .i1⟩
  | 100 => ⟨S_, .i32⟩
  | 101 => ⟨S150x300, .i32⟩
  | 102 => ⟨S150x300, .i32⟩
  | 103 => ⟨S150x300, .i32⟩
  | 104 => ⟨S150x300x1, .i32⟩
  | 105 => ⟨S1, .i32⟩
  | 106 => ⟨S_, .i32⟩
  | 107 => ⟨S150x300x1, .i32⟩
  | 108 => ⟨S150x300x1, .i1⟩
  | 109 => ⟨S1x1x1, .i32⟩
  | 110 => ⟨S150x300x1, .i32⟩
  | 111 => ⟨S150x300x1, .i1⟩
  | 112 => ⟨S150x300x1, .i1⟩
  | 113 => ⟨S_, .i1⟩
  | 114 => ⟨S150x300, .i1⟩
  | 115 => ⟨S150x300, .i32⟩
  | 116 => ⟨S_, .i32⟩
  | 117 => ⟨S150x300, .i32⟩
  | 118 => ⟨S150x300, .i32⟩
  | 119 => ⟨S150x300, .i32⟩
  | 120 => ⟨S_, .i32⟩
  | 121 => ⟨S150x300, .i32⟩
  | 122 => ⟨S150x300, .i1⟩
  | 123 => ⟨S_, .i32⟩
  | 124 => ⟨S150x300, .i32⟩
  | 125 => ⟨S150x300, .i32⟩
  | 126 => ⟨S150x300, .i32⟩
  | 127 => ⟨S150x300x1, .i32⟩
  | _ => ⟨S180000x128, .f32⟩

abbrev hbmTy0_1 (i : Nat) : BufTy := match i % 128 with
  | 0 => ⟨S1, .i32⟩
  | 1 => ⟨S_, .i32⟩
  | 2 => ⟨S150x300x1, .i32⟩
  | 3 => ⟨S150x300x1, .i1⟩
  | 4 => ⟨S1x1x1, .i32⟩
  | 5 => ⟨S150x300x1, .i32⟩
  | 6 => ⟨S150x300x1, .i1⟩
  | 7 => ⟨S150x300x1, .i1⟩
  | 8 => ⟨S_, .i1⟩
  | 9 => ⟨S150x300, .i1⟩
  | 10 => ⟨S150x300, .i32⟩
  | 11 => ⟨S_, .i32⟩
  | 12 => ⟨S150x300, .i32⟩
  | 13 => ⟨S150x300, .i32⟩
  | 14 => ⟨S300x300, .i32⟩
  | 15 => ⟨S90000, .i32⟩
  | 16 => ⟨S_, .i32⟩
  | 17 => ⟨S90000, .i32⟩
  | 18 => ⟨S90000, .i1⟩
  | 19 => ⟨S_, .i32⟩
  | 20 => ⟨S90000, .i32⟩
  | 21 => ⟨S90000, .i32⟩
  | 22 => ⟨S90000, .i32⟩
  | 23 => ⟨S90000x1, .i32⟩
  | 24 => ⟨S90000x128, .f32⟩
  | 25 => ⟨S32, .f32⟩
  | 26 => ⟨S32, .f32⟩
  | 27 => ⟨S90000x32, .f32⟩
  | 28 => ⟨S1x32, .f32⟩
  | 29 => ⟨S90000x32, .f32⟩
  | 30 => ⟨S90000x32, .f32⟩
  | 31 => ⟨S1x32, .f32⟩
  | 32 => ⟨S90000x32, .f32⟩
  | 33 => ⟨S90000x32, .f32⟩
  | 34 => ⟨S_, .f32⟩
  | 35 => ⟨S90000x32, .f32⟩
  | 36 => ⟨S90000x32, .f32⟩
  | 37 => ⟨S_, .i32⟩
  | 38 => ⟨S300x300, .i32⟩
  | 39 => ⟨S300x300, .i1⟩
  | 40 => ⟨S_, .i32⟩
  | 41 => ⟨S300x300, .i32⟩
  | 42 => ⟨S300x300, .i32⟩
  | 43 => ⟨S300x300, .i32⟩
  | 44 => ⟨S300x300x1, .i32⟩
  | 45 => ⟨S300x300x32, .f32⟩
  | 46 => ⟨S32x90000, .f32⟩
  | 47 => ⟨S600x300x32, .f32⟩
  | 48 => ⟨S32x32, .f32⟩
  | 49 => ⟨S600x300x32, .f32⟩
  | 50 => ⟨S32x64, .f32⟩
  | 51 => ⟨S600x300x64, .f32⟩
  | 52 => ⟨S600x300x32, .f32⟩
  | 53 => ⟨S600x300x32, .f32⟩
  | 54 => ⟨S600x300x300, .f32⟩
  | 55 => ⟨S_, .f32⟩
  | 56 => ⟨S600x300x300, .f32⟩
  | 57 => ⟨S600x300x300, .f32⟩
  | 58 => ⟨S_, .f32⟩
  | 59 => ⟨S600x300, .f32⟩
  | 60 => ⟨S_, .f32⟩
  | 61 => ⟨S600x300, .f32⟩
  | 62 => ⟨S600x300, .f32⟩
  | 63 => ⟨S600x300x1, .f32⟩
  | 64 => ⟨S600x300x300, .f32⟩
  | 65 => ⟨S600x300x300, .f32⟩
  | 66 => ⟨S600x300x300, .f32⟩
  | 67 => ⟨S_, .f32⟩
  | 68 => ⟨S600x300, .f32⟩
  | 69 => ⟨S600x300x1, .f32⟩
  | 70 => ⟨S600x300x300, .f32⟩
  | 71 => ⟨S600x300x300, .f32⟩
  | 72 => ⟨S600x300x32, .f32⟩
  | 73 => ⟨S600x32x300, .f32⟩
  | 74 => ⟨S300x32x300, .f32⟩
  | 75 => ⟨S32x300x300, .f32⟩
  | 76 => ⟨S32x90000, .f32⟩
  | 77 => ⟨S90000, .i32⟩
  | 78 => ⟨S_, .i32⟩
  | 79 => ⟨S90000, .i32⟩
  | 80 => ⟨S90000, .i1⟩
  | 81 => ⟨S_, .i32⟩
  | 82 => ⟨S90000, .i32⟩
  | 83 => ⟨S90000, .i32⟩
  | 84 => ⟨S90000, .i32⟩
  | 85 => ⟨S90000x1, .i32⟩
  | 86 => ⟨S32x90000, .f32⟩
  | 87 => ⟨S90000x32, .f32⟩
  | 88 => ⟨S300x32x300, .f32⟩
  | 89 => ⟨S32x300x300, .f32⟩
  | 90 => ⟨S32x90000, .f32⟩
  | 91 => ⟨S90000, .i32⟩
  | 92 => ⟨S_, .i32⟩
  | 93 => ⟨S90000, .i32⟩
  | 94 => ⟨S90000, .i1⟩
  | 95 => ⟨S_, .i32⟩
  | 96 => ⟨S90000, .i32⟩
  | 97 => ⟨S90000, .i32⟩
  | 98 => ⟨S90000, .i32⟩
  | 99 => ⟨S90000x1, .i32⟩
  | 100 => ⟨S32x90000, .f32⟩
  | 101 => ⟨S90000x32, .f32⟩
  | 102 => ⟨S90000x64, .f32⟩
  | 103 => ⟨S64x64, .f32⟩
  | 104 => ⟨S90000x64, .f32⟩
  | 105 => ⟨S1x64, .f32⟩
  | 106 => ⟨S90000x64, .f32⟩
  | 107 => ⟨S90000x64, .f32⟩
  | 108 => ⟨S_, .f32⟩
  | 109 => ⟨S90000x64, .f32⟩
  | 110 => ⟨S90000x64, .f32⟩
  | 111 => ⟨S90000x32, .f32⟩
  | 112 => ⟨S90000x32, .f32⟩
  | 113 => ⟨S90000x64, .f32⟩
  | 114 => ⟨S90000x128, .f32⟩
  | 115 => ⟨S128x64, .f32⟩
  | 116 => ⟨S90000x64, .f32⟩
  | 117 => ⟨S_, .f32⟩
  | 118 => ⟨S64, .f32⟩
  | 119 => ⟨S90000x64, .f32⟩
  | 120 => ⟨S_, .f32⟩
  | 121 => ⟨S64, .f32⟩
  | 122 => ⟨S1x64, .f32⟩
  | 123 => ⟨S1x64, .f32⟩
  | 124 => ⟨S2x64, .f32⟩
  | 125 => ⟨S180000x128, .f32⟩
  | 126 => ⟨S180000x32, .f32⟩
  | _ => ⟨S180000x128, .f32⟩

abbrev hbmTy (i : Nat) : BufTy := match i / 128 with
  | 0 => hbmTy0_0 i
  | 1 => hbmTy0_1 i
  | _ => ⟨S180000x128, .f32⟩

abbrev bufTy : (tb : Table) → Fin (tcTables nBuf tb) → BufTy
  | .hbm, ⟨i, _⟩ => hbmTy i
  | _, _ => ⟨S180000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_c_4 : Ref sig .tc := ⟨.hbm, 34, rfl⟩
abbrev main_call0_v14 : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_c_4 : Ref sig .tc := ⟨.hbm, 57, rfl⟩
abbrev main_call1_v14 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_c : Ref sig .tc := ⟨.hbm, 62, rfl⟩
abbrev main_v9 : Ref sig .tc := ⟨.hbm, 63, rfl⟩
abbrev main_v10 : Ref sig .tc := ⟨.hbm, 64, rfl⟩
abbrev main_c_0 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_call2_cst : Ref sig .tc := ⟨.hbm, 80, rfl⟩
abbrev main_call2_v0 : Ref sig .tc := ⟨.hbm, 81, rfl⟩
abbrev main_v25 : Ref sig .tc := ⟨.hbm, 82, rfl⟩
abbrev main_c_1 : Ref sig .tc := ⟨.hbm, 83, rfl⟩
abbrev main_v26 : Ref sig .tc := ⟨.hbm, 84, rfl⟩
abbrev main_v27 : Ref sig .tc := ⟨.hbm, 85, rfl⟩
abbrev main_c_2 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_c_4 : Ref sig .tc := ⟨.hbm, 116, rfl⟩
abbrev main_call3_v14 : Ref sig .tc := ⟨.hbm, 117, rfl⟩
abbrev main_v38 : Ref sig .tc := ⟨.hbm, 118, rfl⟩
abbrev main_v39 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_c_4 : Ref sig .tc := ⟨.hbm, 139, rfl⟩
abbrev main_call4_v14 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_c_3 : Ref sig .tc := ⟨.hbm, 144, rfl⟩
abbrev main_v43 : Ref sig .tc := ⟨.hbm, 145, rfl⟩
abbrev main_v44 : Ref sig .tc := ⟨.hbm, 146, rfl⟩
abbrev main_c_4 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_call5_cst : Ref sig .tc := ⟨.hbm, 162, rfl⟩
abbrev main_call5_v0 : Ref sig .tc := ⟨.hbm, 163, rfl⟩
abbrev main_v59 : Ref sig .tc := ⟨.hbm, 164, rfl⟩
abbrev main_c_5 : Ref sig .tc := ⟨.hbm, 165, rfl⟩
abbrev main_v60 : Ref sig .tc := ⟨.hbm, 166, rfl⟩
abbrev main_v61 : Ref sig .tc := ⟨.hbm, 167, rfl⟩
abbrev main_c_6 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_cst : Ref sig .tc := ⟨.hbm, 183, rfl⟩
abbrev main_v76 : Ref sig .tc := ⟨.hbm, 184, rfl⟩
abbrev main_v77 : Ref sig .tc := ⟨.hbm, 185, rfl⟩
abbrev main_cst_7 : Ref sig .tc := ⟨.hbm, 186, rfl⟩
abbrev main_v78 : Ref sig .tc := ⟨.hbm, 187, rfl⟩
abbrev main_cst_8 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_cst_9 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_c_10 : Ref sig .tc := ⟨.hbm, 206, rfl⟩
abbrev main_v95 : Ref sig .tc := ⟨.hbm, 207, rfl⟩
abbrev main_v96 : Ref sig .tc := ⟨.hbm, 208, rfl⟩
abbrev main_c_11 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_c_12 : Ref sig .tc := ⟨.hbm, 220, rfl⟩
abbrev main_v107 : Ref sig .tc := ⟨.hbm, 221, rfl⟩
abbrev main_v108 : Ref sig .tc := ⟨.hbm, 222, rfl⟩
abbrev main_c_13 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_call6_cst : Ref sig .tc := ⟨.hbm, 236, rfl⟩
abbrev main_call6_v0 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_cst_14 : Ref sig .tc := ⟨.hbm, 245, rfl⟩
abbrev main_v128 : Ref sig .tc := ⟨.hbm, 246, rfl⟩
abbrev main_v129 : Ref sig .tc := ⟨.hbm, 247, rfl⟩
abbrev main_cst_15 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩

abbrev nD : Nat := 1
abbrev τ : Topo := Topo.v7x

variable {F : FTy → Type} [FloatOps F]
-- ==== First.lean ====
abbrev S1x128x300x300 : Shape := ⟨4, ![1, 128, 300, 300]⟩
abbrev S64x128 : Shape := ⟨2, ![64, 128]⟩
abbrev S128x90000 : Shape := ⟨2, ![128, 90000]⟩
abbrev S2x90000x128 : Shape := ⟨3, ![2, 90000, 128]⟩
abbrev S2x64 : Shape := ⟨2, ![2, 64]⟩
abbrev S128x4096 : Shape := ⟨2, ![128, 4096]⟩
abbrev S2x4096x128 : Shape := ⟨3, ![2, 4096, 128]⟩
abbrev S4096x64 : Shape := ⟨2, ![4096, 64]⟩
abbrev S4096x96 : Shape := ⟨2, ![4096, 96]⟩
abbrev S4096x32 : Shape := ⟨2, ![4096, 32]⟩
abbrev S4096x128 : Shape := ⟨2, ![4096, 128]⟩
abbrev S1x4096x128 : Shape := ⟨3, ![1, 4096, 128]⟩
abbrev S4096x1 : Shape := ⟨2, ![4096, 1]⟩
abbrev S64 : Shape := ⟨1, ![64]⟩
abbrev S1x64 : Shape := ⟨2, ![1, 64]⟩

abbrev nBuf : Space → Nat
  | .hbm => 5
  | .vmem => 6
  | .smem => 0
  | _ => 0

abbrev bufTy : (tb : Table) → Fin (tcTables nBuf tb) → BufTy
  | .hbm, ⟨0, _⟩ => ⟨S1x128x300x300, .f32⟩
  | .hbm, ⟨1, _⟩ => ⟨S64x128, .f32⟩
  | .hbm, ⟨2, _⟩ => ⟨S128x90000, .f32⟩
  | .hbm, ⟨3, _⟩ => ⟨S2x90000x128, .f32⟩
  | .hbm, ⟨4, _⟩ => ⟨S2x64, .f32⟩
  | .local _ .vmem, ⟨0, _⟩ => ⟨S128x4096, .f32⟩
  | .local _ .vmem, ⟨1, _⟩ => ⟨S128x4096, .f32⟩
  | .local _ .vmem, ⟨2, _⟩ => ⟨S64x128, .f32⟩
  | .local _ .vmem, ⟨3, _⟩ => ⟨S2x4096x128, .f32⟩
  | .local _ .vmem, ⟨4, _⟩ => ⟨S2x4096x128, .f32⟩
  | .local _ .vmem, ⟨5, _⟩ => ⟨S2x64, .f32⟩
  | _, _ => ⟨S1x128x300x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FirstReferenceIdeal.lean ====
abbrev S1x128x300x300 : Shape := ⟨4, ![1, 128, 300, 300]⟩
abbrev S64x128 : Shape := ⟨2, ![64, 128]⟩
abbrev S64x1x300x300 : Shape := ⟨4, ![64, 1, 300, 300]⟩
abbrev S1x64x300x300 : Shape := ⟨4, ![1, 64, 300, 300]⟩
abbrev S2x32x90000 : Shape := ⟨3, ![2, 32, 90000]⟩
abbrev S2x90000x32 : Shape := ⟨3, ![2, 90000, 32]⟩
abbrev S_ : Shape := ⟨0, ![]⟩
abbrev S64 : Shape := ⟨1, ![64]⟩
abbrev S1x64 : Shape := ⟨2, ![1, 64]⟩
abbrev S2x64 : Shape := ⟨2, ![2, 64]⟩
abbrev S2x90000x128 : Shape := ⟨3, ![2, 90000, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x128x300x300, .f32⟩
  | .hbm, ⟨1, _⟩ => ⟨S64x128, .f32⟩
  | .hbm, ⟨2, _⟩ => ⟨S64x1x300x300, .f32⟩
  | .hbm, ⟨3, _⟩ => ⟨S1x64x300x300, .f32⟩
  | .hbm, ⟨4, _⟩ => ⟨S2x32x90000, .f32⟩
  | .hbm, ⟨5, _⟩ => ⟨S2x90000x32, .f32⟩
  | .hbm, ⟨6, _⟩ => ⟨S_, .f32⟩
  | .hbm, ⟨7, _⟩ => ⟨S64, .f32⟩
  | .hbm, ⟨8, _⟩ => ⟨S1x64x300x300, .f32⟩
  | .hbm, ⟨9, _⟩ => ⟨S_, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S2x64, .f32⟩
  | .hbm, ⟨14, _⟩ => ⟨S_, .i32⟩
  | .hbm, ⟨15, _⟩ => ⟨S_, .f32⟩
  | .hbm, ⟨16, _⟩ => ⟨S2x90000x128, .f32⟩
  | _, _ => ⟨S1x128x300x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Last.lean ====
abbrev S90000x64 : Shape := ⟨2, ![90000, 64]⟩
abbrev S2x64 : Shape := ⟨2, ![2, 64]⟩
abbrev S64 : Shape := ⟨1, ![64]⟩
abbrev S1x64 : Shape := ⟨2, ![1, 64]⟩
abbrev S64x90000 : Shape := ⟨2, ![64, 90000]⟩
abbrev S4096x64 : Shape := ⟨2, ![4096, 64]⟩
abbrev S64x4096 : Shape := ⟨2, ![64, 4096]⟩

abbrev nBuf : Space → Nat
  | .hbm => 7
  | .vmem => 7
  | .smem => 0
  | _ => 0

abbrev bufTy : (tb : Table) → Fin (tcTables nBuf tb) → BufTy
  | .hbm, ⟨0, _⟩ => ⟨S90000x64, .f32⟩
  | .hbm, ⟨1, _⟩ => ⟨S2x64, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S1x64, .f32⟩
  | .hbm, ⟨6, _⟩ => ⟨S64x90000, .f32⟩
  | .local _ .vmem, ⟨0, _⟩ => ⟨S4096x64, .f32⟩
  | .local _ .vmem, ⟨1, _⟩ => ⟨S4096x64, .f32⟩
  | .local _ .vmem, ⟨2, _⟩ => ⟨S2x64, .f32⟩
  | .local _ .vmem, ⟨3, _⟩ => ⟨S1x64, .f32⟩
  | .local _ .vmem, ⟨4, _⟩ => ⟨S1x64, .f32⟩
  | .local _ .vmem, ⟨5, _⟩ => ⟨S64x4096, .f32⟩
  | .local _ .vmem, ⟨6, _⟩ => ⟨S64x4096, .f32⟩
  | _, _ => ⟨S90000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastIdeal.lean ====
variable {F : FTy → Type} [FloatOps F] [Named F]
def κ : String → Option EReal := fun
  | "inv_npix" => some ((90000⁻¹ : ℝ) : EReal)
  | _ => none
-- ==== LastReferenceIdeal.lean ====
abbrev S90000x64 : Shape := ⟨2, ![90000, 64]⟩
abbrev S2x64 : Shape := ⟨2, ![2, 64]⟩
abbrev S64 : Shape := ⟨1, ![64]⟩
abbrev S_ : Shape := ⟨0, ![]⟩
abbrev S1x64 : Shape := ⟨2, ![1, 64]⟩
abbrev S64x90000 : Shape := ⟨2, ![64, 90000]⟩

abbrev nBuf : Space → Nat
  | .hbm => 52
  | .vmem => 0
  | .smem => 0
  | _ => 0

abbrev bufTy : (tb : Table) → Fin (tcTables nBuf tb) → BufTy
  | .hbm, ⟨0, _⟩ => ⟨S90000x64, .f32⟩
  | .hbm, ⟨1, _⟩ => ⟨S2x64, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S_, .i32⟩
  | .hbm, ⟨11, _⟩ => ⟨S_, .f32⟩
  | .hbm, ⟨12, _⟩ => ⟨S64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S90000x64, .f32⟩
  | .hbm, ⟨18, _⟩ => ⟨S90000x64, .f32⟩
  | .hbm, ⟨19, _⟩ => ⟨S90000x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x64, .f32⟩
  | .hbm, ⟨33, _⟩ => ⟨S1x64, .f32⟩
  | .hbm, ⟨34, _⟩ => ⟨S90000x64, .f32⟩
  | .hbm, ⟨35, _⟩ => ⟨S90000x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S90000x64, .f32⟩
  | .hbm, ⟨41, _⟩ => ⟨S90000x64, .f32⟩
  | .hbm, ⟨42, _⟩ => ⟨S1x64, .f32⟩
  | .hbm, ⟨43, _⟩ => ⟨S90000x64, .f32⟩
  | .hbm, ⟨44, _⟩ => ⟨S90000x64, .f32⟩
  | .hbm, ⟨45, _⟩ => ⟨S1x64, .f32⟩
  | .hbm, ⟨46, _⟩ => ⟨S90000x64, .f32⟩
  | .hbm, ⟨47, _⟩ => ⟨S90000x64, .f32⟩
  | .hbm, ⟨48, _⟩ => ⟨S_, .f32⟩
  | .hbm, ⟨49, _⟩ => ⟨S90000x64, .f32⟩
  | .hbm, ⟨50, _⟩ => ⟨S90000x64, .f32⟩
  | .hbm, ⟨51, _⟩ => ⟨S64x90000, .f32⟩
  | _, _ => ⟨S90000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.FirstBody.lean ====
/-
  The first convolution's kernel at one grid point: from a block of 4096 pixels and the weights it fills both heads' rows of
  the slab block, and sets the running sums at the first point or adds to them at a later one.
-/
module

public import proofs.«01_k».proof.Proof.Gen.FirstIdeal.Launch
public import proofs.«01_k».proof.Proof.Gen.FirstIdeal.Points
public import proofs.«01_k».proof.Proof.Gen.FirstIdeal.Skeleton
public import Idealize.ShloMosaic.Lib.Pipeline.Frame
public import Idealize.ShloMosaic.Lib.VecWindow
public import Idealize.ShloMosaic.Lib.Pointwise
public import Idealize.ShloMosaic.Lib.Tactic

@[expose] public section

noncomputable section

namespace Cert.Proof.Conv

open Cert.FirstIdeal Cert.FirstIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ (UR sig nD τ) ℕ

/-- The kernel has no variants. -/
abbrev 𝒱₀ : Variants := Variants.none

/-- At one point exactly one of the two branches runs: the one that sets the sums, or the one that adds to them. -/
def OneBranch (i : grid0.Coords) : Prop := (k0_cond1 i = 1#1 ∧ ¬ k0_cond2 i = 1#1) ∨ (¬ k0_cond1 i = 1#1 ∧ k0_cond2 i = 1#1)

/-- The sums after a point: the block's own where they are set, added to those before otherwise. -/
def sumsAfter (i : grid0.Coords) (z s : Vec F S2x64 .f32) : Vec F S2x64 .f32 :=
  if k0_cond1 i = 1#1 then z else k0_pay1 z s

/-- The slab block of a point: the first head's rows, then the second's. -/
def slabOf (x : Vec F S128x4096 .f32) (w : Vec F S64x128 .f32) : Vec F S2x4096x128 .f32 := fun j =>
  if (j 0).val < 1 then k0_pay4 x w (ix3 0 (j 1) (j 2)) else k0_pay5 x w (ix3 0 (j 1) (j 2))

/-- The two heads' stores leave the slab block whole, whatever the buffer held. -/
theorem slab_read {κ : Kind} {sp : Space} (v : View sig κ sp S2x4096x128 .f32) (f : v.ty.Contents (Elt F)) (x : Vec F S128x4096 .f32) (w : Vec F S64x128 .f32)
    :
    v.read (Elt F) (v.writes (Elt F) f (⟨Rect.unit (s := S2x4096x128) ![1, 0, 0] S1x4096x128.size inb_S2x4096x128_S1x4096x128_1_0_0, k0_pay5 x w⟩
      :: ⟨Rect.unit (s := S2x4096x128) ![0, 0, 0] S1x4096x128.size inb_S2x4096x128_S1x4096x128_0_0_0, k0_pay4 x w⟩ :: [])) = slabOf x w := by
  funext y
  refine View.read_writes_apply_of_pieces v f (slabOf x w) _ ?_ y ?_
  · intro p hp z
    rcases List.mem_cons.mp hp with rfl | hp
    · have hz : (z 0).val < 1 := (z 0).isLt
      have h0 : ¬ (((Rect.unit (s := S2x4096x128) ![1, 0, 0] S1x4096x128.size inb_S2x4096x128_S1x4096x128_1_0_0).emb z) 0).val < 1 := by
        show ¬ (1 + 1 * (z 0).val < 1); omega
      unfold slabOf
      rw [if_neg h0]
      refine congrArg (k0_pay5 x w) (funext fun a => ?_)
      fin_cases a
      · exact Fin.ext (by show (z 0).val = 0; omega)
      · exact Fin.ext (by show (z 1).val = 0 + 1 * (z 1).val; omega)
      · exact Fin.ext (by show (z 2).val = 0 + 1 * (z 2).val; omega)
    · obtain rfl := List.mem_singleton.mp hp
      have hz : (z 0).val < 1 := (z 0).isLt
      have h0 : (((Rect.unit (s := S2x4096x128) ![0, 0, 0] S1x4096x128.size inb_S2x4096x128_S1x4096x128_0_0_0).emb z) 0).val < 1 := by
        show 0 + 1 * (z 0).val < 1; omega
      unfold slabOf
      rw [if_pos h0]
      refine congrArg (k0_pay4 x w) (funext fun a => ?_)
      fin_cases a
      · exact Fin.ext (by show (z 0).val = 0; omega)
      · exact Fin.ext (by show (z 1).val = 0 + 1 * (z 1).val; omega)
      · exact Fin.ext (by show (z 2).val = 0 + 1 * (z 2).val; omega)
  · have hy0 : (y 0).val < 2 := (y 0).isLt
    have hy1 : (y 1).val < 4096 := (y 1).isLt
    have hy2 : (y 2).val < 128 := (y 2).isLt
    by_cases h : (y 0).val < 1
    · refine ⟨_, List.mem_cons_of_mem _ (List.mem_singleton_self _), (Rect.mem_set_unit (inb := inb_S2x4096x128_S1x4096x128_0_0_0)).mpr fun a => ?_⟩
      fin_cases a
      · show 0 ≤ (y 0).val ∧ (y 0).val < 0 + 1; omega
      · show 0 ≤ (y 1).val ∧ (y 1).val < 0 + 4096; omega
      · show 0 ≤ (y 2).val ∧ (y 2).val < 0 + 128; omega
    · refine ⟨_, List.mem_cons_self, (Rect.mem_set_unit (inb := inb_S2x4096x128_S1x4096x128_1_0_0)).mpr fun a => ?_⟩
      fin_cases a
      · show 1 ≤ (y 0).val ∧ (y 0).val < 1 + 1; omega
      · show 0 ≤ (y 1).val ∧ (y 1).val < 0 + 4096; omega
      · show 0 ≤ (y 2).val ∧ (y 2).val < 0 + 128; omega

set_option maxHeartbeats 4000000 in
/-- On any whole buffers holding the block and the weights, the body fills the slab block, and sets the sums or adds to them. -/
theorem conv_body (c : Dev nD) (i : grid0.Coords) (hi : OneBranch i)
    (a1 : Memref sig .tc .vmem S128x4096 .f32) (h1 : a1.IsWhole) (a2 : Memref sig .tc .vmem S64x128 .f32) (h2 : a2.IsWhole)
    (a3 : Memref sig .tc .vmem S2x4096x128 .f32) (h3 : a3.IsWhole) (a4 : Memref sig .tc .vmem S2x64 .f32) (h4 : a4.IsWhole)
    (x : Vec F S128x4096 .f32) (w : Vec F S64x128 .f32) (s : Vec F S2x64 .f32) (E : Set ℕ) (Q : PUnit → sProp 𝕄) :
    iprop(owns (c : Thread nD τ) a1 fullShare x ∗ owns (c : Thread nD τ) a2 fullShare w
        ∗ (∃ d, owns (c : Thread nD τ) a3 fullShare d) ∗ owns (c : Thread nD τ) a4 fullShare s
        ∗ (iprop(owns (c : Thread nD τ) a1 fullShare x ∗ owns (c : Thread nD τ) a2 fullShare w
            ∗ owns (c : Thread nD τ) a3 fullShare (slabOf x w) ∗ owns (c : Thread nD τ) a4 fullShare (sumsAfter i (k0_pay6 i x w) s)) -∗ Q ⟨⟩))
      ⊢ wp frame (wpE (defs₀ (F := F)) 𝒱₀ c none) E (cc0__conv1_body i a1 h1 a2 h2 a3 h3 a4 h4) Q := by
  simp only [cc0__conv1_body_eq_skeleton]; unfold cc0__conv1_body_skel
  simp only [k0_part1_eq_skeleton]
  unfold owns
  iintro ⟨⟨%f1, %e1, H1⟩, ⟨%f2, %e2, H2⟩, ⟨%d3, %f3, -, H3⟩, ⟨%f4, %e4, H4⟩, Hk⟩
  obtain rfl := h1.eq_unread e1; obtain rfl := h2.eq_unread e2; obtain rfl := h4.eq_unread e4
  rcases hi with ⟨c1, c2⟩ | ⟨c1, c2⟩ <;>
    [simp only [dif_pos c1, dif_neg c2, sumsAfter, if_pos c1]; simp only [dif_neg c1, dif_pos c2, sumsAfter, if_neg c1]] <;>
    (sl_exec
     sl_step
     iapply Hk
     isplitl [H1]
     · iexists _; isplitr; · ipureintro; exact h1.read_unread _
       iexact H1
     isplitl [H2]
     · iexists _; isplitr; · ipureintro; exact h2.read_unread _
       iexact H2
     isplitl [H3]
     · iexists _; isplitr
       swap; · iexact H3
       ipureintro
       refine Eq.trans (slab_read a3.view _ _ _) ?_
       exact congr (congrArg slabOf ((View.readAt_full _ _ _).trans e1)) ((View.readAt_full _ _ _).trans e2)
     iexists _; isplitr
     swap; · iexact H4
     ipureintro
     rw [View.read_writes_full]
     first
     | show k0_pay6 i _ _ = _
       exact congr (congrArg (k0_pay6 i) ((View.readAt_full _ _ _).trans e1)) ((View.readAt_full _ _ _).trans e2)
     | show k0_pay1 (k0_pay6 i _ _) _ = _
       exact congr (congrArg k0_pay1 (congr (congrArg (k0_pay6 i) ((View.readAt_full _ _ _).trans e1)) ((View.readAt_full _ _ _).trans e2))) ((View.readAt_full _ _ _).trans e4))

/-- The sums are set at the first point and added to at every later one. -/
theorem branch_first : ∀ t : Fin cfg0.N, t.val = 0 → k0_cond1 (cfg0.grid.coords t) = 1#1 ∧ ¬ k0_cond2 (cfg0.grid.coords t) = 1#1 := by decide +kernel
theorem branch_later : ∀ t : Fin cfg0.N, t.val ≠ 0 → ¬ k0_cond1 (cfg0.grid.coords t) = 1#1 ∧ k0_cond2 (cfg0.grid.coords t) = 1#1 := by decide +kernel

theorem one_branch (t : Fin cfg0.N) : OneBranch (cfg0.grid.coords t) :=
  if h : t.val = 0 then .inl (branch_first t h) else .inr (branch_later t h)

/-- No point leaves the sums alone. -/
theorem sums_live : ∀ i : cfg0.grid.Coords, cfg0.idle 3 i = false := by decide +kernel

/-- The sums are written back only after the last point. -/
theorem sums_kept : ∀ t : Fin cfg0.N, t.val ≠ 21 → (cfg0.win 3).flush t = false := by decide +kernel

end Cert.Proof.Conv

end
-- ==== Proof.FirstRun.lean ====
/-
  The first convolution's whole run. Its blocks of pixels are 4096 wide and the last one passes the end of the image: what the
  staging buffer holds past the end is not known. Over any numbers the run ends with the arguments as they were; where the
  body's results inside the arrays do not depend on what lies past the end, it ends with the slab and the sums named too.
-/
module

public import proofs.«01_k».proof.Proof.FirstBody
public import Idealize.ShloMosaic.Lib.Pipeline.FrameBody

@[expose] public section

noncomputable section

namespace Cert.Proof.Conv

open Cert.FirstIdeal Cert.FirstIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The buffers as the call finds them: the image reshaped to one row of pixels per channel, the rest as at the start. -/
def V (c : Dev nD) (b : Ref sig .tc) : Buf (Elt F) ((c.tc : Thread nD τ).loc b) :=
  StableHlo.after (hostOps0 (F := F)) (fun b => m (c, b)) b

/-- A point's block of pixels, the part inside the image. -/
def pixels (c : Dev nD) (t : Fin cfg0.N) : (win0_0.xblock (grid0.coords t)).Idx → Elt F .f32 :=
  (win0_0.blk t).view.read (Elt F) (V m c main_v0)

/-- The block with anything past the end of the image. -/
def block (c : Dev nD) (t : Fin cfg0.N) (d : Vec F S128x4096 .f32) : Vec F S128x4096 .f32 :=
  win0_0.fill (grid0.coords t) d (pixels m c t)

/-- The block with zeros past the end of the image. -/
def zeroed (c : Dev nD) (t : Fin cfg0.N) : Vec F S128x4096 .f32 := block m c t fun _ => Scalar.ofBits .f32 0#32

/-- The weights, as their staging buffer holds them. -/
def weights (c : Dev nD) (t : Fin cfg0.N) : Vec F S64x128 .f32 :=
  win0_1.fill (grid0.coords t) (fun _ => Scalar.ofBits .f32 0#32) ((win0_1.blk t).view.read (Elt F) (V m c main_arg1))

theorem whole_1 : ∀ (t : Fin cfg0.N), ∀ a, win0_1.xsize (grid0.coords t) a = win0_1.size a := by decide +kernel

theorem weights_any (t : Fin cfg0.N) (d d' : Vec F S64x128 .f32) (g) :
    win0_1.fill (grid0.coords t) d g = win0_1.fill (grid0.coords t) d' g := by
  have hm : ∀ j, win0_1.moved (grid0.coords t) j = true := fun j =>
    (win0_1.moved_iff _ j).mpr fun a => by rw [whole_1 t a]; exact (j a).isLt
  funext j; unfold Pipeline.Window.fill; rw [dif_pos (hm j), dif_pos (hm j)]

/-- The sums over the blocks up to point `k`. -/
def sums (c : Dev nD) : (k : ℕ) → k < cfg0.N → Vec F S2x64 .f32
  | 0, h => k0_pay6 (grid0.coords ⟨0, h⟩) (zeroed m c ⟨0, h⟩) (weights m c ⟨0, h⟩)
  | k + 1, h => k0_pay1 (k0_pay6 (grid0.coords ⟨k + 1, h⟩) (zeroed m c ⟨k + 1, h⟩) (weights m c ⟨k + 1, h⟩)) (sums c k (Nat.lt_of_succ_lt h))

/-- What the staging buffers hold after the body at point `t`. -/
def leaves (c : Dev nD) (w : Fin cfg0.W) (t : Fin cfg0.N) : (cfg0.win w).block.Idx → Elt F (cfg0.win w).elt :=
  match w with
  | ⟨0, _⟩ => zeroed m c t
  | ⟨1, _⟩ => weights m c t
  | ⟨2, _⟩ => slabOf (zeroed m c t) (weights m c t)
  | ⟨3, _⟩ => sums m c t.val t.isLt

/-- The call's data. -/
def dats (_ : Fin 1) (c : Dev nD) : Dat τ (Elt F) Unit ℕ (UR sig nD τ) ℕ cfg0 c where
  A w := V m c (Pipeline.arrRef spec0 w)
  after w t := leaves m c w t
  Φ _ := Pipeline.ΦA spec0 c
  q _ := fullShare
  owed _ := 0

theorem dats_A (c : Dev nD) (w : Fin cfg0.W) : (dats m 0 c).A w = V m c (Pipeline.arrRef spec0 w) := by dsimp only [dats]
theorem dats_after (c : Dev nD) (w : Fin cfg0.W) (t : Fin cfg0.N) : (dats m 0 c).after w t = leaves m c w t := by dsimp only [dats]

theorem before_pixels (c : Dev nD) (t : Fin cfg0.N) (d) : (dats m 0 c).before (0 : Fin 4) t d = block m c t d := by
  unfold Dat.before; rw [if_pos (fetch0_0 t)]; rfl

theorem before_weights (c : Dev nD) (t : Fin cfg0.N) (d) : (dats m 0 c).before (1 : Fin 4) t d = weights m c t :=
  ((dats m 0 c).before_in_eq_fetched (1 : Fin 4) rfl (fun _ => rfl) (fun _ _ _ => rfl)
    (fun t => by rw [dats_after]; exact win0_1.cut_fill (grid0.coords t) (fun _ => Scalar.ofBits .f32 0#32) _) t d).trans (weights_any t d _ _)

/-- The sums the body leaves, from those it finds. -/
theorem sums_step (c : Dev nD) (t : Fin cfg0.N) (d) :
    sumsAfter (grid0.coords t) (k0_pay6 (grid0.coords t) (zeroed m c t) (weights m c t)) ((dats m 0 c).before (3 : Fin 4) t d) = sums m c t.val t.isLt := by
  obtain ⟨k, hk⟩ := t
  cases k with
  | zero => unfold sumsAfter; rw [if_pos (branch_first ⟨0, hk⟩ rfl).1]; rfl
  | succ k =>
    unfold sumsAfter
    rw [if_neg (branch_later ⟨k + 1, hk⟩ (Nat.succ_ne_zero k)).1,
      (dats m 0 c).before_out_kept 3 rfl ⟨k + 1, hk⟩ (Nat.succ_ne_zero k)
        (sums_kept _ (by have : k + 1 < 22 := hk; show k + 1 - 1 ≠ 21; omega)) sums_live (fun _ _ => rfl), dats_after]
    rfl

/-! ## The body at every point -/

theorem row (t : Fin cfg0.N) : defs₀ (F := F) .tc cfg0.body (cfg0.bodyArgs t (cfg0.slots t)) = bodyAt0 t := by
  unfold defs₀; rfl

/-- The slab block and the sums are left unnamed. -/
def unnamed : Fin 4 → Bool
  | 0 => false | 1 => false | 2 => true | 3 => true

set_option maxHeartbeats 2000000 in
theorem frame_obligation (c : Dev nD) : BodyObligationLoose (dats m 0 c) (defs₀ (F := F)) 𝒱₀ () Set.univ unnamed := fun t => by
  rw [bigSep_W0, bigSep_W0, row]
  simp only [unnamed]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_pixels m c t d0, before_weights m c t d1]
  iapply (conv_body (F := F) c (grid0.coords t) (one_branch t) _ _ _ _ _ _ _ _ (block m c t d0) (weights m c t) d3 Set.univ _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  have hx : win0_0.cut (grid0.coords t) (zeroed m c t) = pixels m c t := win0_0.cut_fill _ _ _
  isplitl [H0]
  · iexists d0
    change _ ⊢ owns (c : Thread nD τ) (win0_0.stage (cfg0.slots t 0)) fullShare (win0_0.fill (grid0.coords t) d0 (win0_0.cut (grid0.coords t) (zeroed m c t)))
    rw [hx]; exact .rfl
  isplitl [H1]; · iexact H1
  isplitl [H2]; · iexists _; iexact H2
  iexists _; iexact H3

/-- The body's results inside the arrays do not depend on what lies past the end of the image. -/
structure Settled : Prop where
  slab : ∀ (c : Dev nD) (t : Fin cfg0.N) (d : Vec F S128x4096 .f32),
    win0_2.cut (grid0.coords t) (slabOf (block m c t d) (weights m c t)) = win0_2.cut (grid0.coords t) (slabOf (zeroed m c t) (weights m c t))
  sums : ∀ (c : Dev nD) (t : Fin cfg0.N) (d : Vec F S128x4096 .f32),
    k0_pay6 (grid0.coords t) (block m c t d) (weights m c t) = k0_pay6 (grid0.coords t) (zeroed m c t) (weights m c t)

theorem live_3 : ∀ i : grid0.Coords, idle0 3 i = false := sums_live

set_option maxHeartbeats 2000000 in
theorem value_obligation (hs : Settled m) (c : Dev nD) : BodyObligationLoose (dats m 0 c) (defs₀ (F := F)) 𝒱₀ () Set.univ := fun t => by
  rw [bigSep_W0, bigSep_W0, row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_pixels m c t d0, before_weights m c t d1]
  iapply (conv_body (F := F) c (grid0.coords t) (one_branch t) _ _ _ _ _ _ _ _ (block m c t d0) (weights m c t) ((dats m 0 c).before (3 : Fin 4) t d3) Set.univ _)
  isplitl [H0]; · iexact H0
  isplitl [H1]; · iexact H1
  isplitl [H2]; · iexists _; iexact H2
  isplitl [H3]; · iexact H3
  rw [hs.sums c t d0, sums_step m c t d3]
  iintro ⟨H0, H1, H2, H3⟩
  isplitl [HΦ]; · iexact HΦ
  isplitl [Ho]; · iexact Ho
  have hx : win0_0.cut (grid0.coords t) (zeroed m c t) = pixels m c t := win0_0.cut_fill _ _ _
  isplitl [H0]
  · iexists d0
    change _ ⊢ owns (c : Thread nD τ) (win0_0.stage (cfg0.slots t 0)) fullShare (win0_0.fill (grid0.coords t) d0 (win0_0.cut (grid0.coords t) (zeroed m c t)))
    rw [hx]; exact .rfl
  isplitl [H1]; · iexact H1
  isplitl [H2]
  · iexists slabOf (block m c t d0) (weights m c t)
    change _ ⊢ owns (c : Thread nD τ) (win0_2.stage (cfg0.slots t 2)) fullShare (win0_2.fill (grid0.coords t) (slabOf (block m c t d0) (weights m c t))
      (win0_2.cut (grid0.coords t) (slabOf (zeroed m c t) (weights m c t))))
    rw [← hs.slab c t d0, win0_2.fill_cut]; try exact .rfl
  rw [show idle0 3 (grid0.coords t) = false from live_3 _]
  iexact H3

/-! ## The run -/

variable (ρ : Dev nD → PrngReg)

theorem host : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub rfl main_chain

set_option backward.isDefEq.respectTransparency.types false in
theorem run_frame :
    θ_run defs (onTc (τ := τ) (main (F := F))) ⟨m, fun _ => 0, ρ⟩
      (fun r => Pipeline.RDat.FramePost (cfgs 0) (fun c => (dats m 0 c).toRForget unnamed) (V m) r ∧ r.2.sem = fun _ => 0) :=
  Pipeline.θ_run_frame_forget (Q' := _) cfgs (dats m) (0 : Fin 1) launch0 defs₀ 𝒱₀ unnamed m ρ main
    (hbody := frame_obligation m) (hshare := fun c => (dats m 0 c).share_full fun _ => rfl) (howed := fun _ _ => rfl)
    (V := V m) (hmain := host m) (hA := dats_A m) (hΦ := fun _ _ => rfl)

set_option backward.isDefEq.respectTransparency.types false in
theorem run_value (hs : Settled m) :
    θ_run defs (onTc (τ := τ) (main (F := F))) ⟨m, fun _ => 0, ρ⟩
      (fun r => Pipeline.FramePost cfgs (dats m) 0 (V m) r ∧ r.2.sem = fun _ => 0) :=
  Pipeline.θ_run_frame (Q' := _) cfgs (dats m) (0 : Fin 1) launch0 defs₀ 𝒱₀ m ρ main
    (hbody := value_obligation m hs) (hshare := fun c => (dats m 0 c).share_full fun _ => rfl) (howed := fun _ _ => rfl)
    (V := V m) (hmain := host m) (hA := dats_A m) (hΦ := fun _ _ => rfl)

/-- The arguments are as they were. -/
theorem V_image (c : Dev nD) : V m c main_arg0 = m ((c : Thread nD τ).loc main_arg0) := by
  unfold V; after_results
theorem V_weights (c : Dev nD) : V m c main_arg1 = m ((c : Thread nD τ).loc main_arg1) := by
  unfold V; after_results
theorem V_pixels (c : Dev nD) : V m c main_v0 = shapeCast S128x90000 (m ((c : Thread nD τ).loc main_arg0)) shapeCasts_S1x128x300x300_S128x90000 := by
  unfold V; after_results; rfl

/-- Over any numbers the program runs to its end, leaves its arguments as they were and every semaphore at zero. -/
theorem frame :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r (h : _ ∧ _) => ⟨fun c =>
    ⟨((h.1 c).2 main_arg0 (Pipeline.mem_restRefs_of main_arg0 (by decide) (by decide))).trans (V_image m c),
      (Pipeline.RDat.FramePost.arr_in h.1 c (1 : Fin 4) rfl).trans ((dats_A m c 1).trans (V_weights m c))⟩, h.2⟩) (run_frame m ρ)

end Cert.Proof.Conv

end
-- ==== Proof.FirstValue.lean ====
/-
  Over the extended reals, what the first convolution leaves: a pixel's products with the weights depend on that pixel's
  channels only, so what lies past the end of the image reaches nothing that is kept, and the sums of the blocks are the sums
  over all pixels.
-/
module

public import proofs.«01_k».proof.Proof.FirstRun
public import Idealize.ShloMosaic.Lib.Pointwise
public import Idealize.ShloMosaic.Lib.WordCmp
public import Idealize.ShloMosaic.Lib.Pipeline.ValueKit.Geometry
public import Idealize.ShloMosaic.Lib.Pipeline.ValueKit.Acc
public import Idealize.ShloMosaic.PureOps.Ideal.Laws

@[expose] public section

noncomputable section

namespace Cert.Proof.Conv

open Cert.FirstIdeal Cert.FirstIdeal.Gen

open Idealize.ShloMosaic Idealize.ShloMosaic.TcCoe Idealize.ShloMosaic.Pipeline Idealize.SL.Sem

/-- A pixel's product with one output channel's weights. -/
def product {n : ℕ} (x : (⟨2, ![128, n]⟩ : Shape).Idx → EReal) (w : (⟨2, ![64, 128]⟩ : Shape).Idx → EReal) (p : Fin n) (o : Fin 64) : EReal :=
  ∑ k : Fin 128, x (ix2 k p) * w (ix2 o k)

theorem product_at (x : Vec Ideal S128x4096 .f32) (w : Vec Ideal S64x128 .f32) (p : Fin 4096) (o : Fin 64) :
    k0_pay2 x w (ix2 p o) = product x w p o := by
  unfold k0_pay2 product
  pointwise

theorem pay4_at (x : Vec Ideal S128x4096 .f32) (w : Vec Ideal S64x128 .f32) (h : Fin 1) (p : Fin 4096) (l : Fin 128) :
    k0_pay4 x w (ix3 h p l) = if h : l.val < 32 then product x w p ⟨l.val, by omega⟩ else 0 := by
  unfold k0_pay4 k0_pay3
  pointwise [product_at]

theorem pay5_at (x : Vec Ideal S128x4096 .f32) (w : Vec Ideal S64x128 .f32) (h : Fin 1) (p : Fin 4096) (l : Fin 128) :
    k0_pay5 x w (ix3 h p l) = if h : l.val < 32 then product x w p ⟨32 + l.val, by omega⟩ else 0 := by
  unfold k0_pay5 k0_pay3
  pointwise [product_at]

/-- A row's product where the row is inside the image, and zero past its end. -/
def inside (i : grid0.Coords) (x : Vec Ideal S128x4096 .f32) (w : Vec Ideal S64x128 .f32) (p : Fin 4096) (o : Fin 64) : EReal :=
  if (i 0).val * 4096 + p.val < 90000 then product x w p o else 0

/-- The kernel's comparison of a row's number with the number of pixels. -/
theorem mask_at (i p : ℕ) (hi : i < 22) (hp : p < 4096) :
    IntOp.cmpi .slt (IntOp.addi (BitVec.ofNat 32 p) (Scalar.muli (BitVec.ofNat 32 i) 4096#32)) 90000#32
      = BitVec.ofBool (decide (i * 4096 + p < 90000)) := by
  have e : IntOp.addi (BitVec.ofNat 32 p) (Scalar.muli (BitVec.ofNat 32 i) 4096#32) = BitVec.ofNat 32 (i * 4096 + p) := by
    show BitVec.ofNat 32 p + BitVec.ofNat 32 i * BitVec.ofNat 32 4096 = _
    rw [BitVec.add_comm, ← BitVec.ofNat_mul, ← BitVec.ofNat_add]
  rw [e]
  exact WordCmp.cmpi_slt_ofNat (by omega) (by decide)

theorem select_at (q : Prop) [Decidable q] (a b : EReal) : Scalar.select (BitVec.ofBool (decide q)) a b = if q then a else b := by
  unfold Scalar.select
  by_cases h : q
  · rw [if_pos h, decide_eq_true h]; rfl
  · rw [if_neg h, decide_eq_false h]; rfl

theorem pay6_at (i : grid0.Coords) (x : Vec Ideal S128x4096 .f32) (w : Vec Ideal S64x128 .f32) (b : Fin 2) (o : Fin 64) :
    k0_pay6 i x w (ix2 b o) = if b.val < 1 then ∑ p : Fin 4096, inside i x w p o else ∑ p : Fin 4096, inside i x w p o * inside i x w p o := by
  have hi : (i 0).val < 22 := (i 0).isLt
  unfold k0_pay6 inside
  pointwise [product_at]
  split
  · refine Finset.sum_congr rfl fun p _ => ?_
    rw [mask_at _ _ hi p.isLt, select_at]
  · refine Finset.sum_congr rfl fun p _ => ?_
    rw [mask_at _ _ hi p.isLt, select_at, select_at]
    split <;> simp

/-! ## The blocks inside the image -/

theorem point_at : ∀ t : Fin cfg0.N, (grid0.coords t 0).val = t.val := by decide +kernel
theorem idx_0 : ∀ t : Fin cfg0.N, win0_0.index t = ![0, t.val] := by decide +kernel
theorem idx_1 : ∀ t : Fin cfg0.N, win0_1.index t = ![0, 0] := by decide +kernel
theorem idx_2 : ∀ t : Fin cfg0.N, win0_2.index t = ![0, t.val, 0] := by decide +kernel
theorem idx_3 : ∀ t : Fin cfg0.N, win0_3.index t = ![0, 0] := by decide +kernel
theorem size_00 : ∀ t : Fin cfg0.N, win0_0.xsize (grid0.coords t) 0 = 128 := by decide +kernel
theorem size_01 : ∀ t : Fin cfg0.N, win0_0.xsize (grid0.coords t) 1 = min 4096 (90000 - t.val * 4096) := by decide +kernel
theorem size_20 : ∀ t : Fin cfg0.N, win0_2.xsize (grid0.coords t) 0 = 2 := by decide +kernel
theorem size_21 : ∀ t : Fin cfg0.N, win0_2.xsize (grid0.coords t) 1 = min 4096 (90000 - t.val * 4096) := by decide +kernel
theorem size_22 : ∀ t : Fin cfg0.N, win0_2.xsize (grid0.coords t) 2 = 128 := by decide +kernel

section Blocks

variable {F : FTy → Type} [FloatOps F] (m : (ℓ : Loc nD τ sig) → Buf (Elt F) ℓ)

/-- A place of a block inside the image holds that pixel. -/
theorem block_at (c : Dev nD) (t : Fin cfg0.N) (d : Vec F S128x4096 .f32) (k : Fin 128) (p : Fin 4096) (h : t.val * 4096 + p.val < 90000) :
    block m c t d (ix2 k p) = V m c main_v0 (ix2 k ⟨t.val * 4096 + p.val, h⟩) := by
  have hm : win0_0.moved (grid0.coords t) (ix2 k p) = true := (win0_0.moved_iff _ _).mpr fun a => by
    fin_cases a
    · exact (size_00 t).symm ▸ k.isLt
    · refine lt_of_lt_of_eq ?_ (size_01 t).symm
      show p.val < _
      omega
  unfold block Pipeline.Window.fill
  rw [dif_pos hm]
  exact congrArg (V m c main_v0) (by blk_ext [idx_0 t])

theorem weights_eq (c : Dev nD) (t : Fin cfg0.N) : weights m c t = V m c main_arg1 := by
  funext y
  have hm : win0_1.moved (grid0.coords t) y = true := (win0_1.moved_iff _ _).mpr fun a => by rw [whole_1 t a]; exact (y a).isLt
  unfold weights Pipeline.Window.fill
  rw [dif_pos hm]
  exact congrArg (V m c main_arg1) (by blk_ext [idx_1 t])

end Blocks

variable (m : (ℓ : Loc nD τ sig) → Buf (Elt Ideal) ℓ)

theorem block_product (c : Dev nD) (t : Fin cfg0.N) (d : Vec Ideal S128x4096 .f32) (w : Vec Ideal S64x128 .f32) (p : Fin 4096) (o : Fin 64)
    (h : t.val * 4096 + p.val < 90000) : product (block m c t d) w p o = product (V m c main_v0) w ⟨t.val * 4096 + p.val, h⟩ o :=
  Finset.sum_congr rfl fun k _ => congrArg (· * w (ix2 o k)) (block_at m c t d k p h)

/-- A pixel's product, zero past the end of the image. -/
def padded (x : (⟨2, ![128, 90000]⟩ : Shape).Idx → EReal) (w : (⟨2, ![64, 128]⟩ : Shape).Idx → EReal) (o : Fin 64) (n : Fin (90000 + 112)) : EReal :=
  if h : n.val < 90000 then product x w ⟨n.val, h⟩ o else 0

theorem inside_block (c : Dev nD) (t : Fin cfg0.N) (d : Vec Ideal S128x4096 .f32) (w : Vec Ideal S64x128 .f32) (p : Fin 4096) (o : Fin 64) :
    inside (grid0.coords t) (block m c t d) w p o
      = padded (V m c main_v0) w o ⟨t.val * 4096 + p.val, by have : t.val < 22 := t.isLt; omega⟩ := by
  unfold inside padded
  rw [point_at t]
  by_cases h : t.val * 4096 + p.val < 90000
  · rw [if_pos h, dif_pos h, block_product m c t d w p o h]
  · rw [if_neg h, dif_neg h]

/-- A place of the slab block inside the array. -/
theorem slab_block (c : Dev nD) (t : Fin cfg0.N) (d : Vec Ideal S128x4096 .f32) (w : Vec Ideal S64x128 .f32) (a : Fin 2) (p : Fin 4096) (l : Fin 128)
    (h : t.val * 4096 + p.val < 90000) :
    slabOf (block m c t d) w (ix3 a p l)
      = if h' : l.val < 32 then product (V m c main_v0) w ⟨t.val * 4096 + p.val, h⟩ ⟨a.val * 32 + l.val, by omega⟩ else 0 := by
  unfold slabOf
  show (if a.val < 1 then k0_pay4 (block m c t d) w (ix3 0 p l) else k0_pay5 (block m c t d) w (ix3 0 p l)) = _
  rw [pay4_at, pay5_at]
  by_cases h' : l.val < 32
  · rw [dif_pos h', dif_pos h', dif_pos h', block_product m c t d w p _ h, block_product m c t d w p _ h]
    split
    · exact congrArg (product (V m c main_v0) w _) (Fin.ext (by show l.val = a.val * 32 + l.val; omega))
    · exact congrArg (product (V m c main_v0) w _) (Fin.ext (by show 32 + l.val = a.val * 32 + l.val; omega))
  · rw [dif_neg h', dif_neg h', dif_neg h', ite_self]

/-- What lies past the end of the image reaches nothing that is kept. -/
theorem settled : Settled m where
  slab c t d := by
    funext y
    have h0 : (y 0).val < 2 := lt_of_lt_of_eq (y 0).isLt (size_20 t)
    have h1 : (y 1).val < min 4096 (90000 - t.val * 4096) := lt_of_lt_of_eq (y 1).isLt (size_21 t)
    have h2 : (y 2).val < 128 := lt_of_lt_of_eq (y 2).isLt (size_22 t)
    have e : win0_2.xinj (grid0.coords t) y = ix3 (⟨(y 0).val, h0⟩ : Fin 2) (⟨(y 1).val, by omega⟩ : Fin 4096) (⟨(y 2).val, h2⟩ : Fin 128) := by
      funext a; fin_cases a <;> rfl
    show slabOf (block m c t d) (weights m c t) (win0_2.xinj (grid0.coords t) y) = slabOf (zeroed m c t) (weights m c t) (win0_2.xinj (grid0.coords t) y)
    unfold zeroed
    rw [e, slab_block m c t _ _ _ _ _ (by dsimp only; omega), slab_block m c t _ _ _ _ _ (by dsimp only; omega)]
  sums c t d := by
    funext j
    obtain ⟨b, o, rfl⟩ : ∃ b o, j = ix2 b o := ⟨_, _, eq_ix2 j⟩
    unfold zeroed
    simp only [pay6_at, inside_block]

/-! ## The arrays after the run -/

/-- The slab: both heads' 32 channels of every pixel, beside zeros. -/
def slab (x : (⟨2, ![128, 90000]⟩ : Shape).Idx → EReal) (w : (⟨2, ![64, 128]⟩ : Shape).Idx → EReal) : (⟨3, ![2, 90000, 128]⟩ : Shape).Idx → EReal := fun j =>
  if h : (j 2).val < 32 then product x w (j 1) ⟨(j 0).val * 32 + (j 2).val, by have : (j 0).val < 2 := (j 0).isLt; omega⟩ else 0

/-- The sums over all pixels, in the first row, and those of the squares, in the second. -/
def totals (x : (⟨2, ![128, 90000]⟩ : Shape).Idx → EReal) (w : (⟨2, ![64, 128]⟩ : Shape).Idx → EReal) : (⟨2, ![2, 64]⟩ : Shape).Idx → EReal := fun j =>
  if (j 0).val < 1 then ∑ n : Fin 90000, product x w n (j 1) else ∑ n : Fin 90000, product x w n (j 1) * product x w n (j 1)

theorem array_slab (c : Dev nD) : (dats m 0 c).arrAt (2 : Fin 4) cfg0.N = slab (V m c main_v0) (V m c main_arg1) := by
  refine (dats m 0 c).arrAt_eq_of_covers (2 : Fin 4) _ (by decide +kernel) fun t hf y => ?_
  have h0 : (y 0).val < 2 := lt_of_lt_of_eq (y 0).isLt (size_20 t)
  have h1 : (y 1).val < min 4096 (90000 - t.val * 4096) := lt_of_lt_of_eq (y 1).isLt (size_21 t)
  have h2 : (y 2).val < 128 := lt_of_lt_of_eq (y 2).isLt (size_22 t)
  have e : win0_2.xinj (grid0.coords t) y = ix3 (⟨(y 0).val, h0⟩ : Fin 2) (⟨(y 1).val, by omega⟩ : Fin 4096) (⟨(y 2).val, h2⟩ : Fin 128) := by
    funext a; fin_cases a <;> rfl
  have e' : (win0_2.blk t).view.emb y = ix3 (⟨(y 0).val, h0⟩ : Fin 2) (⟨t.val * 4096 + (y 1).val, by omega⟩ : Fin 90000) (⟨(y 2).val, h2⟩ : Fin 128) := by
    blk_ext [idx_2 t]
  show slabOf (zeroed m c t) (weights m c t) (win0_2.xinj (grid0.coords t) y) = slab (V m c main_v0) (V m c main_arg1) ((win0_2.blk t).view.emb y)
  rw [e, e', weights_eq]
  unfold zeroed
  rw [slab_block m c t _ _ _ _ _ (by dsimp only; omega)]
  rfl

theorem sums_at (c : Dev nD) (j : S2x64.Idx) : ∀ (k : ℕ) (h : k < cfg0.N),
    sums m c k h j = ∑ t : Fin (k + 1), k0_pay6 (grid0.coords ⟨t.val, Nat.lt_of_lt_of_le t.isLt h⟩) (zeroed m c ⟨t.val, Nat.lt_of_lt_of_le t.isLt h⟩) (weights m c ⟨t.val, Nat.lt_of_lt_of_le t.isLt h⟩) j
  | 0, h => by rw [Fin.sum_univ_one]; rfl
  | k + 1, h => by
    rw [Fin.sum_univ_castSucc]
    have step : sums m c (k + 1) h j
        = sums m c k (Nat.lt_of_succ_lt h) j + k0_pay6 (grid0.coords ⟨k + 1, h⟩) (zeroed m c ⟨k + 1, h⟩) (weights m c ⟨k + 1, h⟩) j := by
      show k0_pay1 _ _ j = _
      unfold k0_pay1
      pointwise
    rw [step, sums_at c j k]
    rfl

/-- The blocks' rows, past the end included, are all the pixels. -/
theorem sum_padded (g : Fin (90000 + 112) → EReal) (f : Fin 90000 → EReal) (h : ∀ n, g n = if h : n.val < 90000 then f ⟨n.val, h⟩ else 0) :
    ∑ t : Fin 22, ∑ p : Fin 4096, g ⟨t.val * 4096 + p.val, by omega⟩ = ∑ n : Fin 90000, f n := by
  refine (Fin.sum_mul_add_fin (S := 22) (n := 4096) (L := 90000 + 112) g).trans ?_
  rw [Fin.sum_univ_add]
  have e : ∑ i : Fin 112, g (Fin.natAdd 90000 i) = 0 := Finset.sum_eq_zero fun i _ => by
    rw [h]; exact dif_neg (by show ¬ (90000 + i.val < 90000); omega)
  rw [e, add_zero]
  refine Finset.sum_congr rfl fun n _ => ?_
  rw [h]; exact dif_pos n.isLt

theorem sums_eq (c : Dev nD) (h : 21 < cfg0.N) : sums m c 21 h = totals (V m c main_v0) (V m c main_arg1) := by
  funext j
  obtain ⟨b, o, rfl⟩ : ∃ b o, j = ix2 b o := ⟨_, _, eq_ix2 j⟩
  rw [sums_at]
  unfold zeroed
  simp only [weights_eq, pay6_at, inside_block]
  unfold totals
  dsimp only
  show _ = if b.val < 1 then _ else _
  split
  · exact sum_padded (padded (V m c main_v0) (V m c main_arg1) o) (fun n => product (V m c main_v0) (V m c main_arg1) n o) fun n => rfl
  · refine sum_padded (fun n => padded (V m c main_v0) (V m c main_arg1) o n * padded (V m c main_v0) (V m c main_arg1) o n)
      (fun n => product (V m c main_v0) (V m c main_arg1) n o * product (V m c main_v0) (V m c main_arg1) n o) fun n => ?_
    unfold padded
    split <;> simp

theorem array_sums (c : Dev nD) : (dats m 0 c).arrAt (3 : Fin 4) cfg0.N = totals (V m c main_v0) (V m c main_arg1) :=
  (dats m 0 c).arrAt_eq_of_after_last (3 : Fin 4) ⟨21, by decide⟩ (by decide +kernel) _ fun j => by
    rw [dats_after]
    exact congrFun (sums_eq m c (by decide)) _

/-- The run's slab and sums, and its arguments as they were. -/
theorem value (ρ : Dev nD → PrngReg) :
    θ_run defs (onTc (τ := τ) (main (F := Ideal))) ⟨m, fun _ => 0, ρ⟩ fun r => ∀ c : Dev nD,
      r.2.mem ((c.tc : Thread nD τ).loc main_v1_0) = slab (V m c main_v0) (V m c main_arg1)
        ∧ r.2.mem ((c.tc : Thread nD τ).loc main_v1_1) = totals (V m c main_v0) (V m c main_arg1)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r (h : _ ∧ _) c =>
    ⟨((h.1 c).1 (2 : Fin 4)).trans (array_slab m c), ((h.1 c).1 (3 : Fin 4)).trans (array_sums m c),
      ((h.1 c).2 main_arg0 (Pipeline.mem_restRefs_of main_arg0 (by decide) (by decide))).trans (V_image m c),
      ((h.1 c).1 (1 : Fin 4)).trans (((dats m 0 c).arrAt_in (1 : Fin 4) rfl _).trans ((dats_A m c 1).trans (V_weights m c)))⟩)
    (run_value m ρ (settled m))

end Cert.Proof.Conv

end
-- ==== Proof.FirstReference.lean ====
/-
  What the first convolution's reference computes: the same slab and the same sums, written with the image's rows and columns.
-/
module

public import proofs.«01_k».proof.Proof.FirstValue
public import proofs.«01_k».proof.Proof.Gen.FirstReferenceIdeal.Run
public import Idealize.ShloMosaic.Lib.KernelVsHost

@[expose] public section

noncomputable section

namespace Cert.Proof.Conv

open Cert.FirstReferenceIdeal Cert.FirstReferenceIdeal.Gen

open Idealize.ShloMosaic Idealize.ShloMosaic.StableHlo

/-- The convolution, channel by channel over the image. -/
def image (w : FVec Ideal S64x128 .f32) (x : FVec Ideal S1x128x300x300 .f32) : FVec Ideal S1x64x300x300 .f32 :=
  transpose S1x64x300x300 [1, 0, 2, 3] (Host.dotGeneral dot_S64x128_S1x128x300x300_S64x1x300x300_1_1_0_023_n_n none w x) transposes_S64x1x300x300_S1x64x300x300_1_0_2_3

/-- The image as one row of pixels per channel. -/
def rows (x : Vec Ideal S1x128x300x300 .f32) : (⟨2, ![128, 90000]⟩ : Shape).Idx → EReal := fun j =>
  x (ix4 0 (j 0) ⟨(j 1).val / 300, by have : (j 1).val < 90000 := (j 1).isLt; omega⟩ ⟨(j 1).val % 300, by omega⟩)

theorem image_at (w : Vec Ideal S64x128 .f32) (x : Vec Ideal S1x128x300x300 .f32) (a : Fin 1) (o : Fin 64) (r s : Fin 300) :
    image w x (ix4 a o r s) = product (rows x) w ⟨r.val * 300 + s.val, by omega⟩ o := by
  have h0 (h : (r.val * 300 + s.val) / 300 < 300) : (⟨(r.val * 300 + s.val) / 300, h⟩ : Fin 300) = r := Fin.ext (by dsimp only; omega)
  have h1 (h : (r.val * 300 + s.val) % 300 < 300) : (⟨(r.val * 300 + s.val) % 300, h⟩ : Fin 300) = s := Fin.ext (by dsimp only; omega)
  unfold image product rows
  pointwise [h0, h1]
  exact Finset.sum_congr rfl fun k _ => mul_comm _ _

theorem reference_slab (w : Vec Ideal S64x128 .f32) (x : Vec Ideal S1x128x300x300 .f32) :
    pad S2x90000x128 ![0, 0, 0] ![0, 0, 96] ![0, 0, 0] (transpose S2x90000x32 [0, 2, 1] (shapeCast S2x32x90000 (image w x) shapeCasts_S1x64x300x300_S2x32x90000) transposes_S2x32x90000_S2x90000x32_0_2_1)
      (sitofp .f32 (constantI S_ 32 0#32)) pads_S2x90000x32_S2x90000x128_000_000_0960 h_S_ = slab (rows x) w := by
  funext j
  obtain ⟨a, p, l, rfl⟩ : ∃ a p l, j = ix3 a p l := ⟨_, _, _, eq_ix3 j⟩
  have hp (h : p.val / 300 * 300 + p.val % 300 < 90000) : (⟨p.val / 300 * 300 + p.val % 300, h⟩ : Fin 90000) = p := Fin.ext (by dsimp only; omega)
  have hz : (Scalar.sitofp .f32 0#32 : Ideal .f32) = 0 := sitofp_zero
  unfold slab
  pointwise [image_at, hp]
  exact dite_congr rfl (fun _ => rfl) fun _ => hz

/-- A channel's sum over the whole image. -/
theorem channel_sum (v : FVec Ideal S1x64x300x300 .f32) (o : Fin 64) :
    Ideal.hostReduceAdd reducesTo_S1x64x300x300_S64_d0_2_3 v 0 (ix1 o) = ∑ r : Fin 300, ∑ s : Fin 300, v (ix4 0 o r s) := by
  unfold Ideal.hostReduceAdd
  rw [zero_add, ← Fintype.sum_prod_type']
  have hd (i : S1x64x300x300.Idx) : (reducesTo_S1x64x300x300_S64_d0_2_3.drop i 0).val = (i 1).val := rfl
  refine Finset.sum_nbij' (fun i => ((i 2, i 3) : Fin 300 × Fin 300)) (fun q => ix4 0 o q.1 q.2) (fun i _ => Finset.mem_univ _) (fun q _ => ?_)
    (fun i hi => ?_) (fun q _ => rfl) (fun i hi => ?_)
  · refine Finset.mem_filter.mpr ⟨Finset.mem_univ _, funext fun b => ?_⟩
    fin_cases b; exact Fin.ext (hd _)
  all_goals
    have hi := congrFun (Finset.mem_filter.mp hi).2 0
    have e : i = ix4 0 o (i 2) (i 3) := by
      funext a; fin_cases a
      · exact Fin.ext (by have : (i 0).val < 1 := (i 0).isLt; show (i 0).val = 0; omega)
      · exact Fin.ext ((hd i).symm.trans (congrArg Fin.val hi))
      · rfl
      · rfl
  · exact e.symm
  · exact congrArg v e

theorem reference_sums (w : Vec Ideal S64x128 .f32) (x : Vec Ideal S1x128x300x300 .f32) :
    concatenate S2x64 0 [⟨S1x64, (broadcastInDim S1x64 ![1] bcast_S64_S1x64_1 (Host.reduceAdd (image w x) (constant S_ .f32 0x00000000#32) reducesTo_S1x64x300x300_S64_d0_2_3 h_S_))⟩,
      ⟨S1x64, (broadcastInDim S1x64 ![1] bcast_S64_S1x64_1 (Host.reduceAdd (mulf (image w x) (image w x)) (constant S_ .f32 0x00000000#32) reducesTo_S1x64x300x300_S64_d0_2_3 h_S_))⟩]
      concatenates_S1x64_S1x64_S2x64_d0 = totals (rows x) w := by
  funext j
  obtain ⟨b, o, rfl⟩ : ∃ b o, j = ix2 b o := ⟨_, _, eq_ix2 j⟩
  unfold totals
  pointwise [channel_sum, image_at]
  split
  · exact Fin.sum_mul_add_fin (S := 300) (n := 300) (L := 90000) (fun n => product (rows x) w n o)
  · exact Fin.sum_mul_add_fin (S := 300) (n := 300) (L := 90000) (fun n => product (rows x) w n o * product (rows x) w n o)

theorem rows_eq (x : Vec Ideal S1x128x300x300 .f32) : shapeCast Cert.FirstIdeal.S128x90000 x Cert.FirstIdeal.Gen.shapeCasts_S1x128x300x300_S128x90000 = rows x := by
  funext j
  obtain ⟨k, p, rfl⟩ : ∃ k p, j = ix2 k p := ⟨_, _, eq_ix2 j⟩
  unfold rows
  pointwise

end Cert.Proof.Conv

end
-- ==== Proof.FirstSame.lean ====
/-
  The first convolution's program over machine words and the one over real numbers are the same text, written out twice: here the
  two are shown equal, so what is proved of the one for every number type holds of the other.
-/
module

public import proofs.«01_k».proof.Defs
public import proofs.«01_k».proof.Proof.Gen.First
public import proofs.«01_k».proof.Proof.Gen.FirstIdeal

@[expose] public section

noncomputable section

namespace Cert.Proof.Conv.Same

open Idealize.ShloMosaic Idealize.SL.Sem

variable {F : FTy → Type} [FloatOps F]

set_option maxHeartbeats 8000000 in
/-- The body and the labels' table. -/
theorem bodies_eq : Cert.First.defs₀ (F := F) = Cert.FirstIdeal.defs₀ (F := F) := by
  funext p l a
  match p, l, a with
  | .scVector _ _, 0, _ => rfl
  | .scScalar _, 0, _ => rfl
  | .tc, 0, (_, _) => rfl

set_option maxHeartbeats 8000000 in
/-- The body as the launch calls it. -/
theorem defs_eq : Cert.First.defs (F := F) = Cert.FirstIdeal.defs (F := F) :=
  congrArg (fun d => Pipeline.defs Cert.FirstIdeal.pcfgs d) (bodies_eq (F := F))

set_option maxHeartbeats 8000000 in
/-- The host program. -/
theorem main_eq : Cert.First.main (F := F) = Cert.FirstIdeal.main (F := F) := rfl

set_option maxHeartbeats 8000000 in
/-- All threads. -/
theorem threads_eq : onTc (τ := Cert.First.τ) (Cert.First.main (F := F)) = onTc (τ := Cert.FirstIdeal.τ) (Cert.FirstIdeal.main (F := F)) :=
  congrArg (fun p => onTc (τ := Cert.FirstIdeal.τ) p) (main_eq (F := F))

end Cert.Proof.Conv.Same

end
-- ==== Proof.LastRun.lean ====
/-
  The second batch normalisation's whole run. Its blocks of pixels are 4096 long and the last one passes the end of the products:
  what the staging buffer holds past the end is not known. Over any numbers the run ends with the arguments as they were; where
  the body's results inside the array do not depend on what lies past the end, it ends with the image named too.
-/
module

public import proofs.«01_k».proof.Proof.Gen.LastIdeal.Launch
public import proofs.«01_k».proof.Proof.Gen.LastIdeal.Points
public import proofs.«01_k».proof.Proof.Gen.LastIdeal.Skeleton
public import Idealize.ShloMosaic.Lib.Pipeline.Frame
public import Idealize.ShloMosaic.Lib.Pipeline.FrameBody
public import Idealize.ShloMosaic.Lib.VecWindow
public import Idealize.ShloMosaic.Lib.Tactic

@[expose] public section

noncomputable section

namespace Cert.Proof.Norm

open Cert.LastIdeal Cert.LastIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F] [Named F]

local notation "𝕄" => MT nD τ sig Unit (Elt F) ℕ (UR sig nD τ) ℕ

/-- The kernel has no variants. -/
abbrev 𝒱₀ : Variants := Variants.none

/-- The image's block of a point, from the sums, the scale, the shift and the products. -/
def normed (s : Vec F S2x64 .f32) (g b : Vec F S1x64 .f32) (z : Vec F S4096x64 .f32) : Vec F S64x4096 .f32 := k0_pay1 s g b z

set_option maxHeartbeats 4000000 in
/-- On any whole buffers holding the products, the sums, the scale and the shift, the body fills the image's block. -/
theorem norm_body (c : Dev nD) (i : grid0.Coords)
    (a1 : Memref sig .tc .vmem S4096x64 .f32) (h1 : a1.IsWhole) (a2 : Memref sig .tc .vmem S2x64 .f32) (h2 : a2.IsWhole)
    (a3 : Memref sig .tc .vmem S1x64 .f32) (h3 : a3.IsWhole) (a4 : Memref sig .tc .vmem S1x64 .f32) (h4 : a4.IsWhole)
    (a5 : Memref sig .tc .vmem S64x4096 .f32) (h5 : a5.IsWhole)
    (z : Vec F S4096x64 .f32) (s : Vec F S2x64 .f32) (g b : Vec F S1x64 .f32) (E : Set ℕ) (Q : PUnit → sProp 𝕄) :
    iprop(owns (c : Thread nD τ) a1 fullShare z ∗ owns (c : Thread nD τ) a2 fullShare s ∗ owns (c : Thread nD τ) a3 fullShare g
        ∗ owns (c : Thread nD τ) a4 fullShare b ∗ (∃ d, owns (c : Thread nD τ) a5 fullShare d)
        ∗ (iprop(owns (c : Thread nD τ) a1 fullShare z ∗ owns (c : Thread nD τ) a2 fullShare s ∗ owns (c : Thread nD τ) a3 fullShare g
            ∗ owns (c : Thread nD τ) a4 fullShare b ∗ owns (c : Thread nD τ) a5 fullShare (normed s g b z)) -∗ Q ⟨⟩))
      ⊢ wp frame (wpE (defs₀ (F := F)) 𝒱₀ c none) E (cc0__bn2_body i a1 h1 a2 h2 a3 h3 a4 h4 a5 h5) Q := by
  simp only [cc0__bn2_body_eq_skeleton]; unfold cc0__bn2_body_skel
  unfold owns
  iintro ⟨⟨%f1, %e1, H1⟩, ⟨%f2, %e2, H2⟩, ⟨%f3, %e3, H3⟩, ⟨%f4, %e4, H4⟩, ⟨%d5, %f5, -, H5⟩, Hk⟩
  obtain rfl := h1.eq_unread e1; obtain rfl := h2.eq_unread e2; obtain rfl := h3.eq_unread e3; obtain rfl := h4.eq_unread e4
  sl_exec
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr
  swap; · iexact H5
  ipureintro
  rw [View.read_writes_full]
  show normed _ _ _ _ = _
  exact congr (congr (congr (congrArg normed ((View.readAt_full _ _ _).trans e2)) ((View.readAt_full _ _ _).trans e3)) ((View.readAt_full _ _ _).trans e4))
    ((View.readAt_full _ _ _).trans e1)

variable (m : (ℓ : Loc nD τ sig) → Buf (Elt F) ℓ)

/-- The buffers as the call finds them: the scale and the shift reshaped to one row, the rest as at the start. -/
def V (c : Dev nD) (b : Ref sig .tc) : Buf (Elt F) ((c.tc : Thread nD τ).loc b) :=
  StableHlo.after (hostOps0 (F := F)) (fun b => m (c, b)) b

/-- A point's block of products, the part inside the array. -/
def products (c : Dev nD) (t : Fin cfg0.N) : (win0_0.xblock (grid0.coords t)).Idx → Elt F .f32 :=
  (win0_0.blk t).view.read (Elt F) (V m c main_arg0)

/-- The block with anything past the end of the array. -/
def block (c : Dev nD) (t : Fin cfg0.N) (d : Vec F S4096x64 .f32) : Vec F S4096x64 .f32 :=
  win0_0.fill (grid0.coords t) d (products m c t)

/-- The block with zeros past the end of the array. -/
def zeroed (c : Dev nD) (t : Fin cfg0.N) : Vec F S4096x64 .f32 := block m c t fun _ => Scalar.ofBits .f32 0#32

/-- The sums, the scale and the shift, as their staging buffers hold them. -/
def sums (c : Dev nD) (t : Fin cfg0.N) : Vec F S2x64 .f32 :=
  win0_1.fill (grid0.coords t) (fun _ => Scalar.ofBits .f32 0#32) ((win0_1.blk t).view.read (Elt F) (V m c main_arg1))
def scale (c : Dev nD) (t : Fin cfg0.N) : Vec F S1x64 .f32 :=
  win0_2.fill (grid0.coords t) (fun _ => Scalar.ofBits .f32 0#32) ((win0_2.blk t).view.read (Elt F) (V m c main_v0))
def shift (c : Dev nD) (t : Fin cfg0.N) : Vec F S1x64 .f32 :=
  win0_3.fill (grid0.coords t) (fun _ => Scalar.ofBits .f32 0#32) ((win0_3.blk t).view.read (Elt F) (V m c main_v1))

theorem whole_1 : ∀ (t : Fin cfg0.N), ∀ a, win0_1.xsize (grid0.coords t) a = win0_1.size a := by decide +kernel
theorem whole_2 : ∀ (t : Fin cfg0.N), ∀ a, win0_2.xsize (grid0.coords t) a = win0_2.size a := by decide +kernel
theorem whole_3 : ∀ (t : Fin cfg0.N), ∀ a, win0_3.xsize (grid0.coords t) a = win0_3.size a := by decide +kernel

/-- A window whose block is moved whole leaves nothing of what the buffer held. -/
theorem fill_any (w : Pipeline.Window sig grid0) (t : Fin cfg0.N) (h : ∀ a, w.xsize (grid0.coords t) a = w.size a) {E : Type} (d d' : w.block.Idx → E) (g) :
    w.fill (grid0.coords t) d g = w.fill (grid0.coords t) d' g := by
  have hm : ∀ j, w.moved (grid0.coords t) j = true := fun j =>
    (w.moved_iff _ j).mpr fun a => by rw [h a]; exact (j a).isLt
  funext j; unfold Pipeline.Window.fill; rw [dif_pos (hm j), dif_pos (hm j)]

/-- What the staging buffers hold after the body at point `t`. -/
def leaves (c : Dev nD) (w : Fin cfg0.W) (t : Fin cfg0.N) : (cfg0.win w).block.Idx → Elt F (cfg0.win w).elt :=
  match w with
  | ⟨0, _⟩ => zeroed m c t
  | ⟨1, _⟩ => sums m c t
  | ⟨2, _⟩ => scale m c t
  | ⟨3, _⟩ => shift m c t
  | ⟨4, _⟩ => normed (sums m c t) (scale m c t) (shift m c t) (zeroed m c t)

/-- The call's data. -/
def dats (_ : Fin 1) (c : Dev nD) : Dat τ (Elt F) Unit ℕ (UR sig nD τ) ℕ cfg0 c where
  A w := V m c (Pipeline.arrRef spec0 w)
  after w t := leaves m c w t
  Φ _ := Pipeline.ΦA spec0 c
  q _ := fullShare
  owed _ := 0

theorem dats_A (c : Dev nD) (w : Fin cfg0.W) : (dats m 0 c).A w = V m c (Pipeline.arrRef spec0 w) := by dsimp only [dats]
theorem dats_after (c : Dev nD) (w : Fin cfg0.W) (t : Fin cfg0.N) : (dats m 0 c).after w t = leaves m c w t := by dsimp only [dats]

theorem before_products (c : Dev nD) (t : Fin cfg0.N) (d) : (dats m 0 c).before (0 : Fin 5) t d = block m c t d := by
  unfold Dat.before; rw [if_pos (fetch0_0 t)]; rfl

theorem before_sums (c : Dev nD) (t : Fin cfg0.N) (d) : (dats m 0 c).before (1 : Fin 5) t d = sums m c t :=
  ((dats m 0 c).before_in_eq_fetched (1 : Fin 5) rfl (fun _ => rfl) (fun _ _ _ => rfl)
    (fun t => by rw [dats_after]; exact win0_1.cut_fill (grid0.coords t) (fun _ => Scalar.ofBits .f32 0#32) _) t d).trans (fill_any win0_1 t (whole_1 t) d _ _)

theorem before_scale (c : Dev nD) (t : Fin cfg0.N) (d) : (dats m 0 c).before (2 : Fin 5) t d = scale m c t :=
  ((dats m 0 c).before_in_eq_fetched (2 : Fin 5) rfl (fun _ => rfl) (fun _ _ _ => rfl)
    (fun t => by rw [dats_after]; exact win0_2.cut_fill (grid0.coords t) (fun _ => Scalar.ofBits .f32 0#32) _) t d).trans (fill_any win0_2 t (whole_2 t) d _ _)

theorem before_shift (c : Dev nD) (t : Fin cfg0.N) (d) : (dats m 0 c).before (3 : Fin 5) t d = shift m c t :=
  ((dats m 0 c).before_in_eq_fetched (3 : Fin 5) rfl (fun _ => rfl) (fun _ _ _ => rfl)
    (fun t => by rw [dats_after]; exact win0_3.cut_fill (grid0.coords t) (fun _ => Scalar.ofBits .f32 0#32) _) t d).trans (fill_any win0_3 t (whole_3 t) d _ _)

/-! ## The body at every point -/

theorem row (t : Fin cfg0.N) : defs₀ (F := F) .tc cfg0.body (cfg0.bodyArgs t (cfg0.slots t)) = bodyAt0 t := by
  unfold defs₀; rfl

/-- The image's block is left unnamed. -/
def unnamed : Fin 5 → Bool
  | 0 => false | 1 => false | 2 => false | 3 => false | 4 => true

set_option maxHeartbeats 2000000 in
theorem frame_obligation (c : Dev nD) : BodyObligationLoose (dats m 0 c) (defs₀ (F := F)) 𝒱₀ () Set.univ unnamed := fun t => by
  rw [bigSep_W0, bigSep_W0, row]
  simp only [unnamed]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_products m c t d0, before_sums m c t d1, before_scale m c t d2, before_shift m c t d3]
  iapply (norm_body (F := F) c (grid0.coords t) _ _ _ _ _ _ _ _ _ _ (block m c t d0) (sums m c t) (scale m c t) (shift m c t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx : win0_0.cut (grid0.coords t) (zeroed m c t) = products m c t := win0_0.cut_fill _ _ _
  isplitl [H0]
  · iexists d0
    change _ ⊢ owns (c : Thread nD τ) (win0_0.stage (cfg0.slots t 0)) fullShare (win0_0.fill (grid0.coords t) d0 (win0_0.cut (grid0.coords t) (zeroed m c t)))
    rw [hx]; exact .rfl
  isplitl [H1]; · iexact H1
  isplitl [H2]; · iexact H2
  isplitl [H3]; · iexact H3
  iexists _; iexact H4

/-- The body's results inside the array do not depend on what lies past the end of the products. -/
def Settled : Prop := ∀ (c : Dev nD) (t : Fin cfg0.N) (d : Vec F S4096x64 .f32),
  win0_4.cut (grid0.coords t) (normed (sums m c t) (scale m c t) (shift m c t) (block m c t d))
    = win0_4.cut (grid0.coords t) (normed (sums m c t) (scale m c t) (shift m c t) (zeroed m c t))

set_option maxHeartbeats 2000000 in
theorem value_obligation (hs : Settled m) (c : Dev nD) : BodyObligationLoose (dats m 0 c) (defs₀ (F := F)) 𝒱₀ () Set.univ := fun t => by
  rw [bigSep_W0, bigSep_W0, row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_products m c t d0, before_sums m c t d1, before_scale m c t d2, before_shift m c t d3]
  iapply (norm_body (F := F) c (grid0.coords t) _ _ _ _ _ _ _ _ _ _ (block m c t d0) (sums m c t) (scale m c t) (shift m c t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx : win0_0.cut (grid0.coords t) (zeroed m c t) = products m c t := win0_0.cut_fill _ _ _
  isplitl [H0]
  · iexists d0
    change _ ⊢ owns (c : Thread nD τ) (win0_0.stage (cfg0.slots t 0)) fullShare (win0_0.fill (grid0.coords t) d0 (win0_0.cut (grid0.coords t) (zeroed m c t)))
    rw [hx]; exact .rfl
  isplitl [H1]; · iexact H1
  isplitl [H2]; · iexact H2
  isplitl [H3]; · iexact H3
  iexists normed (sums m c t) (scale m c t) (shift m c t) (block m c t d0)
  change _ ⊢ owns (c : Thread nD τ) (win0_4.stage (cfg0.slots t 4)) fullShare
    (win0_4.fill (grid0.coords t) (normed (sums m c t) (scale m c t) (shift m c t) (block m c t d0))
      (win0_4.cut (grid0.coords t) (normed (sums m c t) (scale m c t) (shift m c t) (zeroed m c t))))
  rw [← hs c t d0, win0_4.fill_cut]; try exact .rfl

/-! ## The run -/

variable (ρ : Dev nD → PrngReg)

theorem host : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub ⟨rfl, rfl⟩ main_chain

set_option backward.isDefEq.respectTransparency.types false in
theorem run_frame :
    θ_run defs (onTc (τ := τ) (main (F := F))) ⟨m, fun _ => 0, ρ⟩
      (fun r => Pipeline.RDat.FramePost (cfgs 0) (fun c => (dats m 0 c).toRForget unnamed) (V m) r ∧ r.2.sem = fun _ => 0) :=
  Pipeline.θ_run_frame_forget (Q' := _) cfgs (dats m) (0 : Fin 1) launch0 defs₀ 𝒱₀ unnamed m ρ main
    (hbody := frame_obligation m) (hshare := fun c => (dats m 0 c).share_full fun _ => rfl) (howed := fun _ _ => rfl)
    (V := V m) (hmain := host m) (hA := dats_A m) (hΦ := fun _ _ => rfl)

set_option backward.isDefEq.respectTransparency.types false in
theorem run_value (hs : Settled m) :
    θ_run defs (onTc (τ := τ) (main (F := F))) ⟨m, fun _ => 0, ρ⟩
      (fun r => Pipeline.FramePost cfgs (dats m) 0 (V m) r ∧ r.2.sem = fun _ => 0) :=
  Pipeline.θ_run_frame (Q' := _) cfgs (dats m) (0 : Fin 1) launch0 defs₀ 𝒱₀ m ρ main
    (hbody := value_obligation m hs) (hshare := fun c => (dats m 0 c).share_full fun _ => rfl) (howed := fun _ _ => rfl)
    (V := V m) (hmain := host m) (hA := dats_A m) (hΦ := fun _ _ => rfl)

/-- The arguments are as they were. -/
theorem V_arg0 (c : Dev nD) : V m c main_arg0 = m ((c : Thread nD τ).loc main_arg0) := by
  unfold V; after_results
theorem V_arg1 (c : Dev nD) : V m c main_arg1 = m ((c : Thread nD τ).loc main_arg1) := by
  unfold V; after_results
theorem V_arg2 (c : Dev nD) : V m c main_arg2 = m ((c : Thread nD τ).loc main_arg2) := by
  unfold V; after_results
theorem V_arg3 (c : Dev nD) : V m c main_arg3 = m ((c : Thread nD τ).loc main_arg3) := by
  unfold V; after_results
theorem V_scale (c : Dev nD) : V m c main_v0 = shapeCast S1x64 (m ((c : Thread nD τ).loc main_arg2)) shapeCasts_S64_S1x64 := by
  unfold V; after_results; rfl
theorem V_shift (c : Dev nD) : V m c main_v1 = shapeCast S1x64 (m ((c : Thread nD τ).loc main_arg3)) shapeCasts_S64_S1x64 := by
  unfold V; after_results; rfl

/-- Over any numbers the program runs to its end, leaves its arguments as they were and every semaphore at zero. -/
theorem frame :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run defs _ _).mono (fun r (h : _ ∧ _) => ⟨fun c =>
    ⟨(Pipeline.RDat.FramePost.arr_in h.1 c (0 : Fin 5) rfl).trans ((dats_A m c 0).trans (V_arg0 m c)),
      (Pipeline.RDat.FramePost.arr_in h.1 c (1 : Fin 5) rfl).trans ((dats_A m c 1).trans (V_arg1 m c)),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c)⟩, h.2⟩) (run_frame m ρ)

end Cert.Proof.Norm

end
-- ==== Proof.LastValue.lean ====
/-
  Over the extended reals, what the second batch normalisation leaves: a pixel's image depends on that pixel's products, on the
  sums, and on the scale and shift only, so what lies past the end of the products reaches nothing that is kept.
-/
module

public import proofs.«01_k».proof.Proof.LastRun
public import Idealize.ShloMosaic.Lib.Pointwise
public import Idealize.ShloMosaic.Lib.Pipeline.ValueKit.Geometry
public import Idealize.ShloMosaic.PureOps.Ideal.Laws

@[expose] public section

noncomputable section

namespace Cert.Proof.Norm

open Cert.LastIdeal Cert.LastIdeal.Gen

open Idealize.ShloMosaic Idealize.ShloMosaic.TcCoe Idealize.ShloMosaic.Pipeline Idealize.SL.Sem

/-- One over the number of pixels, as the kernel names it. -/
def inv : EReal := Named.named (F := Ideal) κ "inv_npix" (φ := .f32) 0x373A69DC#32

/-- The small number added to a variance. -/
def eps : EReal := Ideal.ofBits .f32 0x3727C5AC#32

/-- A channel's mean, its variance and its factor, from the sums and the scale. -/
def mean (s : (⟨2, ![2, 64]⟩ : Shape).Idx → EReal) (o : Fin 64) : EReal := s (ix2 0 o) * inv
def variance (s : (⟨2, ![2, 64]⟩ : Shape).Idx → EReal) (o : Fin 64) : EReal := s (ix2 1 o) * inv - mean s o * mean s o
def factor (s : (⟨2, ![2, 64]⟩ : Shape).Idx → EReal) (g : (⟨2, ![1, 64]⟩ : Shape).Idx → EReal) (o : Fin 64) : EReal :=
  g (ix2 0 o) * Ideal.rsqrt (variance s o + eps)

/-- A pixel's image from its product. -/
def pixel (s : (⟨2, ![2, 64]⟩ : Shape).Idx → EReal) (g b : (⟨2, ![1, 64]⟩ : Shape).Idx → EReal) (o : Fin 64) (z : EReal) : EReal :=
  max (z * factor s g o + (b (ix2 0 o) - mean s o * factor s g o)) 0

theorem normed_at (s : Vec Ideal S2x64 .f32) (g b : Vec Ideal S1x64 .f32) (z : Vec Ideal S4096x64 .f32) (o : Fin 64) (p : Fin 4096) :
    normed s g b z (ix2 o p) = pixel s g b o (z (ix2 p o)) := by
  unfold normed k0_pay1 pixel factor variance mean inv eps
  pointwise

/-! ## The blocks inside the products -/

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, t.val] := by decide +kernel
theorem size_00 : ∀ t : Fin cfg0.N, win0_0.xsize (grid0.coords t) 0 = min 4096 (90000 - t.val * 4096) := by decide +kernel
theorem size_01 : ∀ t : Fin cfg0.N, win0_0.xsize (grid0.coords t) 1 = 64 := by decide +kernel
theorem size_40 : ∀ t : Fin cfg0.N, win0_4.xsize (grid0.coords t) 0 = 64 := by decide +kernel
theorem size_41 : ∀ t : Fin cfg0.N, win0_4.xsize (grid0.coords t) 1 = min 4096 (90000 - t.val * 4096) := by decide +kernel

section Blocks

variable {F : FTy → Type} [FloatOps F] [Named F] (m : (ℓ : Loc nD τ sig) → Buf (Elt F) ℓ)

/-- A place of a block inside the array holds that pixel's product. -/
theorem block_at (c : Dev nD) (t : Fin cfg0.N) (d : Vec F S4096x64 .f32) (p : Fin 4096) (o : Fin 64) (h : t.val * 4096 + p.val < 90000) :
    block m c t d (ix2 p o) = V m c main_arg0 (ix2 ⟨t.val * 4096 + p.val, h⟩ o) := by
  have hm : win0_0.moved (grid0.coords t) (ix2 p o) = true := (win0_0.moved_iff _ _).mpr fun a => by
    fin_cases a
    · refine lt_of_lt_of_eq ?_ (size_00 t).symm
      show p.val < _
      omega
    · exact (size_01 t).symm ▸ o.isLt
  unfold block Pipeline.Window.fill
  rw [dif_pos hm]
  exact congrArg (V m c main_arg0) (by blk_ext [idx_0 t])

theorem sums_eq (c : Dev nD) (t : Fin cfg0.N) : sums m c t = V m c main_arg1 := by
  funext y
  have hm : win0_1.moved (grid0.coords t) y = true := (win0_1.moved_iff _ _).mpr fun a => by rw [whole_1 t a]; exact (y a).isLt
  unfold sums Pipeline.Window.fill
  rw [dif_pos hm]
  exact congrArg (V m c main_arg1) (by blk_ext [idx_1 t])

theorem scale_eq (c : Dev nD) (t : Fin cfg0.N) : scale m c t = V m c main_v0 := by
  funext y
  have hm : win0_2.moved (grid0.coords t) y = true := (win0_2.moved_iff _ _).mpr fun a => by rw [whole_2 t a]; exact (y a).isLt
  unfold scale Pipeline.Window.fill
  rw [dif_pos hm]
  exact congrArg (V m c main_v0) (by blk_ext [idx_2 t])

theorem shift_eq (c : Dev nD) (t : Fin cfg0.N) : shift m c t = V m c main_v1 := by
  funext y
  have hm : win0_3.moved (grid0.coords t) y = true := (win0_3.moved_iff _ _).mpr fun a => by rw [whole_3 t a]; exact (y a).isLt
  unfold shift Pipeline.Window.fill
  rw [dif_pos hm]
  exact congrArg (V m c main_v1) (by blk_ext [idx_3 t])

end Blocks

variable (m : (ℓ : Loc nD τ sig) → Buf (Elt Ideal) ℓ)

/-- The image: every channel of every pixel, channels first. -/
def image (z : (⟨2, ![90000, 64]⟩ : Shape).Idx → EReal) (s : (⟨2, ![2, 64]⟩ : Shape).Idx → EReal) (g b : (⟨2, ![1, 64]⟩ : Shape).Idx → EReal) :
    (⟨2, ![64, 90000]⟩ : Shape).Idx → EReal := fun j => pixel s g b (j 0) (z (ix2 (j 1) (j 0)))

theorem normed_block (c : Dev nD) (t : Fin cfg0.N) (d : Vec Ideal S4096x64 .f32) (s : Vec Ideal S2x64 .f32) (g b : Vec Ideal S1x64 .f32)
    (o : Fin 64) (p : Fin 4096) (h : t.val * 4096 + p.val < 90000) :
    normed s g b (block m c t d) (ix2 o p) = pixel s g b o (V m c main_arg0 (ix2 ⟨t.val * 4096 + p.val, h⟩ o)) :=
  (normed_at s g b _ o p).trans (congrArg (pixel s g b o) (block_at m c t d p o h))

/-- What lies past the end of the products reaches nothing that is kept. -/
theorem settled : Settled m := fun c t d => by
  funext y
  have h0 : (y 0).val < 64 := lt_of_lt_of_eq (y 0).isLt (size_40 t)
  have h1 : (y 1).val < min 4096 (90000 - t.val * 4096) := lt_of_lt_of_eq (y 1).isLt (size_41 t)
  have e : win0_4.xinj (grid0.coords t) y = ix2 (⟨(y 0).val, h0⟩ : Fin 64) (⟨(y 1).val, by omega⟩ : Fin 4096) := by
    funext a; fin_cases a <;> rfl
  show normed (sums m c t) (scale m c t) (shift m c t) (block m c t d) (win0_4.xinj (grid0.coords t) y)
    = normed (sums m c t) (scale m c t) (shift m c t) (zeroed m c t) (win0_4.xinj (grid0.coords t) y)
  unfold zeroed
  rw [e, normed_block m c t _ _ _ _ _ _ (by dsimp only; omega), normed_block m c t _ _ _ _ _ _ (by dsimp only; omega)]

/-! ## The image after the run -/

theorem array_image (c : Dev nD) :
    (dats m 0 c).arrAt (4 : Fin 5) cfg0.N = image (V m c main_arg0) (V m c main_arg1) (V m c main_v0) (V m c main_v1) := by
  refine (dats m 0 c).arrAt_eq_of_covers (4 : Fin 5) _ (by decide +kernel) fun t hf y => ?_
  have h0 : (y 0).val < 64 := lt_of_lt_of_eq (y 0).isLt (size_40 t)
  have h1 : (y 1).val < min 4096 (90000 - t.val * 4096) := lt_of_lt_of_eq (y 1).isLt (size_41 t)
  have e : win0_4.xinj (grid0.coords t) y = ix2 (⟨(y 0).val, h0⟩ : Fin 64) (⟨(y 1).val, by omega⟩ : Fin 4096) := by
    funext a; fin_cases a <;> rfl
  have e' : (win0_4.blk t).view.emb y = ix2 (⟨(y 0).val, h0⟩ : Fin 64) (⟨t.val * 4096 + (y 1).val, by omega⟩ : Fin 90000) := by
    blk_ext [idx_4 t]
  show normed (sums m c t) (scale m c t) (shift m c t) (zeroed m c t) (win0_4.xinj (grid0.coords t) y)
    = image (V m c main_arg0) (V m c main_arg1) (V m c main_v0) (V m c main_v1) ((win0_4.blk t).view.emb y)
  rw [e, e', sums_eq, scale_eq, shift_eq]
  unfold zeroed
  rw [normed_block m c t _ _ _ _ _ _ (by dsimp only; omega)]
  rfl

/-- The run's image, and its arguments as they were. -/
theorem value (ρ : Dev nD → PrngReg) :
    θ_run defs (onTc (τ := τ) (main (F := Ideal))) ⟨m, fun _ => 0, ρ⟩ fun r => ∀ c : Dev nD,
      r.2.mem ((c.tc : Thread nD τ).loc main_v2) = image (V m c main_arg0) (V m c main_arg1) (V m c main_v0) (V m c main_v1)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun r (h : _ ∧ _) c =>
    ⟨((h.1 c).1 (4 : Fin 5)).trans (array_image m c),
      ((h.1 c).1 (0 : Fin 5)).trans (((dats m 0 c).arrAt_in (0 : Fin 5) rfl _).trans ((dats_A m c 0).trans (V_arg0 m c))),
      ((h.1 c).1 (1 : Fin 5)).trans (((dats m 0 c).arrAt_in (1 : Fin 5) rfl _).trans ((dats_A m c 1).trans (V_arg1 m c))),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c)⟩)
    (run_value m ρ (settled m))

end Cert.Proof.Norm

end
-- ==== Proof.LastAlgebra.lean ====
/-
  The second batch normalisation's algebra: the mean of the squares less the square of the mean is the mean square distance to the
  mean, which is not negative, and scaling and shifting by the factors made of them is centring, dividing and scaling.
-/
module

public import Idealize.ShloMosaic.PureOps.Ideal

@[expose] public section

noncomputable section

namespace Cert.Proof.Norm

open Idealize.ShloMosaic

theorem coe_sum {n : ℕ} (x : Fin n → ℝ) : ∑ p, (x p : EReal) = ((∑ p, x p : ℝ) : EReal) := by
  have h : ∀ s : Finset (Fin n), ∑ p ∈ s, (x p : EReal) = ((∑ p ∈ s, x p : ℝ) : EReal) := fun s => by
    induction s using Finset.induction_on with
    | empty => simp
    | insert a s ha ih => rw [Finset.sum_insert ha, Finset.sum_insert ha, ih, EReal.coe_add]
  exact h _

/-- The two readings of a variance. -/
theorem variance_eq (x : Fin 90000 → ℝ) :
    (∑ p, (x p - (∑ p, x p) * 90000⁻¹) * (x p - (∑ p, x p) * 90000⁻¹)) * 90000⁻¹
      = (∑ p, x p * x p) * 90000⁻¹ - ((∑ p, x p) * 90000⁻¹) * ((∑ p, x p) * 90000⁻¹) := by
  generalize hM : (∑ p, x p) * (90000⁻¹ : ℝ) = M
  have e : ∀ p, (x p - M) * (x p - M) = x p * x p - (2 * M) * x p + M * M := fun p => by ring
  simp only [e]
  rw [Finset.sum_add_distrib, Finset.sum_sub_distrib, ← Finset.mul_sum, Finset.sum_const, Finset.card_univ, Fintype.card_fin, nsmul_eq_mul]
  have hS : ∑ p, x p = M * 90000 := by rw [← hM]; ring
  rw [hS]; push_cast; ring

theorem variance_nonneg (x : Fin 90000 → ℝ) :
    0 ≤ (∑ p, x p * x p) * 90000⁻¹ - ((∑ p, x p) * 90000⁻¹) * ((∑ p, x p) * (90000⁻¹ : ℝ)) := by
  rw [← variance_eq]
  exact mul_nonneg (Finset.sum_nonneg fun p _ => mul_self_nonneg _) (by norm_num)

/-- A product scaled and shifted is the product centred, divided by the root of the variance, scaled and shifted. -/
theorem affine (x M v e g : ℝ) (b : EReal) (hv : 0 ≤ v) (he : 0 < e) :
    (x : EReal) * ((g : EReal) * Ideal.rsqrt ((v : EReal) + (e : EReal))) + (b - (M : EReal) * ((g : EReal) * Ideal.rsqrt ((v : EReal) + (e : EReal))))
      = Ideal.div ((x : EReal) - (M : EReal)) (Ideal.sqrt ((v : EReal) + (e : EReal))) * (g : EReal) + b := by
  have hp : 0 < v + e := by linarith
  have hr : Real.sqrt (v + e) ≠ 0 := (Real.sqrt_pos.mpr hp).ne'
  rw [← EReal.coe_add, Ideal.rsqrt_coe, Ideal.sqrt_coe, if_neg (not_lt.mpr hp.le), if_neg hp.ne', if_neg (not_lt.mpr hp.le),
    Ideal.div_coe hr, ← EReal.coe_sub, ← EReal.coe_mul, ← EReal.coe_mul, ← EReal.coe_mul, ← EReal.coe_mul, ← EReal.coe_mul,
    sub_eq_add_neg, ← EReal.coe_neg, add_comm b, ← add_assoc, ← EReal.coe_add]
  congr 2
  rw [one_div]; ring

end Cert.Proof.Norm

end
-- ==== Proof.LastConsts.lean ====
/-
  The second batch normalisation's constants as extended reals.
-/
module

public import Idealize.ShloMosaic.PureOps.Ideal

@[expose] public section

noncomputable section

namespace Cert.Proof.Norm.Consts

open Idealize.ShloMosaic

/-- The number of pixels. -/
theorem pixels : Ideal.ofBits .f32 0x47AFC800#32 = ((90000 : ℝ) : EReal) := by
  simp [Ideal.ofBits, Ideal.ieee, -EReal.coe_mul]; norm_num

/-- The small number added to a variance. -/
theorem small : Ideal.ofBits .f32 0x3727C5AC#32 = (((10995116 : ℝ) * 2 ^ (-40 : ℤ) : ℝ) : EReal) := by
  simp [Ideal.ofBits, Ideal.ieee, -EReal.coe_mul]

theorem infinity : Ideal.ofBits .f32 0x7F800000#32 = ⊤ := by
  simp [Ideal.ofBits, Ideal.ieee]

theorem zero : Ideal.ofBits .f32 0x00000000#32 = 0 := by
  simp [Ideal.ofBits, Ideal.ieee]

end Cert.Proof.Norm.Consts

end
-- ==== Proof.LastReference.lean ====
/-
  What the second batch normalisation's reference computes, and that it is the kernel's image where the two rows of sums are the
  sums of the products and of their squares, and the products and the scale are finite.
-/
module

public import proofs.«01_k».proof.Proof.LastValue
public import proofs.«01_k».proof.Proof.LastAlgebra
public import proofs.«01_k».proof.Proof.LastConsts
public import proofs.«01_k».proof.Proof.Gen.LastReferenceIdeal.Run
public import proofs.«01_k».proof.Proof.Gen.Pre_sums_of_products
public import Idealize.ShloMosaic.Lib.KernelVsHost
public import Idealize.ShloMosaic.Lib.ReduceAll

@[expose] public section

noncomputable section

namespace Cert.Proof.Norm

open Cert.LastReferenceIdeal Cert.LastReferenceIdeal.Gen

open Idealize.ShloMosaic Idealize.ShloMosaic.StableHlo

/-- The reference's means, one per channel. -/
def means (z : FVec Ideal S90000x64 .f32) : FVec Ideal S1x64 .f32 :=
  Host.divf (broadcastInDim S1x64 ![1] bcast_S64_S1x64_1 (Host.reduceAdd z (constant S_ .f32 0x00000000#32) reducesTo_S90000x64_S64_d0 h_S_)) (broadcastInDim S1x64 ![] bcast_S_S1x64 (constant S_ .f32 0x47AFC800#32))

/-- The products less their channel's mean. -/
def centred (z : FVec Ideal S90000x64 .f32) : FVec Ideal S90000x64 .f32 :=
  subf z (broadcastInDim S90000x64 ![0, 1] bcast_S1x64_S90000x64_0_1 (means z))

/-- The reference's variances. -/
def variances (z : FVec Ideal S90000x64 .f32) : FVec Ideal S1x64 .f32 :=
  select (broadcastInDim S1x64 ![] bcast_S_S1x64 (cmpf .ogt (subf (constant S_ .f32 0x47AFC800#32) (sitofp .f32 (constantI S_ 32 0#32)) : FVec Ideal S_ .f32) (constant S_ .f32 0x00000000#32))) (Host.divf (broadcastInDim S1x64 ![1] bcast_S64_S1x64_1 (Host.reduceAdd (mulf (centred z) (centred z)) (constant S_ .f32 0x00000000#32) reducesTo_S90000x64_S64_d0 h_S_)) (broadcastInDim S1x64 ![] bcast_S_S1x64 (subf (constant S_ .f32 0x47AFC800#32) (sitofp .f32 (constantI S_ 32 0#32))))) (broadcastInDim S1x64 ![] bcast_S_S1x64 (id (constant S_ .f32 0x7FC00000#32)))

/-- The reference's image. -/
def result (z : FVec Ideal S90000x64 .f32) (g b : FVec Ideal S64 .f32) : FVec Ideal S64x90000 .f32 :=
  transpose S64x90000 [1, 0] (maximumf (addf (mulf (Host.divf (centred z) (broadcastInDim S90000x64 ![0, 1] bcast_S1x64_S90000x64_0_1 (Host.sqrt (addf (variances z) (broadcastInDim S1x64 ![] bcast_S_S1x64 (constant S_ .f32 0x3727C5AC#32)))))) (broadcastInDim S90000x64 ![0, 1] bcast_S1x64_S90000x64_0_1 (shapeCast S1x64 g shapeCasts_S64_S1x64))) (broadcastInDim S90000x64 ![0, 1] bcast_S1x64_S90000x64_0_1 (shapeCast S1x64 b shapeCasts_S64_S1x64))) (broadcastInDim S90000x64 ![] bcast_S_S90000x64 (constant S_ .f32 0x00000000#32))) transposes_S90000x64_S64x90000_1_0

theorem means_at (z : Vec Ideal S90000x64 .f32) (u : Fin 1) (o : Fin 64) :
    means z (ix2 u o) = Ideal.div (∑ p : Fin 90000, z (ix2 p o)) ((90000 : ℝ) : EReal) := by
  unfold means
  pointwise [Consts.pixels]

theorem centred_at (z : Vec Ideal S90000x64 .f32) (p : Fin 90000) (o : Fin 64) :
    centred z (ix2 p o) = z (ix2 p o) - means z (ix2 0 o) := by
  unfold centred
  pointwise

theorem variances_at (z : Vec Ideal S90000x64 .f32) (u : Fin 1) (o : Fin 64) :
    variances z (ix2 u o) = Ideal.div (∑ p : Fin 90000, centred z (ix2 p o) * centred z (ix2 p o)) ((90000 : ℝ) : EReal) := by
  have hz : (FloatOps.sitofp .f32 0#32 : Ideal .f32) = 0 := sitofp_zero
  have hp : (0 : EReal) < ((90000 : ℝ) : EReal) := by exact_mod_cast (by norm_num : (0 : ℝ) < 90000)
  unfold variances
  pointwise [Consts.pixels]
  rw [hz, sub_zero, if_pos hp]

theorem result_at (z : Vec Ideal S90000x64 .f32) (g b : Vec Ideal S64 .f32) (o : Fin 64) (p : Fin 90000) :
    result z g b (ix2 o p)
      = max (Ideal.div (centred z (ix2 p o)) (Ideal.sqrt (variances z (ix2 0 o) + eps)) * g (ix1 o) + b (ix1 o)) 0 := by
  unfold result eps
  pointwise

/-- What the precondition says of the arguments. -/
structure Sums (z : Vec Ideal S90000x64 .f32) (s : Vec Ideal S2x64 .f32) (g : Vec Ideal S64 .f32) : Prop where
  first : ∀ o : Fin 64, s (ix2 0 o) = ∑ p : Fin 90000, z (ix2 p o)
  second : ∀ o : Fin 64, s (ix2 1 o) = ∑ p : Fin 90000, z (ix2 p o) * z (ix2 p o)
  products : ∀ (p : Fin 90000) (o : Fin 64), ∃ r : ℝ, z (ix2 p o) = (r : EReal)
  scale : ∀ o : Fin 64, ∃ r : ℝ, g (ix1 o) = (r : EReal)

theorem finite_of (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

theorem eq_of (x y : EReal) (h : Ideal.cmp .oeq x y = 1#1) : x = y := by
  by_contra hn
  exact absurd h (by simp [Ideal.cmp, hn])

/-- The printed precondition, read back. -/
theorem sums_of_pre (z : Vec Ideal S90000x64 .f32) (s : Vec Ideal S2x64 .f32) (g b : Vec Ideal S64 .f32)
    (h : Cert.Pre_sums_of_products.fn (F := Ideal) z s g b = fun _ => 1#1) : Sums z s g := by
  have e := congrFun h (Shape.Idx.first (by decide))
  have split (a b : BitVec 1) (hab : IntOp.andi a b = 1#1) : a = 1#1 ∧ b = 1#1 := by
    revert hab; revert a b; decide
  obtain ⟨e, e3⟩ := split _ _ e
  obtain ⟨e, e2⟩ := split _ _ e
  obtain ⟨e0, e1⟩ := split _ _ e
  refine ⟨fun o => ?_, fun o => ?_, fun p o => ?_, fun o => ?_⟩
  · have q := Host.reduce_andi_all _ _ _ _ _ e0 (ix1 o)
    refine Eq.trans ?_ ((eq_of _ _ q).trans ?_)
    · pointwise
    · pointwise
  · have q := Host.reduce_andi_all _ _ _ _ _ e1 (ix1 o)
    refine Eq.trans ?_ ((eq_of _ _ q).trans ?_)
    · pointwise
    · pointwise
  · have q := Host.reduce_andi_all _ _ _ _ _ e2 (ix2 p o)
    refine finite_of _ ((congrArg (Ideal.cmp .olt _) ?_).trans q)
    exact Consts.infinity.symm
  · have q := Host.reduce_andi_all _ _ _ _ _ e3 (ix1 o)
    refine finite_of _ ((congrArg (Ideal.cmp .olt _) ?_).trans q)
    exact Consts.infinity.symm

theorem inv_eq : inv = ((90000⁻¹ : ℝ) : EReal) := IdealRules.named_const.ideal_named_scalar _ _ _ _ rfl

/-- Where the sums are those of the products, the reference's image is the kernel's. -/
theorem result_eq (z : Vec Ideal S90000x64 .f32) (s : Vec Ideal S2x64 .f32) (g b : Vec Ideal S64 .f32) (H : Sums z s g) :
    result z g b = image z s (shapeCast S1x64 g shapeCasts_S64_S1x64) (shapeCast S1x64 b shapeCasts_S64_S1x64) := by
  funext j
  obtain ⟨o, p, rfl⟩ : ∃ o p, j = ix2 o p := ⟨_, _, eq_ix2 j⟩
  obtain ⟨γ, hγ⟩ := H.scale o
  choose x hx using fun p => H.products p o
  have hg : shapeCast S1x64 g shapeCasts_S64_S1x64 (ix2 0 o) = g (ix1 o) := by pointwise
  have hb : shapeCast S1x64 b shapeCasts_S64_S1x64 (ix2 0 o) = b (ix1 o) := by pointwise
  have n0 : (90000 : ℝ) ≠ 0 := by norm_num
  have hM : means z (ix2 0 o) = (((∑ p, x p) * 90000⁻¹ : ℝ) : EReal) := by
    rw [means_at, Ideal.div_coe n0, one_div]
    simp only [hx]
    rw [coe_sum, ← EReal.coe_mul]
  have hV : variances z (ix2 0 o) = (((∑ p, x p * x p) * 90000⁻¹ - ((∑ p, x p) * 90000⁻¹) * ((∑ p, x p) * 90000⁻¹) : ℝ) : EReal) := by
    rw [variances_at, Ideal.div_coe n0, one_div, ← variance_eq]
    simp only [centred_at, hM, hx, ← EReal.coe_sub, ← EReal.coe_mul]
    rw [coe_sum, ← EReal.coe_mul]
  have hm : mean s o = (((∑ p, x p) * 90000⁻¹ : ℝ) : EReal) := by
    unfold mean
    rw [H.first, inv_eq]
    simp only [hx]
    rw [coe_sum, ← EReal.coe_mul]
  have hv : variance s o = (((∑ p, x p * x p) * 90000⁻¹ - ((∑ p, x p) * 90000⁻¹) * ((∑ p, x p) * 90000⁻¹) : ℝ) : EReal) := by
    unfold variance
    rw [H.second, inv_eq, hm]
    simp only [hx, ← EReal.coe_mul]
    rw [coe_sum, ← EReal.coe_mul, ← EReal.coe_sub]
  rw [result_at, centred_at, hM, hV, hγ, hx]
  show _ = pixel s _ _ o (z (ix2 p o))
  unfold pixel factor
  rw [hg, hb, hγ, hx, hm, hv]
  unfold eps
  rw [Consts.small]
  exact congrArg (max · 0) (affine _ _ _ _ _ _ (variance_nonneg x) (by positivity)).symm

end Cert.Proof.Norm

end
-- ==== Proof.LastSame.lean ====
/-
  The second batch normalisation's program over machine words and the one over real numbers differ in the named constant alone:
  read over machine words the constant is the word it was written as, and the two are the same text. What is proved of the one for
  every number type with its constants named holds of the other.
-/
module

public import proofs.«01_k».proof.Defs
public import proofs.«01_k».proof.Proof.Gen.Last
public import proofs.«01_k».proof.Proof.Gen.LastIdeal

@[expose] public section

noncomputable section

namespace Cert.Proof.Norm.Same

open Idealize.ShloMosaic Idealize.SL.Sem

/-- Over machine words a named constant is the word it was written as. -/
local instance wordNamed : Named Bits where
  named _ _ {φ} bits := Scalar.ofBits φ bits

set_option maxHeartbeats 8000000 in
/-- The body and the labels' table. -/
theorem bodies_eq : Cert.Last.defs₀ (F := Bits) = Cert.LastIdeal.defs₀ (F := Bits) := by
  funext p l a
  match p, l, a with
  | .scVector _ _, 0, _ => rfl
  | .scScalar _, 0, _ => rfl
  | .tc, 0, (_, _) => rfl

set_option maxHeartbeats 8000000 in
/-- The body as the launch calls it. -/
theorem defs_eq : Cert.Last.defs (F := Bits) = Cert.LastIdeal.defs (F := Bits) :=
  congrArg (fun d => Pipeline.defs Cert.LastIdeal.pcfgs d) (bodies_eq)

set_option maxHeartbeats 8000000 in
/-- The host program. -/
theorem main_eq : Cert.Last.main (F := Bits) = Cert.LastIdeal.main (F := Bits) := rfl

set_option maxHeartbeats 8000000 in
/-- All threads. -/
theorem threads_eq : onTc (τ := Cert.Last.τ) (Cert.Last.main (F := Bits)) = onTc (τ := Cert.LastIdeal.τ) (Cert.LastIdeal.main (F := Bits)) :=
  congrArg (fun p => onTc (τ := Cert.LastIdeal.τ) p) (main_eq)

end Cert.Proof.Norm.Same

end
-- ==== Proof.Base.lean ====
/-
  What the two SparseCore calls share: the program's configuration as the launch theorem takes it, the ghost state the
  proof threads through, and the split of three semaphores off a subcore's own.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.KernelIdeal
public import proofs.«01_k».proof.Proof.Gen.KernelIdeal.Skeleton

@[expose] public section

noncomputable section

namespace Cert.Proof.Calls

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds and the transfers' counters. -/
abbrev UH : Type := URounds (GSem nD τ sig) ℕ
abbrev UP : Type := UR sig nD τ
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := Emb.trans (Emb.inl : Emb UP (UP × Counters)) embR

/-- Three of a subcore's own cells, and the others. -/
theorem ownSems0_three (t : Thread nD τ) (a b c : SemLoc sig) (ha : a.isScoped t.2.kind = true) (hb : b.isScoped t.2.kind = true)
    (hc : c.isScoped t.2.kind = true) (hab : b ≠ a) (hac : c ≠ a) (hbc : c ≠ b) :
    (ownSems0 t : sProp 𝕄) = iprop(semVal ((t, a) : GSem nD τ sig) 0 ∗ semVal ((t, b) : GSem nD τ sig) 0 ∗ semVal ((t, c) : GSem nD τ sig) 0
      ∗ bigSep ((((ownCells t).erase (t, a)).erase (t, b)).erase (t, c)) fun g => semVal g 0) := by
  unfold SparseCore.Cfg.ownSems0
  have ne : ∀ {u v : SemLoc sig}, u ≠ v → ((t, u) : GSem nD τ sig) ≠ (t, v) := fun h e => h (congrArg Prod.snd e)
  have ma : ((t, a) : GSem nD τ sig) ∈ ownCells t := mem_ownCells.mpr ⟨rfl, ha⟩
  have mb : ((t, b) : GSem nD τ sig) ∈ (ownCells t).erase (t, a) := Finset.mem_erase.mpr ⟨ne hab, mem_ownCells.mpr ⟨rfl, hb⟩⟩
  have mc : ((t, c) : GSem nD τ sig) ∈ ((ownCells t).erase (t, a)).erase (t, b) :=
    Finset.mem_erase.mpr ⟨ne hbc, Finset.mem_erase.mpr ⟨ne hac, mem_ownCells.mpr ⟨rfl, hc⟩⟩⟩
  rw [SparseCore.bigSep_erase' ma, SparseCore.bigSep_erase' mb, SparseCore.bigSep_erase' mc]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Calls

end
-- ==== Proof.Gather.lean ====
/-
  The row gather on the SparseCore: thirty-two tasks, each of eleven chunks of 512 rows. This file gives one chunk as a
  program of its own, its effect (the chunk's rows of the output become the rows of the table that the chunk's words
  name), and the task as the eleven chunks in turn.
-/
module

public import proofs.«01_k».proof.Proof.Base

@[expose] public section

noncomputable section

namespace Cert.Proof.Gather

open Cert.KernelIdeal Cert.KernelIdeal.Gen Cert.Proof.Calls

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

abbrev iLoc (d : Dev nD) : Loc nD τ sig := (SparseCore.T d).loc main_v21
abbrev xLoc (d : Dev nD) : Loc nD τ sig := (SparseCore.T d).loc main_arg0
abbrev oLoc (d : Dev nD) : Loc nD τ sig := (SparseCore.T d).loc main_v44

/-! ## The buffers as a task names them -/

abbrev iV : Memref sig .scVector .hbm S180224 .i32 := Memref.whole main_v21_scv
abbrev xV : Memref sig .scVector .hbm S180000x128 .f32 := Memref.whole main_arg0_scv
abbrev oV : Memref sig .scVector .hbm S180224x128 .f32 := Memref.whole main_v44_scv
abbrev sV : Memref sig .scVector .vmem S512 .i32 := Memref.whole cc0_scratch0
abbrev rV : Memref sig .scVector .vmem S512x128 .f32 := Memref.whole cc0_scratch1

abbrev cV (L : grid0.Coords) : Fin τ.nSC := (L 0).castLE hcore0
abbrev jV (L : grid0.Coords) : Fin τ.nSub := (L 1).castLE hsub0

/-- Chunk `r` of task `L`: its words of the list, its rows of the output, and the whole table. -/
abbrev iCh (L : grid0.Coords) (r : Fin 11) : Memref sig .scVector .hbm S512 .i32 :=
  (iV).slice (Rect.unit (s := S180224) (k0_off1 L (BitVec.ofNat 32 (512 * r.val))) S512.size (k0_off1_inb L r)) (fun _ => rfl)
abbrev oCh (L : grid0.Coords) (r : Fin 11) : Memref sig .scVector .hbm S512x128 .f32 :=
  (oV).slice (Rect.unit (s := S180224x128) (k0_off2 L (BitVec.ofNat 32 (512 * r.val))) S512x128.size (k0_off2_inb L r)) (fun _ => rfl)
abbrev xAll : Memref sig .scVector .hbm S180000x128 .f32 :=
  (xV).slice (Rect.unit (s := S180000x128) ![0, 0] S180000x128.size inb_S180000x128_S180000x128_0_0) (fun _ => rfl)

section Chunk

variable [FloatOps F]

/-- One chunk: fetch 512 words of the list, gather the rows they name, write the rows out. -/
def chunk (L : grid0.Coords) (r : Fin 11) (a b : DmaSems sig S_) :
    Prog (TpuEff nD τ sig (Elt F) Λ₀ (.scVector ((L 0).castLE hcore0) ((L 1).castLE hsub0))) PUnit := do
  Prog.lift (.enqueueDma (iCh L r) (.here sV) (.dma a.sem) (View.wordExact_bits rfl) (Memref.isWhole_whole _).wordExact ⟨Or.inl rfl, trivial⟩)
  Prog.lift (.waitDma2 a.sem (iCh L r) sV (View.wordExact_bits rfl) (Memref.isWhole_whole _).wordExact)
  SparseCore.enqueueIndirectGather rfl xAll rV gathers_S180000x128_S512x128 sV rfl cc0_scratch2.sem (View.wordExact_bits rfl) rfl (Or.inl rfl)
  SparseCore.waitIndirectGather cc0_scratch2.sem xAll rV (View.wordExact_bits rfl) (Memref.isWhole_whole _).wordExact
  Prog.lift (.enqueueDma rV (.here (oCh L r)) (.dma b.sem) (Memref.isWhole_whole _).wordExact (View.wordExact_bits rfl) ⟨Or.inl rfl, trivial⟩)
  Prog.lift (.waitDma2 b.sem rV (oCh L r) (Memref.isWhole_whole _).wordExact (View.wordExact_bits rfl))

/-- The transfer semaphores of chunk `r`: its list's and its rows'. -/
def semA : Fin 11 → DmaSems sig S_
  | 0 => cc0_scoped0 | 1 => cc0_scoped2 | 2 => cc0_scoped4 | 3 => cc0_scoped6 | 4 => cc0_scoped8 | 5 => cc0_scoped10
  | 6 => cc0_scoped12 | 7 => cc0_scoped14 | 8 => cc0_scoped16 | 9 => cc0_scoped18 | 10 => cc0_scoped20
def semB : Fin 11 → DmaSems sig S_
  | 0 => cc0_scoped1 | 1 => cc0_scoped3 | 2 => cc0_scoped5 | 3 => cc0_scoped7 | 4 => cc0_scoped9 | 5 => cc0_scoped11
  | 6 => cc0_scoped13 | 7 => cc0_scoped15 | 8 => cc0_scoped17 | 9 => cc0_scoped19 | 10 => cc0_scoped21

/-- The chunks of a list of numbers, in turn. -/
def chunks (L : grid0.Coords) (l : List (Fin 11)) :
    Prog (TpuEff nD τ sig (Elt F) Λ₀ (.scVector ((L 0).castLE hcore0) ((L 1).castLE hsub0))) PUnit :=
  l.foldr (fun r k => chunk L r (semA r) (semB r) >>= fun _ => k) (pure ⟨⟩)

/-- The eleven chunk numbers, in order. -/
def order : List (Fin 11) := [0, 1, 2, 3, 4, 5, 6, 7, 8, 9, 10]

theorem body_eq (L : grid0.Coords) :
    cc0_sc_gather (F := F) L xV (Memref.isWhole_whole _) iV (Memref.isWhole_whole _) oV (Memref.isWhole_whole _)
      sV (Memref.isWhole_whole _) rV (Memref.isWhole_whole _) cc0_scratch2 cc0_scoped0 cc0_scoped1 cc0_scoped2 cc0_scoped3
      cc0_scoped4 cc0_scoped5 cc0_scoped6 cc0_scoped7 cc0_scoped8 cc0_scoped9 cc0_scoped10 cc0_scoped11 cc0_scoped12
      cc0_scoped13 cc0_scoped14 cc0_scoped15 cc0_scoped16 cc0_scoped17 cc0_scoped18 cc0_scoped19 cc0_scoped20 cc0_scoped21
    = chunks L order := rfl

end Chunk

/-! ## What one chunk leaves -/

/-- The gathered array: row `n` is the table's row that word `n` of the list names. -/
def rowsOf (fx : S180000x128.Idx → Elt F .f32) (fi : S180224.Idx → Elt F .i32) : S180224x128.Idx → Elt F .f32 :=
  fun j => fx (ix2 (n0 := 180000) (n1 := 128) ⟨(fi (ix1 (n0 := 180224) (j 0))).toNat % 180000, Nat.mod_lt _ (by decide)⟩ (j 1))

section Tile

variable (d : Dev nD) (L : grid0.Coords)

abbrev thr (d : Dev nD) (L : grid0.Coords) : Thread nD τ := V d (cV L) (jV L)

theorem pts_i (q : PosShare TreeShare) (f : Buf (Elt F) (iLoc d)) :
    ((iV).view.loc (thr d L) ↦{q} f : sProp 𝕄) = iLoc d ↦{q} f := rfl
theorem pts_x (q : PosShare TreeShare) (f : Buf (Elt F) (xLoc d)) :
    ((xV).view.loc (thr d L) ↦{q} f : sProp 𝕄) = xLoc d ↦{q} f := rfl
theorem pts_o (r : Fin 11) (f : Buf (Elt F) (oLoc d)) :
    ((oCh L r).view.loc (thr d L) ↦[(oCh L r).view.set]{fullShare} f : sProp 𝕄) = oLoc d ↦[(oCh L r).view.set]{fullShare} f := rfl
theorem pts_s (f : Buf (Elt F) ((thr d L).loc cc0_scratch0)) :
    ((sV).view.loc (thr d L) ↦{fullShare} f : sProp 𝕄) = (thr d L).loc cc0_scratch0 ↦{fullShare} f := rfl
theorem pts_r (f : Buf (Elt F) ((thr d L).loc cc0_scratch1)) :
    ((rV).view.loc (thr d L) ↦{fullShare} f : sProp 𝕄) = (thr d L).loc cc0_scratch1 ↦{fullShare} f := rfl

/-- Every word a chunk fetches is a row of the table. -/
theorem fetched_lt (r : Fin 11) (fi : Buf (Elt F) (iLoc d)) (hi : ∀ j, (fi j).toNat < 180000)
    (fs : Buf (Elt F) ((thr d L).loc cc0_scratch0)) (pay : S512.Idx → Elt F .i32) (hp : pay = (iCh L r).view.read (Elt F) fi) :
    ∀ x, ((sV).view.read (Elt F) (View.write (Elt F) (sV).view fs pay Finset.univ) x).toNat
      < S180000x128.size gathers_S180000x128_S512x128.axis := by
  subst hp; intro x
  rw [View.write_whole_univ]
  simp only [Memref.view_whole, View.read_whole]
  rw [show ∀ j, (iCh L r).view.read (Elt F) fi j = fi ((iCh L r).view.emb j) from fun j => (View.read_apply _ _).trans (cast_eq _ _)]
  exact hi _

/-- What a chunk writes out, element by element: its rows of the gathered array. -/
theorem written_eq (r : Fin 11) (fi : Buf (Elt F) (iLoc d)) (hi : ∀ j, (fi j).toNat < 180000) (fx : Buf (Elt F) (xLoc d)) (fo : Buf (Elt F) (oLoc d))
    (fs : Buf (Elt F) ((thr d L).loc cc0_scratch0)) (fr : Buf (Elt F) ((thr d L).loc cc0_scratch1)) (pay : S512.Idx → Elt F .i32)
    (hp : pay = (iCh L r).view.read (Elt F) fi)
    (hin : ∀ x, ((sV).view.read (Elt F) (View.write (Elt F) (sV).view fs pay Finset.univ) x).toNat
      < S180000x128.size gathers_S180000x128_S512x128.axis)
    (out : S512x128.Idx → Elt F .f32)
    (ho : out = (rV).view.read (Elt F) (View.write (Elt F) (rV).view fr
      (SparseCore.gatherPayload gathers_S180000x128_S512x128 ((xAll).view.read (Elt F) fx)
        (SparseCore.rows ((sV).view.read (Elt F) (View.write (Elt F) (sV).view fs pay Finset.univ)) rfl hin)) Finset.univ)) :
    ∀ j ∈ (oCh L r).view.set, (oCh L r).view.writes (Elt F) fo [⟨Rect.whole S512x128, out⟩] j = rowsOf fx fi j := by
  subst hp ho
  intro j hj
  obtain ⟨x, -, rfl⟩ := Finset.mem_map.mp hj
  have e : (oCh L r).view.emb x = ((oCh L r).view.slice (Rect.whole S512x128)).emb x := by
    show _ = (oCh L r).view.emb ((Rect.whole S512x128).emb x)
    congr 1
    funext a; apply Fin.ext
    rw [Rect.emb_apply]; simp [Rect.whole]
  rw [View.writes_cons, View.writes_nil]
  conv_lhs => rw [e, View.write_emb_of_mem _ _ (Finset.mem_univ x)]
  rw [View.write_whole_univ]
  simp only [Memref.view_whole, View.read_whole, cast_eq]
  unfold SparseCore.gatherPayload rowsOf
  rw [View.read_apply, cast_eq]
  congr 1
  have h0 : ((oCh L r).view.emb x 0).val = 11264 * (L 1).val + 5632 * (L 0).val + 512 * r.val + (x 0).val := by
    show k0_off2 L (BitVec.ofNat 32 (512 * r.val)) 0 + 1 * (x 0).val = _
    rw [k0_off2_eq]; simp
  have h1 : ((oCh L r).view.emb x 1).val = (x 1).val := by
    show k0_off2 L (BitVec.ofNat 32 (512 * r.val)) 1 + 1 * (x 1).val = _
    rw [k0_off2_eq]; simp
  funext a
  match a with
  | 0 =>
    apply Fin.ext
    show 0 + 1 * ((gathers_S180000x128_S512x128).idx _ x (gathers_S180000x128_S512x128).axis).val = (fi (ix1 ((oCh L r).view.emb x 0))).toNat % 180000
    rw [Shape.Gathers.idx_axis]
    show 0 + 1 * (View.write (Elt F) (sV).view fs ((iCh L r).view.read (Elt F) fi) Finset.univ (S512.rowMajor.symm ((x 0).cast rfl))).toNat = _
    rw [View.write_whole_univ, View.read_apply, cast_eq]
    have hk : (iCh L r).view.emb (S512.rowMajor.symm ((x 0).cast rfl)) = ix1 ((oCh L r).view.emb x 0) := by
      funext a
      match a with
      | 0 =>
        apply Fin.ext
        show k0_off1 L (BitVec.ofNat 32 (512 * r.val)) 0 + 1 * (S512.rowMajor.symm ((x 0).cast rfl) 0).val = ((oCh L r).view.emb x 0).val
        rw [h0, k0_off1_eq]
        have hm := Shape.rowMajor_val_one (S512.rowMajor.symm ((x 0).cast rfl))
        rw [Equiv.apply_symm_apply] at hm
        have hm' : (x 0).val = (S512.rowMajor.symm ((x 0).cast rfl) 0).val := hm
        rw [← hm', Nat.one_mul]; rfl
    rw [hk, Nat.mod_eq_of_lt (hi _), Nat.zero_add, Nat.one_mul]
    rfl
  | 1 =>
    apply Fin.ext
    show 0 + 1 * ((gathers_S180000x128_S512x128).idx _ x 1).val = ((oCh L r).view.emb x 1).val
    rw [h1, Shape.Gathers.idx_of_ne _ _ _ _ (by decide)]
    show 0 + 1 * (x 1).val = _
    omega

variable [FloatOps F]

set_option maxHeartbeats 4000000 in
theorem chunk_spec (r : Fin 11) (a b : DmaSems sig S_) (ha : (SemLoc.dma a.sem : SemLoc sig).isScoped .scVector = true)
    (hb : (SemLoc.dma b.sem : SemLoc sig).isScoped .scVector = true) (hab : b.sem ≠ a.sem) (hac : cc0_scratch2.sem ≠ a.sem)
    (hbc : cc0_scratch2.sem ≠ b.sem)
    (qi qx : PosShare TreeShare) (fi : Buf (Elt F) (iLoc d)) (fx : Buf (Elt F) (xLoc d)) (fo : Buf (Elt F) (oLoc d))
    (hi : ∀ j, (fi j).toNat < 180000)
    (O : CellTallies nD τ sig (HIx 2)) (W : Waits sig (HIx 2)) (hO : ∀ g, O g none = 0) :
    (iprop(levAts (K (F := F)).L (K (F := F)).lev
        ∗ (iLoc d ↦{qi} fi) ∗ (xLoc d ↦{qx} fx) ∗ (oLoc d ↦[(oCh L r).view.set]{fullShare} fo)
        ∗ (∃ f, (thr d L).loc cc0_scratch0 ↦{fullShare} f) ∗ (∃ f, (thr d L).loc cc0_scratch1 ↦{fullShare} f)
        ∗ ownSems0 (thr d L) ∗ owes (thr d L) O W) : sProp 𝕄)
      ⊢ wp frame (wpE (defs₀ (F := F)) 𝒱₀ (thr d L) none) Set.univ (chunk L r a b)
          fun _ => iprop((iLoc d ↦{qi} fi) ∗ (xLoc d ↦{qx} fx) ∗ (oLoc d ↦[(oCh L r).view.set]{fullShare} rowsOf fx fi)
            ∗ (∃ f, (thr d L).loc cc0_scratch0 ↦{fullShare} f) ∗ (∃ f, (thr d L).loc cc0_scratch1 ↦{fullShare} f)
            ∗ ownSems0 (thr d L) ∗ ∃ W', ⌜∀ p ∈ W', p ∈ W ∨ p.2 = none⌝ ∗ owes (thr d L) O W') := by
  unfold chunk
  rw [ownSems0_three (thr d L) (.dma a.sem) (.dma b.sem) (.dma cc0_scratch2.sem) ha hb (show (SemLoc.dma cc0_scratch2.sem : SemLoc sig).isScoped .scVector = true by decide)
    (fun e => hab (SemLoc.dma.inj e)) (fun e => hac (SemLoc.dma.inj e)) (fun e => hbc (SemLoc.dma.inj e))]
  iintro ⟨#Hlv, Hi, Hx, Ho, ⟨%fs, Hs⟩, ⟨%fr, Hr⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_i (F := F) d L _ _).symm) $$ Hi
  ihave Ho' := (Entails.of_eq (pts_o (F := F) d L r _).symm) $$ Ho
  ihave Hx' := (Entails.of_eq (pts_x (F := F) d L _ _).symm) $$ Hx
  ihave Hs' := (Entails.of_eq (pts_s (F := F) d L _).symm) $$ Hs
  ihave Hr' := (Entails.of_eq (pts_r (F := F) d L _).symm) $$ Hr
  sl_exec
  ihave Hxs := (pointsTo_split_subset (q := qx) (f := fx) (S := Finset.univ) (Finset.subset_univ (xAll).view.set)).1 $$ Hx'
  icases Hxs with ⟨Hxs, Hxr⟩
  have hrs : (rV).view.set = Finset.univ := View.set_whole _
  have hss : (sV).view.set = Finset.univ := View.set_whole _
  have hin := fetched_lt d L r fi hi fs _ (rfl : chunk_spec.sl.dma0 d L r fi = _)
  ihave Hr2 := (Entails.of_eq (show ((rV).view.loc (thr d L) ↦{fullShare} fr : sProp 𝕄)
      = (rV).view.loc (thr d L) ↦[(rV).view.set]{fullShare} fr by rw [hrs])) $$ Hr'
  ihave Hs2 := (Entails.of_eq (show ((sV).view.loc (thr d L) ↦{fullShare} View.write (Elt F) (sV).view fs (chunk_spec.sl.dma0 d L r fi) Finset.univ : sProp 𝕄)
      = (sV).view.loc (thr d L) ↦[(sV).view.set]{fullShare} View.write (Elt F) (sV).view fs (chunk_spec.sl.dma0 d L r fi) Finset.univ
      by rw [hss])) $$ Hs'
  have hN : ∀ h : S180000x128.Gathers 0 S512x128, ∑ j, ((rV).slice (S512x128.rowRect h.axis' j) (S512x128.stride_rowRect h.axis' j)).view.dmaCredit
      = (rV).view.dmaCredit := by decide
  iapply (SparseCore.wp_indirectGatherLocal countersEmb 𝒱₀ (thr d L) none (hg := gathers_S180000x128_S512x128) (default : HIx 2)
      (rV).view.dmaCredit (hN _) (by decide) hin) $$ [Hxs Hr2 Hs2 HsemC]
  · isplitl [Hxs]; · iexact Hxs
    isplitl [Hr2]; · iexact Hr2
    isplitl [Hs2]; · iexact Hs2
    iexact HsemC
  iintro Hfl
  sl_exec
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemC, HO⟩
  ihave Hx' := (pointsTo_split_subset (q := qx) (f := fx) (S := Finset.univ) (Finset.subset_univ (xAll).view.set)).2 $$ [Hxs Hxr]; · isplitl [Hxs] <;> iassumption
  ihave Hr3 := (Entails.of_eq (show ((rV).view.loc (thr d L) ↦[(rV).view.set]{fullShare} _ : sProp 𝕄)
      = (rV).view.loc (thr d L) ↦{fullShare} _ by rw [hrs])) $$ Hr'
  ihave Hs3 := (Entails.of_eq (show ((sV).view.loc (thr d L) ↦[(sV).view.set]{fullShare} _ : sProp 𝕄)
      = (sV).view.loc (thr d L) ↦{fullShare} _ by rw [hss])) $$ Hs'
  sl_exec
  sl_step
  have hw := written_eq d L r fi hi fx fo fs fr (chunk_spec.sl.dma0 d L r fi) rfl hin (chunk_spec.sl.dma0_1 d L r fi fx fs fr hin) rfl
  isplitl [Hi']; · iexact Hi'
  isplitl [Hx']; · iexact Hx'
  isplitl [Ho']
  · iapply (Entails.of_eq (pointsTo_congr hw)); iexact Ho'
  isplitl [Hs3]; · iexists _; iexact Hs3
  isplitl [Hr3]; · iexists _; iexact Hr3
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

theorem semA_scoped : ∀ r, (SemLoc.dma (semA r).sem : SemLoc sig).isScoped .scVector = true := by decide
theorem semB_scoped : ∀ r, (SemLoc.dma (semB r).sem : SemLoc sig).isScoped .scVector = true := by decide
theorem semB_ne_semA : ∀ r, (semB r).sem ≠ (semA r).sem := by decide
theorem sem_ne_semA : ∀ r, cc0_scratch2.sem ≠ (semA r).sem := by decide
theorem sem_ne_semB : ∀ r, cc0_scratch2.sem ≠ (semB r).sem := by decide

/-- The chunks of any list of distinct numbers leave their rows of the gathered array. -/
theorem chunks_spec (qi qx : PosShare TreeShare) (fi : Buf (Elt F) (iLoc d)) (fx : Buf (Elt F) (xLoc d)) (fo : Buf (Elt F) (oLoc d))
    (hi : ∀ j, (fi j).toNat < 180000) (O : CellTallies nD τ sig (HIx 2)) (hO : ∀ g, O g none = 0) :
    ∀ (l : List (Fin 11)) (_ : l.Nodup) (W : Waits sig (HIx 2)),
    (iprop(levAts (K (F := F)).L (K (F := F)).lev
        ∗ (iLoc d ↦{qi} fi) ∗ (xLoc d ↦{qx} fx) ∗ (bigSep l.toFinset fun r => oLoc d ↦[(oCh L r).view.set]{fullShare} fo)
        ∗ (∃ f, (thr d L).loc cc0_scratch0 ↦{fullShare} f) ∗ (∃ f, (thr d L).loc cc0_scratch1 ↦{fullShare} f)
        ∗ ownSems0 (thr d L) ∗ owes (thr d L) O W) : sProp 𝕄)
      ⊢ wp frame (wpE (defs₀ (F := F)) 𝒱₀ (thr d L) none) Set.univ (chunks L l)
          fun _ => iprop((iLoc d ↦{qi} fi) ∗ (xLoc d ↦{qx} fx) ∗ (bigSep l.toFinset fun r => oLoc d ↦[(oCh L r).view.set]{fullShare} rowsOf fx fi)
            ∗ (∃ f, (thr d L).loc cc0_scratch0 ↦{fullShare} f) ∗ (∃ f, (thr d L).loc cc0_scratch1 ↦{fullShare} f)
            ∗ ownSems0 (thr d L) ∗ ∃ W', ⌜∀ p ∈ W', p ∈ W ∨ p.2 = none⌝ ∗ owes (thr d L) O W')
  | [], _, W => by
    simp only [chunks, List.foldr_nil, List.toFinset_nil, bigSep_empty]
    rw [wp_pure]
    iintro ⟨-, Hi, Hx, Ho, Hs, Hr, Hsems, HO⟩
    imodintro
    isplitl [Hi]; · iexact Hi
    isplitl [Hx]; · iexact Hx
    isplitl [Ho]; · iexact Ho
    isplitl [Hs]; · iexact Hs
    isplitl [Hr]; · iexact Hr
    isplitl [Hsems]; · iexact Hsems
    iexists W; isplitr
    · ipureintro; exact fun p hp => .inl hp
    · iexact HO
  | r :: l, hl, W => by
    have hr : r ∉ l.toFinset := fun h => (List.nodup_cons.mp hl).1 (List.mem_toFinset.mp h)
    rw [show chunks (F := F) L (r :: l) = chunk L r (semA r) (semB r) >>= fun _ => chunks L l from rfl, wp_bind,
      List.toFinset_cons, SparseCore.bigSep_insert' hr, SparseCore.bigSep_insert' hr]
    iintro ⟨#Hlv, Hi, Hx, ⟨Ho, Hos⟩, Hs, Hr, Hsems, HO⟩
    iapply wp_wand_r
    isplitl [Hi Hx Ho Hs Hr Hsems HO]
    · iapply chunk_spec d L r (semA r) (semB r) (semA_scoped r) (semB_scoped r) (semB_ne_semA r) (sem_ne_semA r) (sem_ne_semB r)
        qi qx fi fx fo hi O W hO
      isplitr; · iexact Hlv
      isplitl [Hi]; · iexact Hi
      isplitl [Hx]; · iexact Hx
      isplitl [Ho]; · iexact Ho
      isplitl [Hs]; · iexact Hs
      isplitl [Hr]; · iexact Hr
      isplitl [Hsems]; · iexact Hsems
      iexact HO
    iintro %_ ⟨Hi, Hx, Ho, Hs, Hr, Hsems, %W₁, %hW₁, HO⟩
    iapply wp_wand_r
    isplitl [Hi Hx Hos Hs Hr Hsems HO]
    · iapply chunks_spec qi qx fi fx fo hi O hO l (List.nodup_cons.mp hl).2 W₁
      isplitr; · iexact Hlv
      isplitl [Hi]; · iexact Hi
      isplitl [Hx]; · iexact Hx
      isplitl [Hos]; · iexact Hos
      isplitl [Hs]; · iexact Hs
      isplitl [Hr]; · iexact Hr
      isplitl [Hsems]; · iexact Hsems
      iexact HO
    iintro %_ ⟨Hi, Hx, Hos, Hs, Hr, Hsems, %W₂, %hW₂, HO⟩
    isplitl [Hi]; · iexact Hi
    isplitl [Hx]; · iexact Hx
    isplitl [Ho Hos]; · isplitl [Ho] <;> [iexact Ho; iexact Hos]
    isplitl [Hs]; · iexact Hs
    isplitl [Hr]; · iexact Hr
    isplitl [Hsems]; · iexact Hsems
    iexists W₂; isplitr
    · ipureintro; exact fun p hp => (hW₂ p hp).elim (hW₁ p) .inr
    · iexact HO

end Tile

end Cert.Proof.Gather

end
-- ==== Proof.Launch.lean ====
/-
  How the row gather is dealt out: each SparseCore takes a share of the list and of the table and its sixteen tasks' rows
  of the output, each task a share and its eleven chunks' rows; what comes back is the whole gathered array.
-/
module

public import Idealize.ShloMosaic.Lib.ShareLeaves
public import proofs.«01_k».proof.Proof.Gather

@[expose] public section

noncomputable section

namespace Cert.Proof.Gather

open Cert.KernelIdeal Cert.KernelIdeal.Gen Cert.Proof.Calls

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The rows of the output, by core, task and chunk -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of the output that chunk `r` of subcore `s` of core `c` writes. -/
abbrev oSet (c : Fin 2) (s : Fin 16) (r : Fin 11) : Finset S180224x128.Idx := (oCh (coordsV c s) r).view.set

theorem mem_oSet (c : Fin 2) (s : Fin 16) (r : Fin 11) (j : S180224x128.Idx) :
    j ∈ oSet c s r ↔ 11264 * s.val + 5632 * c.val + 512 * r.val ≤ (j 0).val
      ∧ (j 0).val < 11264 * s.val + 5632 * c.val + 512 * r.val + 512 := by
  have h1 : (j 1).val < 128 := (j 1).isLt
  have e : oSet c s r = (Rect.unit (s := S180224x128) (k0_off2 (coordsV c s) (BitVec.ofNat 32 (512 * r.val))) S512x128.size
      (k0_off2_inb (coordsV c s) r)).set := by
    show ((View.whole (main_v44_scv : Ref sig .scVector)).slice _).set = _
    rw [View.set_slice]; exact Finset.map_refl
  rw [e, Rect.mem_set_unit, Fin.forall_fin_two, k0_off2_eq]
  simp [coordsV]
  omega

/-- A number below 180224 is in one chunk's range. -/
theorem oSet_cover : (Finset.univ : Finset (Fin 2 × Fin 16 × Fin 11)).biUnion (fun k => oSet k.1 k.2.1 k.2.2) = Finset.univ := by
  refine Finset.eq_univ_iff_forall.mpr fun j => Finset.mem_biUnion.mpr ?_
  have h0 : (j 0).val < 180224 := (j 0).isLt
  refine ⟨(⟨(j 0).val % 11264 / 5632, by omega⟩, ⟨(j 0).val / 11264, by omega⟩, ⟨(j 0).val % 5632 / 512, by omega⟩), Finset.mem_univ _, ?_⟩
  rw [mem_oSet]; dsimp only; omega

theorem oSet_disjoint : ∀ k ∈ (Finset.univ : Finset (Fin 2 × Fin 16 × Fin 11)), ∀ k' ∈ (Finset.univ : Finset (Fin 2 × Fin 16 × Fin 11)),
    k ≠ k' → Disjoint (oSet k.1 k.2.1 k.2.2) (oSet k'.1 k'.2.1 k'.2.2) := by
  rintro ⟨c, s, r⟩ - ⟨c', s', r'⟩ - hne
  refine Finset.disjoint_left.mpr fun j hj hj' => hne ?_
  rw [mem_oSet] at hj hj'
  dsimp only at hj hj'
  refine Prod.ext (Fin.ext ?_) (Prod.ext (Fin.ext ?_) (Fin.ext ?_)) <;> dsimp only <;> omega

theorem oPts_split (d : Dev nD) (f : Buf (Elt F) (oLoc d)) :
    (oLoc d ↦{fullShare} f : sProp 𝕄)
      = bigSep Finset.univ fun c : Fin 2 => bigSep Finset.univ fun s : Fin 16 => bigSep Finset.univ fun r : Fin 11 => oLoc d ↦[oSet c s r]{fullShare} f := by
  rw [← oSet_cover]
  refine (pointsTo_biUnion Finset.univ (ℓ := oLoc d) (fun k : Fin 2 × Fin 16 × Fin 11 => oSet k.1 k.2.1 k.2.2) oSet_disjoint).trans ?_
  rw [bigSep_univ_prod]
  refine bigSep_congr fun c _ => ?_
  rw [bigSep_univ_prod]

variable [FloatOps F]

/-! ## What the handshakes carry -/

section Payload

variable (vi : (d : Dev nD) → Buf (Elt F) (iLoc d)) (vx : (d : Dev nD) → Buf (Elt F) (xLoc d)) (vo : (d : Dev nD) → Buf (Elt F) (oLoc d))

/-- Core `c`'s share of the list and of the table, and its tasks' rows of the output at `f`. -/
def corePts (d : Dev nD) (f : Buf (Elt F) (oLoc d)) (c : Fin 2) : sProp 𝕄 :=
  iprop((iLoc d ↦{leaf 1 fullShare c} vi d) ∗ (xLoc d ↦{leaf 1 fullShare c} vx d)
    ∗ bigSep Finset.univ fun s : Fin 16 => bigSep Finset.univ fun r : Fin 11 => oLoc d ↦[oSet c s r]{fullShare} f)

/-- The same of one task. -/
def taskPts (d : Dev nD) (f : Buf (Elt F) (oLoc d)) (c : Fin 2) (s : Fin 16) : sProp 𝕄 :=
  iprop((iLoc d ↦{leaf 4 (leaf 1 fullShare c) s} vi d) ∗ (xLoc d ↦{leaf 4 (leaf 1 fullShare c) s} vx d)
    ∗ bigSep Finset.univ fun r : Fin 11 => oLoc d ↦[oSet c s r]{fullShare} f)

instance corePts_storable (d : Dev nD) (f) (c) : BI.Storable (upEmb : UEmb _ 𝕄) (corePts vi vx d f c) := by unfold corePts; infer_instance
instance taskPts_storable (d : Dev nD) (f) (c) (s) : BI.Storable (upEmb : UEmb _ 𝕄) (taskPts vi vx d f c s) := by unfold taskPts; infer_instance

/-- The gathered array. -/
abbrev vg (d : Dev nD) : Buf (Elt F) (oLoc d) := rowsOf (vx d) (vi d)

theorem core_split (d : Dev nD) (f : Buf (Elt F) (oLoc d)) (c : Fin 2) :
    corePts vi vx d f c = bigSep Finset.univ fun s : Fin 16 => taskPts vi vx d f c s := by
  unfold corePts taskPts
  rw [bigSep_sep', bigSep_sep', pointsTo_leaves Finset.univ (vi d) 4, pointsTo_leaves Finset.univ (vx d) 4]; rfl

theorem whole_split (d : Dev nD) (f : Buf (Elt F) (oLoc d)) :
    (iprop((iLoc d ↦{fullShare} vi d) ∗ (xLoc d ↦{fullShare} vx d) ∗ oLoc d ↦{fullShare} f) : sProp 𝕄)
      = bigSep Finset.univ fun c : Fin 2 => corePts vi vx d f c := by
  unfold corePts
  rw [bigSep_sep', bigSep_sep', oPts_split, pointsTo_leaves Finset.univ (vi d) 1 fullShare, pointsTo_leaves Finset.univ (vx d) 1 fullShare]; rfl

/-! ## The task -/

section Tile

variable (d : Dev nD) (L : grid0.Coords)

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem task_spec (hF : (K (F := F)).Facts) (c : Fin 2) (s : Fin 16) (hi : ∀ j, (vi d j).toNat < 180000)
    (O : CellTallies nD τ sig (HIx 2)) (W : Waits sig (HIx 2)) (hO : ∀ g, O g none = 0) :
    (iprop(levAts (K (F := F)).L (K (F := F)).lev ∗ emp ∗ taskPts vi vx d (vo d) c s
        ∗ scopedBufs (thr d (coordsV c s)) ∗ scopedSems0 (thr d (coordsV c s)) ∗ owes (thr d (coordsV c s)) O W) : sProp 𝕄)
      ⊢ wp frame (wpE (defs₀ (F := F)) 𝒱₀ (thr d (coordsV c s)) none) Set.univ (chunks (coordsV c s) order)
          fun _ => iprop(taskPts vi vx d (vg vi vx d) c s
            ∗ scopedBufs (thr d (coordsV c s)) ∗ scopedSems0 (thr d (coordsV c s))
            ∗ ∃ W', ⌜∀ p ∈ W', p ∈ W ∨ p.2 = none ∨ p.2 = some 0⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownBufs_V]
  unfold taskPts
  iintro ⟨#Hlv, -, ⟨Hi, Hx, Ho⟩, ⟨Hs, Hr, Hbufs⟩, Hsems, HO⟩
  iapply wp_wand_r
  isplitl [Hi Hx Ho Hs Hr Hsems HO]
  · iapply chunks_spec d (coordsV c s) _ _ (vi d) (vx d) (vo d) hi O hO order (by decide) W
    isplitr; · iexact Hlv
    isplitl [Hi]; · iexact Hi
    isplitl [Hx]; · iexact Hx
    isplitl [Ho]; · iexact Ho
    isplitl [Hs]; · iexact Hs
    isplitl [Hr]; · iexact Hr
    isplitl [Hsems]; · iexact Hsems
    iexact HO
  iintro %_ ⟨Hi, Hx, Ho, Hs, Hr, Hsems, %W', %hW', HO⟩
  isplitl [Hi Hx Ho]
  · isplitl [Hi]; · iexact Hi
    isplitl [Hx]; · iexact Hx
    iexact Ho
  isplitl [Hs Hr Hbufs]
  · isplitl [Hs]; · iexact Hs
    isplitl [Hr]; · iexact Hr
    iexact Hbufs
  isplitl [Hsems]; · iexact Hsems
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => chunks (coordsV c s) order) ⟨⟩ c s := rfl

end Tile

end Payload

end Cert.Proof.Gather

end
-- ==== Proof.Scatter.lean ====
/-
  The row scatter on the SparseCore: thirty-two tasks, each of eleven chunks of 512 rows. A chunk owns the rows of the
  output that its 512 words name; where all words are distinct rows of the output, these are disjoint over the chunks.
  This file gives one chunk as a program of its own, its effect on the rows it owns, and the task as the eleven chunks.
-/
module

public import Idealize.ShloMosaic.Lib.SparseCore.Scatter
public import proofs.«01_k».proof.Proof.Base

@[expose] public section

noncomputable section

namespace Cert.Proof.Scatter

open Cert.KernelIdeal Cert.KernelIdeal.Gen Cert.Proof.Calls

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

abbrev iLoc (d : Dev nD) : Loc nD τ sig := (SparseCore.T d).loc main_v25
abbrev vLoc (d : Dev nD) : Loc nD τ sig := (SparseCore.T d).loc main_v49
abbrev oLoc (d : Dev nD) : Loc nD τ sig := (SparseCore.T d).loc main_v50

/-! ## The buffers as a task names them -/

abbrev iV : Memref sig .scVector .hbm S180224 .i32 := Memref.whole main_v25_scv
abbrev vV : Memref sig .scVector .hbm S180224x128 .f32 := Memref.whole main_v49_scv
abbrev oV : Memref sig .scVector .hbm S180224x128 .f32 := Memref.whole main_v50_scv
abbrev sV : Memref sig .scVector .vmem S512 .i32 := Memref.whole cc2_scratch0
abbrev rV : Memref sig .scVector .vmem S512x128 .f32 := Memref.whole cc2_scratch1

abbrev cV (L : grid2.Coords) : Fin τ.nSC := (L 0).castLE hcore2
abbrev jV (L : grid2.Coords) : Fin τ.nSub := (L 1).castLE hsub2

/-- Chunk `r` of task `L`: its words of the list and its rows of the values; and the whole output. -/
abbrev iCh (L : grid2.Coords) (r : Fin 11) : Memref sig .scVector .hbm S512 .i32 :=
  (iV).slice (Rect.unit (s := S180224) (k2_off1 L (BitVec.ofNat 32 (512 * r.val))) S512.size (k2_off1_inb L r)) (fun _ => rfl)
abbrev vCh (L : grid2.Coords) (r : Fin 11) : Memref sig .scVector .hbm S512x128 .f32 :=
  (vV).slice (Rect.unit (s := S180224x128) (k2_off2 L (BitVec.ofNat 32 (512 * r.val))) S512x128.size (k2_off2_inb L r)) (fun _ => rfl)
abbrev oAll : Memref sig .scVector .hbm S180224x128 .f32 :=
  (oV).slice (Rect.unit (s := S180224x128) ![0, 0] S180224x128.size inb_S180224x128_S180224x128_0_0) (fun _ => rfl)

section Chunk

variable [FloatOps F]

/-- One chunk: fetch 512 words of the list and 512 rows of values, and write each row where its word says. -/
def chunk (L : grid2.Coords) (r : Fin 11) (a b : DmaSems sig S_) :
    Prog (TpuEff nD τ sig (Elt F) Λ₀ (.scVector ((L 0).castLE hcore2) ((L 1).castLE hsub2))) PUnit := do
  Prog.lift (.enqueueDma (iCh L r) (.here sV) (.dma a.sem) (View.wordExact_bits rfl) (Memref.isWhole_whole _).wordExact ⟨Or.inl rfl, trivial⟩)
  Prog.lift (.waitDma2 a.sem (iCh L r) sV (View.wordExact_bits rfl) (Memref.isWhole_whole _).wordExact)
  Prog.lift (.enqueueDma (vCh L r) (.here rV) (.dma b.sem) (View.wordExact_bits rfl) (Memref.isWhole_whole _).wordExact ⟨Or.inl rfl, trivial⟩)
  Prog.lift (.waitDma2 b.sem (vCh L r) rV (View.wordExact_bits rfl) (Memref.isWhole_whole _).wordExact)
  SparseCore.enqueueIndirectScatter rfl rV oAll gathers_S180224x128_S512x128 sV rfl cc2_scratch2.sem rfl (Or.inl rfl)
  SparseCore.waitIndirectScatter cc2_scratch2.sem rV oAll (Memref.isWhole_whole _).wordExact (View.wordExact_bits rfl)

/-- The transfer semaphores of chunk `r`: its list's and its rows'. -/
def semA : Fin 11 → DmaSems sig S_
  | 0 => cc2_scoped0 | 1 => cc2_scoped2 | 2 => cc2_scoped4 | 3 => cc2_scoped6 | 4 => cc2_scoped8 | 5 => cc2_scoped10
  | 6 => cc2_scoped12 | 7 => cc2_scoped14 | 8 => cc2_scoped16 | 9 => cc2_scoped18 | 10 => cc2_scoped20
def semB : Fin 11 → DmaSems sig S_
  | 0 => cc2_scoped1 | 1 => cc2_scoped3 | 2 => cc2_scoped5 | 3 => cc2_scoped7 | 4 => cc2_scoped9 | 5 => cc2_scoped11
  | 6 => cc2_scoped13 | 7 => cc2_scoped15 | 8 => cc2_scoped17 | 9 => cc2_scoped19 | 10 => cc2_scoped21

/-- The chunks of a list of numbers, in turn. -/
def chunks (L : grid2.Coords) (l : List (Fin 11)) :
    Prog (TpuEff nD τ sig (Elt F) Λ₀ (.scVector ((L 0).castLE hcore2) ((L 1).castLE hsub2))) PUnit :=
  l.foldr (fun r k => chunk L r (semA r) (semB r) >>= fun _ => k) (pure ⟨⟩)

/-- The eleven chunk numbers, in order. -/
def order : List (Fin 11) := [0, 1, 2, 3, 4, 5, 6, 7, 8, 9, 10]

theorem body_eq (L : grid2.Coords) :
    cc2_sc_scatter (F := F) L vV (Memref.isWhole_whole _) iV (Memref.isWhole_whole _) oV (Memref.isWhole_whole _)
      sV (Memref.isWhole_whole _) rV (Memref.isWhole_whole _) cc2_scratch2 cc2_scoped0 cc2_scoped1 cc2_scoped2 cc2_scoped3
      cc2_scoped4 cc2_scoped5 cc2_scoped6 cc2_scoped7 cc2_scoped8 cc2_scoped9 cc2_scoped10 cc2_scoped11 cc2_scoped12
      cc2_scoped13 cc2_scoped14 cc2_scoped15 cc2_scoped16 cc2_scoped17 cc2_scoped18 cc2_scoped19 cc2_scoped20 cc2_scoped21
    = chunks L order := rfl

end Chunk

/-! ## What the scatter makes -/

/-- The word of the list that names row `m`: any, where none does. -/
def wordFor (fi : S180224.Idx → Elt F .i32) (m : Fin 180224) : Fin 180224 :=
  open scoped Classical in
  if h : ∃ n : Fin 180224, (fi (ix1 (n0 := 180224) n)).toNat = m.val then h.choose else m

/-- The scattered array: each row is the row of the values whose word names it. -/
def placed (fv : S180224x128.Idx → Elt F .f32) (fi : S180224.Idx → Elt F .i32) : S180224x128.Idx → Elt F .f32 :=
  fun j => fv (ix2 (n0 := 180224) (n1 := 128) (wordFor fi (j 0)) (j 1))

/-- The list's words are pairwise distinct. -/
abbrev Distinct (fi : S180224.Idx → Elt F .i32) : Prop :=
  ∀ n n' : Fin 180224, (fi (ix1 (n0 := 180224) n)).toNat = (fi (ix1 (n0 := 180224) n')).toNat → n = n'

theorem wordFor_eq {fi : S180224.Idx → Elt F .i32} (hd : Distinct fi) {n m : Fin 180224}
    (h : (fi (ix1 (n0 := 180224) n)).toNat = m.val) : wordFor fi m = n := by
  have hex : ∃ n : Fin 180224, (fi (ix1 (n0 := 180224) n)).toNat = m.val := ⟨n, h⟩
  unfold wordFor
  rw [dif_pos hex]
  exact hd _ _ (hex.choose_spec.trans h.symm)

/-- Word `x` of chunk `r` of task `L`, as a number of the whole list. -/
def word (L : grid2.Coords) (r : Fin 11) (x : Fin 512) : Fin 180224 :=
  ⟨11264 * (L 1).val + 5632 * (L 0).val + 512 * r.val + x.val, by
    have h1 : (L 1).val < 16 := (L 1).isLt
    have h0 : (L 0).val < 2 := (L 0).isLt
    omega⟩

/-- The rows of the output a chunk owns: those its words name. -/
def owned (fi : S180224.Idx → Elt F .i32) (L : grid2.Coords) (r : Fin 11) : Finset S180224x128.Idx :=
  open scoped Classical in
  Finset.univ.filter fun j => ∃ x : Fin 512, (fi (ix1 (n0 := 180224) (word L r x))).toNat = (j 0).val

theorem mem_owned {fi : S180224.Idx → Elt F .i32} {L : grid2.Coords} {r : Fin 11} {j : S180224x128.Idx} :
    j ∈ owned fi L r ↔ ∃ x : Fin 512, (fi (ix1 (n0 := 180224) (word L r x))).toNat = (j 0).val := by
  unfold owned; simp only [Finset.mem_filter, Finset.mem_univ, true_and]

section Tile

variable (d : Dev nD) (L : grid2.Coords)

abbrev thr (d : Dev nD) (L : grid2.Coords) : Thread nD τ := V d (cV L) (jV L)

theorem pts_i (q : PosShare TreeShare) (f : Buf (Elt F) (iLoc d)) :
    ((iV).view.loc (thr d L) ↦{q} f : sProp 𝕄) = iLoc d ↦{q} f := rfl
theorem pts_v (q : PosShare TreeShare) (f : Buf (Elt F) (vLoc d)) :
    ((vV).view.loc (thr d L) ↦{q} f : sProp 𝕄) = vLoc d ↦{q} f := rfl
theorem pts_s (f : Buf (Elt F) ((thr d L).loc cc2_scratch0)) :
    ((sV).view.loc (thr d L) ↦{fullShare} f : sProp 𝕄) = (thr d L).loc cc2_scratch0 ↦{fullShare} f := rfl
theorem pts_r (f : Buf (Elt F) ((thr d L).loc cc2_scratch1)) :
    ((rV).view.loc (thr d L) ↦{fullShare} f : sProp 𝕄) = (thr d L).loc cc2_scratch1 ↦{fullShare} f := rfl

/-- Word `x` as the chunk holds it. -/
theorem fetched (r : Fin 11) (fi : Buf (Elt F) (iLoc d)) (fs : Buf (Elt F) ((thr d L).loc cc2_scratch0)) (x : Fin 512) :
    (sV).view.read (Elt F) (View.write (Elt F) (sV).view fs ((iCh L r).view.read (Elt F) fi) Finset.univ) (ix1 (n0 := 512) x)
      = fi (ix1 (n0 := 180224) (word L r x)) := by
  rw [View.write_whole_univ]
  simp only [Memref.view_whole, View.read_whole]
  rw [View.read_apply, cast_eq]
  congr 1
  funext a
  match a with
  | 0 =>
    apply Fin.ext
    show k2_off1 L (BitVec.ofNat 32 (512 * r.val)) 0 + 1 * x.val = 11264 * (L 1).val + 5632 * (L 0).val + 512 * r.val + x.val
    rw [k2_off1_eq, Nat.one_mul]; rfl

/-- Entry `(x, y)` of the values as the chunk holds them. -/
theorem fetched_row (r : Fin 11) (fv : Buf (Elt F) (vLoc d)) (fr : Buf (Elt F) ((thr d L).loc cc2_scratch1)) (x : Fin 512) (y : Fin 128) :
    View.write (Elt F) (rV).view fr ((vCh L r).view.read (Elt F) fv) Finset.univ (ix2 (n0 := 512) (n1 := 128) x y)
      = fv (ix2 (n0 := 180224) (n1 := 128) (word L r x) y) := by
  rw [View.write_whole_univ, View.read_apply, cast_eq]
  congr 1
  funext a
  match a with
  | 0 =>
    apply Fin.ext
    show k2_off2 L (BitVec.ofNat 32 (512 * r.val)) 0 + 1 * x.val = 11264 * (L 1).val + 5632 * (L 0).val + 512 * r.val + x.val
    rw [k2_off2_eq, Nat.one_mul]; rfl
  | 1 =>
    apply Fin.ext
    show k2_off2 L (BitVec.ofNat 32 (512 * r.val)) 1 + 1 * y.val = y.val
    rw [k2_off2_eq]; simp

/-- What the chunk's list buffer holds once its words are fetched. -/
abbrev listIn (r : Fin 11) (fi : Buf (Elt F) (iLoc d)) (fs : Buf (Elt F) ((thr d L).loc cc2_scratch0)) : S512.Idx → Elt F .i32 :=
  (sV).view.read (Elt F) (View.write (Elt F) (sV).view fs ((iCh L r).view.read (Elt F) fi) Finset.univ)

/-- Every word a chunk fetches is a row of the output. -/
theorem fetched_lt (r : Fin 11) (fi : Buf (Elt F) (iLoc d)) (hi : ∀ n : Fin 180224, (fi (ix1 (n0 := 180224) n)).toNat < 180224)
    (fs : Buf (Elt F) ((thr d L).loc cc2_scratch0)) :
    ∀ x, (listIn d L r fi fs x).toNat < S180224x128.size gathers_S180224x128_S512x128.axis := by
  intro x
  obtain ⟨x, rfl⟩ : ∃ y, x = ix1 (n0 := 512) y := ⟨_, eq_ix1 x⟩
  rw [listIn, fetched]
  exact hi _

/-- The chunk's words are distinct. -/
theorem fetched_inj (r : Fin 11) (fi : Buf (Elt F) (iLoc d)) (hd : Distinct (F := F) fi) (fs : Buf (Elt F) ((thr d L).loc cc2_scratch0)) :
    Function.Injective fun x => (listIn d L r fi fs x).toNat := by
  intro x x' h
  obtain ⟨x, rfl⟩ : ∃ y, x = ix1 (n0 := 512) y := ⟨_, eq_ix1 x⟩
  obtain ⟨x', rfl⟩ : ∃ y, x' = ix1 (n0 := 512) y := ⟨_, eq_ix1 x'⟩
  have h' : (listIn d L r fi fs (ix1 (n0 := 512) x)).toNat = (listIn d L r fi fs (ix1 (n0 := 512) x')).toNat := h
  rw [listIn, fetched, fetched] at h'
  have := congrArg Fin.val (hd _ _ h')
  simp only [word] at this
  exact congrArg ix1 (Fin.ext (by omega))

/-- An element of the output, as an element of its row. -/
theorem row_emb (j : S180224x128.Idx) :
    ((oAll).view.slice (S180224x128.rowRect gathers_S180224x128_S512x128.axis (j gathers_S180224x128_S512x128.axis))).emb
      (S180224x128.rowProj gathers_S180224x128_S512x128.axis j) = j := by
  funext b
  apply Fin.ext
  have h := congrArg (fun i : S180224x128.Idx => (i b).val) (Shape.rowRect_emb_rowProj gathers_S180224x128_S512x128.axis j)
  match b with
  | 0 => exact (Nat.zero_add _).trans ((Nat.one_mul _).trans h)
  | 1 => exact (Nat.zero_add _).trans ((Nat.one_mul _).trans h)

/-- Row `k` of the output among the whole output's elements. -/
theorem mem_row (k : Fin (S180224x128.size gathers_S180224x128_S512x128.axis)) (j : S180224x128.Idx) :
    j ∈ ((oAll).view.slice (S180224x128.rowRect gathers_S180224x128_S512x128.axis k)).set ↔ (j 0).val = k.val := by
  constructor
  · intro hj
    obtain ⟨x, -, rfl⟩ := Finset.mem_map.mp hj
    have h := (Shape.rowRect_emb_val gathers_S180224x128_S512x128.axis k x 0).trans (if_pos rfl)
    show 0 + 1 * ((S180224x128.rowRect gathers_S180224x128_S512x128.axis k).emb x 0).val = k.val
    omega
  · intro hj
    obtain rfl : k = j gathers_S180224x128_S512x128.axis := Fin.ext hj.symm
    exact Finset.mem_map.mpr ⟨S180224x128.rowProj gathers_S180224x128_S512x128.axis j, Finset.mem_univ _, row_emb j⟩

/-- Entry `k` of the chunk's list of rows. -/
theorem rows_val (r : Fin 11) (fi : Buf (Elt F) (iLoc d)) (fs : Buf (Elt F) ((thr d L).loc cc2_scratch0))
    (hin : ∀ x, (listIn d L r fi fs x).toNat < S180224x128.size gathers_S180224x128_S512x128.axis) (k : Fin 512) :
    (SparseCore.rows (F := F) (o := 512) (listIn d L r fi fs) rfl hin k).val = (fi (ix1 (n0 := 180224) (word L r k))).toNat := by
  rw [← fetched d L r fi fs k]
  show (listIn d L r fi fs _).toNat = _
  congr 2
  funext a
  match a with
  | 0 =>
    apply Fin.ext
    have hm := Shape.rowMajor_val_one (S512.rowMajor.symm (k.cast rfl))
    rw [Equiv.apply_symm_apply] at hm
    exact hm.symm

/-- The rows the chunk's list names are the rows the chunk owns. -/
theorem named_eq (r : Fin 11) (fi : Buf (Elt F) (iLoc d)) (fs : Buf (Elt F) ((thr d L).loc cc2_scratch0))
    (hin : ∀ x, (listIn d L r fi fs x).toNat < S180224x128.size gathers_S180224x128_S512x128.axis) :
    SparseCore.namedRows (thr d L) (oAll).view gathers_S180224x128_S512x128.axis
      (SparseCore.rows (F := F) (o := 512) (listIn d L r fi fs) rfl hin) = owned fi L r := by
  ext j
  rw [mem_owned, SparseCore.namedRows_eq, Finset.mem_biUnion]
  constructor
  · rintro ⟨k, -, hk⟩
    exact ⟨k, (rows_val d L r fi fs hin k).symm.trans ((mem_row _ _).mp hk).symm⟩
  · rintro ⟨k, hk⟩
    exact ⟨k, Finset.mem_univ _, (mem_row _ _).mpr (hk.symm.trans (rows_val d L r fi fs hin k).symm)⟩

/-- What the chunk's row buffer holds once its rows are fetched. -/
abbrev rowsIn (r : Fin 11) (fv : Buf (Elt F) (vLoc d)) (fr : Buf (Elt F) ((thr d L).loc cc2_scratch1)) : Buf (Elt F) ((thr d L).loc cc2_scratch1) :=
  View.write (Elt F) (rV).view fr ((vCh L r).view.read (Elt F) fv) Finset.univ

/-- Row `k` of the chunk's row buffer, as the transfer of that row reads it. -/
theorem payload_eq (f : Buf (Elt F) ((thr d L).loc cc2_scratch1)) (k : Fin 512) (j : S180224x128.Idx) :
    SparseCore.scatterRowPayload (F := F) (thr d L) rV gathers_S180224x128_S512x128 f k
      (S180224x128.rowProj gathers_S180224x128_S512x128.axis j) = f (ix2 (n0 := 512) (n1 := 128) k (j 1)) := by
  unfold SparseCore.scatterRowPayload
  rw [View.read_apply, cast_eq]
  congr 1
  funext b
  apply Fin.ext
  match b with
  | 0 => exact (Shape.rowRect_emb_val (s := S512x128) (gathers_S180224x128_S512x128).axis' k _ 0).trans (if_pos rfl)
  | 1 =>
    refine (Shape.rowRect_emb_val (s := S512x128) (gathers_S180224x128_S512x128).axis' k _ 1).trans ((if_neg (by decide)).trans ?_)
    refine (Shape.idxEquiv_symm_apply_val _ _ 1).trans ?_
    rfl

/-- What the chunk leaves on the rows it owns, element by element: the scattered array's. -/
theorem written_eq (r : Fin 11) (fi : Buf (Elt F) (iLoc d)) (hd : Distinct (F := F) fi) (fv : Buf (Elt F) (vLoc d)) (fo : Buf (Elt F) (oLoc d))
    (fs : Buf (Elt F) ((thr d L).loc cc2_scratch0)) (fr : Buf (Elt F) ((thr d L).loc cc2_scratch1))
    (hin : ∀ x, (listIn d L r fi fs x).toNat < S180224x128.size gathers_S180224x128_S512x128.axis)
    (j : S180224x128.Idx) (hj : j ∈ owned fi L r) :
    SparseCore.scatterBuf (thr d L) (oAll).view gathers_S180224x128_S512x128.axis
      (SparseCore.rows (F := F) (o := 512) (listIn d L r fi fs) rfl hin)
      (SparseCore.scatterRowPayload (F := F) (thr d L) rV gathers_S180224x128_S512x128 (rowsIn d L r fv fr)) fo j
    = placed fv fi j := by
  obtain ⟨k, hk⟩ := mem_owned.mp hj
  have hrow : SparseCore.rows (F := F) (o := 512) (listIn d L r fi fs) rfl hin k = j gathers_S180224x128_S512x128.axis :=
    Fin.ext ((rows_val d L r fi fs hin k).trans hk)
  have hmem : j ∈ ((oAll).view.slice (S180224x128.rowRect gathers_S180224x128_S512x128.axis
      (SparseCore.rows (F := F) (o := 512) (listIn d L r fi fs) rfl hin k))).set :=
    (mem_row _ _).mpr (congrArg Fin.val hrow.symm)
  refine (SparseCore.scatterBuf_of_mem (thr d L) (oAll).view gathers_S180224x128_S512x128.axis _
    (SparseCore.rows_injective (fetched_inj d L r fi hd fs)) _ fo hmem).trans ?_
  rw [hrow]
  have hw := View.write_emb_of_mem (Val := Elt F)
    (v := (oAll).view.slice (S180224x128.rowRect gathers_S180224x128_S512x128.axis (j gathers_S180224x128_S512x128.axis))) fo
    (SparseCore.scatterRowPayload (F := F) (thr d L) rV gathers_S180224x128_S512x128 (rowsIn d L r fv fr) k)
    (Finset.mem_univ (S180224x128.rowProj gathers_S180224x128_S512x128.axis j))
  rw [row_emb, cast_eq, payload_eq] at hw
  refine hw.trans ?_
  refine (fetched_row d L r fv fr k (j 1)).trans ?_
  unfold placed
  rw [wordFor_eq hd hk]

theorem left_eq (r : Fin 11) (fi : Buf (Elt F) (iLoc d)) (hd : Distinct (F := F) fi) (fv : Buf (Elt F) (vLoc d)) (fo : Buf (Elt F) (oLoc d))
    (fs : Buf (Elt F) ((thr d L).loc cc2_scratch0)) (fr : Buf (Elt F) ((thr d L).loc cc2_scratch1))
    (hin : ∀ x, (listIn d L r fi fs x).toNat < S180224x128.size gathers_S180224x128_S512x128.axis) :
    ((oAll).view.loc (thr d L) ↦[SparseCore.namedRows (thr d L) (oAll).view gathers_S180224x128_S512x128.axis
        (SparseCore.rows (F := F) (o := 512) (listIn d L r fi fs) rfl hin)]{fullShare}
      SparseCore.scatterBuf (thr d L) (oAll).view gathers_S180224x128_S512x128.axis
        (SparseCore.rows (F := F) (o := 512) (listIn d L r fi fs) rfl hin)
        (SparseCore.scatterRowPayload (F := F) (thr d L) rV gathers_S180224x128_S512x128 (rowsIn d L r fv fr)) fo : sProp 𝕄)
      = oLoc d ↦[owned fi L r]{fullShare} placed fv fi := by
  rw [named_eq]
  exact pointsTo_congr (written_eq d L r fi hd fv fo fs fr hin)

variable [FloatOps F]

set_option maxHeartbeats 4000000 in
theorem chunk_spec (r : Fin 11) (a b : DmaSems sig S_) (ha : (SemLoc.dma a.sem : SemLoc sig).isScoped .scVector = true)
    (hb : (SemLoc.dma b.sem : SemLoc sig).isScoped .scVector = true) (hab : b.sem ≠ a.sem) (hac : cc2_scratch2.sem ≠ a.sem)
    (hbc : cc2_scratch2.sem ≠ b.sem)
    (qi qv : PosShare TreeShare) (fi : Buf (Elt F) (iLoc d)) (fv : Buf (Elt F) (vLoc d)) (fo : Buf (Elt F) (oLoc d))
    (hi : ∀ n : Fin 180224, (fi (ix1 (n0 := 180224) n)).toNat < 180224) (hd : Distinct (F := F) fi)
    (O : CellTallies nD τ sig (HIx 2)) (W : Waits sig (HIx 2)) (hO : ∀ g, O g none = 0) :
    (iprop(levAts (K (F := F)).L (K (F := F)).lev
        ∗ (iLoc d ↦{qi} fi) ∗ (vLoc d ↦{qv} fv) ∗ (oLoc d ↦[owned fi L r]{fullShare} fo)
        ∗ (∃ f, (thr d L).loc cc2_scratch0 ↦{fullShare} f) ∗ (∃ f, (thr d L).loc cc2_scratch1 ↦{fullShare} f)
        ∗ ownSems0 (thr d L) ∗ owes (thr d L) O W) : sProp 𝕄)
      ⊢ wp frame (wpE (defs₀ (F := F)) 𝒱₀ (thr d L) none) Set.univ (chunk L r a b)
          fun _ => iprop((iLoc d ↦{qi} fi) ∗ (vLoc d ↦{qv} fv) ∗ (oLoc d ↦[owned fi L r]{fullShare} placed fv fi)
            ∗ (∃ f, (thr d L).loc cc2_scratch0 ↦{fullShare} f) ∗ (∃ f, (thr d L).loc cc2_scratch1 ↦{fullShare} f)
            ∗ ownSems0 (thr d L) ∗ ∃ W', ⌜∀ p ∈ W', p ∈ W ∨ p.2 = none⌝ ∗ owes (thr d L) O W') := by
  unfold chunk
  rw [ownSems0_three (thr d L) (.dma a.sem) (.dma b.sem) (.dma cc2_scratch2.sem) ha hb (show (SemLoc.dma cc2_scratch2.sem : SemLoc sig).isScoped .scVector = true by decide)
    (fun e => hab (SemLoc.dma.inj e)) (fun e => hac (SemLoc.dma.inj e)) (fun e => hbc (SemLoc.dma.inj e))]
  iintro ⟨#Hlv, Hi, Hv, Ho, ⟨%fs, Hs⟩, ⟨%fr, Hr⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_i (F := F) d L _ _).symm) $$ Hi
  ihave Hv' := (Entails.of_eq (pts_v (F := F) d L _ _).symm) $$ Hv
  ihave Hs' := (Entails.of_eq (pts_s (F := F) d L _).symm) $$ Hs
  ihave Hr' := (Entails.of_eq (pts_r (F := F) d L _).symm) $$ Hr
  sl_exec
  have hrs : (rV).view.set = Finset.univ := View.set_whole _
  have hss : (sV).view.set = Finset.univ := View.set_whole _
  have hin := fetched_lt d L r fi hi fs
  have hinj := SparseCore.rows_injective (F := F) (hn := (rfl : S512.numel = 512)) (h := hin) (fetched_inj d L r fi hd fs)
  ihave Hr2 := (Entails.of_eq (show ((rV).view.loc (thr d L) ↦{fullShare} View.write (Elt F) (rV).view fr (chunk_spec.sl.dma0_1 d L r fv) Finset.univ : sProp 𝕄)
      = (rV).view.loc (thr d L) ↦[(rV).view.set]{fullShare} rowsIn d L r fv fr by rw [hrs]; rfl)) $$ Hr'
  ihave Hs2 := (Entails.of_eq (show ((sV).view.loc (thr d L) ↦{fullShare} View.write (Elt F) (sV).view fs (chunk_spec.sl.dma0 d L r fi) Finset.univ : sProp 𝕄)
      = (sV).view.loc (thr d L) ↦[(sV).view.set]{fullShare} View.write (Elt F) (sV).view fs ((iCh L r).view.read (Elt F) fi) Finset.univ
      by rw [hss]; rfl)) $$ Hs'
  ihave Ho2 := (Entails.of_eq (show (oLoc d ↦[owned fi L r]{fullShare} fo : sProp 𝕄)
      = (oAll).view.loc (thr d L) ↦[SparseCore.namedRows (thr d L) (oAll).view gathers_S180224x128_S512x128.axis
          (SparseCore.rows (F := F) (o := 512) (listIn d L r fi fs) rfl hin)]{fullShare} fo by rw [named_eq])) $$ Ho
  iapply (SparseCore.wp_indirectScatterLocal countersEmb 𝒱₀ (thr d L) none (src := rV) (dst := oAll) (hg := gathers_S180224x128_S512x128) (offs := sV)
      (default : HIx 2) (rV).view.dmaCredit (by decide) hin hinj
      (SparseCore.sum_scatterCredit_eq_srcCredit (thr d L) rV oAll gathers_S180224x128_S512x128 rfl _ (fun _ => rfl) (fun _ => rfl))) $$ [Hr2 Ho2 Hs2 HsemC]
  · isplitl [Hr2]; · iexact Hr2
    isplitl [Ho2]; · iexact Ho2
    isplitl [Hs2]; · iexact Hs2
    iexact HsemC
  iintro Hfl
  unfold SparseCore.waitIndirectScatter
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Ho', Hr', Hs'⟩, HsemC, HO⟩
  ihave Hr3 := (Entails.of_eq (show ((rV).view.loc (thr d L) ↦[(rV).view.set]{fullShare} _ : sProp 𝕄)
      = (rV).view.loc (thr d L) ↦{fullShare} _ by rw [hrs])) $$ Hr'
  ihave Hs3 := (Entails.of_eq (show ((sV).view.loc (thr d L) ↦[(sV).view.set]{fullShare} _ : sProp 𝕄)
      = (sV).view.loc (thr d L) ↦{fullShare} _ by rw [hss])) $$ Hs'
  sl_step
  isplitl [Hi']; · iexact Hi'
  isplitl [Hv']; · iexact Hv'
  isplitl [Ho']
  · iapply (Entails.of_eq (left_eq d L r fi hd fv fo fs fr hin)); iexact Ho'
  isplitl [Hs3]; · iexists _; iexact Hs3
  isplitl [Hr3]; · iexists _; iexact Hr3
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

theorem semA_scoped : ∀ r, (SemLoc.dma (semA r).sem : SemLoc sig).isScoped .scVector = true := by decide
theorem semB_scoped : ∀ r, (SemLoc.dma (semB r).sem : SemLoc sig).isScoped .scVector = true := by decide
theorem semB_ne_semA : ∀ r, (semB r).sem ≠ (semA r).sem := by decide
theorem sem_ne_semA : ∀ r, cc2_scratch2.sem ≠ (semA r).sem := by decide
theorem sem_ne_semB : ∀ r, cc2_scratch2.sem ≠ (semB r).sem := by decide

/-- The chunks of any list of distinct numbers leave the rows they own at the scattered array. -/
theorem chunks_spec (qi qv : PosShare TreeShare) (fi : Buf (Elt F) (iLoc d)) (fv : Buf (Elt F) (vLoc d)) (fo : Buf (Elt F) (oLoc d))
    (hi : ∀ n : Fin 180224, (fi (ix1 (n0 := 180224) n)).toNat < 180224) (hd : Distinct (F := F) fi) (O : CellTallies nD τ sig (HIx 2)) (hO : ∀ g, O g none = 0) :
    ∀ (l : List (Fin 11)) (_ : l.Nodup) (W : Waits sig (HIx 2)),
    (iprop(levAts (K (F := F)).L (K (F := F)).lev
        ∗ (iLoc d ↦{qi} fi) ∗ (vLoc d ↦{qv} fv) ∗ (bigSep l.toFinset fun r => oLoc d ↦[owned fi L r]{fullShare} fo)
        ∗ (∃ f, (thr d L).loc cc2_scratch0 ↦{fullShare} f) ∗ (∃ f, (thr d L).loc cc2_scratch1 ↦{fullShare} f)
        ∗ ownSems0 (thr d L) ∗ owes (thr d L) O W) : sProp 𝕄)
      ⊢ wp frame (wpE (defs₀ (F := F)) 𝒱₀ (thr d L) none) Set.univ (chunks L l)
          fun _ => iprop((iLoc d ↦{qi} fi) ∗ (vLoc d ↦{qv} fv) ∗ (bigSep l.toFinset fun r => oLoc d ↦[owned fi L r]{fullShare} placed fv fi)
            ∗ (∃ f, (thr d L).loc cc2_scratch0 ↦{fullShare} f) ∗ (∃ f, (thr d L).loc cc2_scratch1 ↦{fullShare} f)
            ∗ ownSems0 (thr d L) ∗ ∃ W', ⌜∀ p ∈ W', p ∈ W ∨ p.2 = none⌝ ∗ owes (thr d L) O W')
  | [], _, W => by
    simp only [chunks, List.foldr_nil, List.toFinset_nil, bigSep_empty]
    rw [wp_pure]
    iintro ⟨-, Hi, Hv, Ho, Hs, Hr, Hsems, HO⟩
    imodintro
    isplitl [Hi]; · iexact Hi
    isplitl [Hv]; · iexact Hv
    isplitl [Ho]; · iexact Ho
    isplitl [Hs]; · iexact Hs
    isplitl [Hr]; · iexact Hr
    isplitl [Hsems]; · iexact Hsems
    iexists W; isplitr
    · ipureintro; exact fun p hp => .inl hp
    · iexact HO
  | r :: l, hl, W => by
    have hr : r ∉ l.toFinset := fun h => (List.nodup_cons.mp hl).1 (List.mem_toFinset.mp h)
    rw [show chunks (F := F) L (r :: l) = chunk L r (semA r) (semB r) >>= fun _ => chunks L l from rfl, wp_bind,
      List.toFinset_cons, SparseCore.bigSep_insert' hr, SparseCore.bigSep_insert' hr]
    iintro ⟨#Hlv, Hi, Hv, ⟨Ho, Hos⟩, Hs, Hr, Hsems, HO⟩
    iapply wp_wand_r
    isplitl [Hi Hv Ho Hs Hr Hsems HO]
    · iapply chunk_spec d L r (semA r) (semB r) (semA_scoped r) (semB_scoped r) (semB_ne_semA r) (sem_ne_semA r) (sem_ne_semB r)
        qi qv fi fv fo hi hd O W hO
      isplitr; · iexact Hlv
      isplitl [Hi]; · iexact Hi
      isplitl [Hv]; · iexact Hv
      isplitl [Ho]; · iexact Ho
      isplitl [Hs]; · iexact Hs
      isplitl [Hr]; · iexact Hr
      isplitl [Hsems]; · iexact Hsems
      iexact HO
    iintro %_ ⟨Hi, Hv, Ho, Hs, Hr, Hsems, %W₁, %hW₁, HO⟩
    iapply wp_wand_r
    isplitl [Hi Hv Hos Hs Hr Hsems HO]
    · iapply chunks_spec qi qv fi fv fo hi hd O hO l (List.nodup_cons.mp hl).2 W₁
      isplitr; · iexact Hlv
      isplitl [Hi]; · iexact Hi
      isplitl [Hv]; · iexact Hv
      isplitl [Hos]; · iexact Hos
      isplitl [Hs]; · iexact Hs
      isplitl [Hr]; · iexact Hr
      isplitl [Hsems]; · iexact Hsems
      iexact HO
    iintro %_ ⟨Hi, Hv, Hos, Hs, Hr, Hsems, %W₂, %hW₂, HO⟩
    isplitl [Hi]; · iexact Hi
    isplitl [Hv]; · iexact Hv
    isplitl [Ho Hos]; · isplitl [Ho] <;> [iexact Ho; iexact Hos]
    isplitl [Hs]; · iexact Hs
    isplitl [Hr]; · iexact Hr
    isplitl [Hsems]; · iexact Hsems
    iexists W₂; isplitr
    · ipureintro; exact fun p hp => (hW₂ p hp).elim (hW₁ p) .inr
    · iexact HO

end Tile

end Cert.Proof.Scatter

end
-- ==== Proof.Place.lean ====
/-
  How the row scatter is dealt out: each SparseCore takes a share of the list and of the values and the rows of the output
  that its tasks' words name, each task a share and the rows its chunks' words name. Where the words are distinct rows of
  the output these rows are all of it, each once, and what comes back is the whole scattered array.
-/
module

public import Idealize.ShloMosaic.Lib.ShareLeaves
public import proofs.«01_k».proof.Proof.Scatter

@[expose] public section

noncomputable section

namespace Cert.Proof.Scatter

open Cert.KernelIdeal Cert.KernelIdeal.Gen Cert.Proof.Calls

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The rows of the output, by core, task and chunk -/

/-- The grid point of core `c` and subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- A chunk's number and a word of it, for every word of the list. -/
theorem word_surj (n : Fin 180224) : ∃ (c : Fin 2) (s : Fin 16) (r : Fin 11) (x : Fin 512), word (coordsV c s) r x = n := by
  have h := n.isLt
  refine ⟨⟨n.val % 11264 / 5632, by omega⟩, ⟨n.val / 11264, by omega⟩, ⟨n.val % 5632 / 512, by omega⟩, ⟨n.val % 512, by omega⟩, Fin.ext ?_⟩
  show 11264 * (n.val / 11264) + 5632 * (n.val % 11264 / 5632) + 512 * (n.val % 5632 / 512) + n.val % 512 = n.val
  omega

/-- Where the words are distinct rows of the output, every row is owned. -/
theorem owned_cover {fi : S180224.Idx → Elt F .i32} (hi : ∀ n : Fin 180224, (fi (ix1 (n0 := 180224) n)).toNat < 180224) (hd : Distinct fi) :
    (Finset.univ : Finset (Fin 2 × Fin 16 × Fin 11)).biUnion (fun k => owned fi (coordsV k.1 k.2.1) k.2.2) = Finset.univ := by
  refine Finset.eq_univ_iff_forall.mpr fun j => Finset.mem_biUnion.mpr ?_
  have hinj : Function.Injective fun n : Fin 180224 => (⟨_, hi n⟩ : Fin 180224) := fun n n' h => hd _ _ (Fin.mk.inj h)
  obtain ⟨n, hn⟩ := Finite.surjective_of_injective hinj (j 0)
  obtain ⟨c, s, r, x, rfl⟩ := word_surj n
  exact ⟨(c, s, r), Finset.mem_univ _, mem_owned.mpr ⟨x, congrArg Fin.val hn⟩⟩

/-- Where the words are distinct, no row is owned twice. -/
theorem owned_disjoint {fi : S180224.Idx → Elt F .i32} (hd : Distinct fi) :
    ∀ k ∈ (Finset.univ : Finset (Fin 2 × Fin 16 × Fin 11)), ∀ k' ∈ (Finset.univ : Finset (Fin 2 × Fin 16 × Fin 11)),
    k ≠ k' → Disjoint (owned fi (coordsV k.1 k.2.1) k.2.2) (owned fi (coordsV k'.1 k'.2.1) k'.2.2) := by
  rintro ⟨c, s, r⟩ - ⟨c', s', r'⟩ - hne
  refine Finset.disjoint_left.mpr fun j hj hj' => hne ?_
  obtain ⟨x, hx⟩ := mem_owned.mp hj
  obtain ⟨x', hx'⟩ := mem_owned.mp hj'
  have h : 11264 * s.val + 5632 * c.val + 512 * r.val + x.val = 11264 * s'.val + 5632 * c'.val + 512 * r'.val + x'.val :=
    congrArg Fin.val (hd _ _ (hx.trans hx'.symm))
  have := c.isLt; have := c'.isLt; have := r.isLt; have := r'.isLt; have := x.isLt; have := x'.isLt
  refine Prod.ext (Fin.ext ?_) (Prod.ext (Fin.ext ?_) (Fin.ext ?_)) <;> dsimp only <;> omega

theorem oPts_split (d : Dev nD) (fi : Buf (Elt F) (iLoc d)) (hi : ∀ n : Fin 180224, (fi (ix1 (n0 := 180224) n)).toNat < 180224)
    (hd : Distinct (F := F) fi) (f : Buf (Elt F) (oLoc d)) :
    (oLoc d ↦{fullShare} f : sProp 𝕄)
      = bigSep Finset.univ fun c : Fin 2 => bigSep Finset.univ fun s : Fin 16 => bigSep Finset.univ fun r : Fin 11 => oLoc d ↦[owned fi (coordsV c s) r]{fullShare} f := by
  rw [← owned_cover hi hd]
  refine (pointsTo_biUnion Finset.univ (ℓ := oLoc d) (fun k : Fin 2 × Fin 16 × Fin 11 => owned fi (coordsV k.1 k.2.1) k.2.2) (owned_disjoint hd)).trans ?_
  rw [bigSep_univ_prod]
  refine bigSep_congr fun c _ => ?_
  rw [bigSep_univ_prod]

variable [FloatOps F]

/-! ## What the handshakes carry -/

section Payload

variable (vi : (d : Dev nD) → Buf (Elt F) (iLoc d)) (vv : (d : Dev nD) → Buf (Elt F) (vLoc d)) (vo : (d : Dev nD) → Buf (Elt F) (oLoc d))

/-- Core `c`'s share of the list and of the values, and the rows its tasks own of the output at `f`. -/
def corePts (d : Dev nD) (f : Buf (Elt F) (oLoc d)) (c : Fin 2) : sProp 𝕄 :=
  iprop((iLoc d ↦{leaf 1 fullShare c} vi d) ∗ (vLoc d ↦{leaf 1 fullShare c} vv d)
    ∗ bigSep Finset.univ fun s : Fin 16 => bigSep Finset.univ fun r : Fin 11 => oLoc d ↦[owned (vi d) (coordsV c s) r]{fullShare} f)

/-- The same of one task. -/
def taskPts (d : Dev nD) (f : Buf (Elt F) (oLoc d)) (c : Fin 2) (s : Fin 16) : sProp 𝕄 :=
  iprop((iLoc d ↦{leaf 4 (leaf 1 fullShare c) s} vi d) ∗ (vLoc d ↦{leaf 4 (leaf 1 fullShare c) s} vv d)
    ∗ bigSep Finset.univ fun r : Fin 11 => oLoc d ↦[owned (vi d) (coordsV c s) r]{fullShare} f)

instance corePts_storable (d : Dev nD) (f) (c) : BI.Storable (upEmb : UEmb _ 𝕄) (corePts vi vv d f c) := by unfold corePts; infer_instance
instance taskPts_storable (d : Dev nD) (f) (c) (s) : BI.Storable (upEmb : UEmb _ 𝕄) (taskPts vi vv d f c s) := by unfold taskPts; infer_instance

/-- The scattered array. -/
abbrev vp (d : Dev nD) : Buf (Elt F) (oLoc d) := placed (vv d) (vi d)

theorem core_split (d : Dev nD) (f : Buf (Elt F) (oLoc d)) (c : Fin 2) :
    corePts vi vv d f c = bigSep Finset.univ fun s : Fin 16 => taskPts vi vv d f c s := by
  unfold corePts taskPts
  rw [bigSep_sep', bigSep_sep', pointsTo_leaves Finset.univ (vi d) 4, pointsTo_leaves Finset.univ (vv d) 4]; rfl

theorem whole_split (d : Dev nD) (hi : ∀ n : Fin 180224, (vi d (ix1 (n0 := 180224) n)).toNat < 180224) (hd : Distinct (F := F) (vi d)) (f : Buf (Elt F) (oLoc d)) :
    (iprop((iLoc d ↦{fullShare} vi d) ∗ (vLoc d ↦{fullShare} vv d) ∗ oLoc d ↦{fullShare} f) : sProp 𝕄)
      = bigSep Finset.univ fun c : Fin 2 => corePts vi vv d f c := by
  unfold corePts
  rw [bigSep_sep', bigSep_sep', oPts_split d (vi d) hi hd, pointsTo_leaves Finset.univ (vi d) 1 fullShare, pointsTo_leaves Finset.univ (vv d) 1 fullShare]; rfl

/-! ## The task -/

section Tile

variable (d : Dev nD) (L : grid2.Coords)

/-- The two scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem task_spec (hF : (K (F := F)).Facts) (c : Fin 2) (s : Fin 16) (hi : ∀ n : Fin 180224, (vi d (ix1 (n0 := 180224) n)).toNat < 180224) (hd : Distinct (F := F) (vi d))
    (O : CellTallies nD τ sig (HIx 2)) (W : Waits sig (HIx 2)) (hO : ∀ g, O g none = 0) :
    (iprop(levAts (K (F := F)).L (K (F := F)).lev ∗ emp ∗ taskPts vi vv d (vo d) c s
        ∗ scopedBufs (thr d (coordsV c s)) ∗ scopedSems0 (thr d (coordsV c s)) ∗ owes (thr d (coordsV c s)) O W) : sProp 𝕄)
      ⊢ wp frame (wpE (defs₀ (F := F)) 𝒱₀ (thr d (coordsV c s)) none) Set.univ (chunks (coordsV c s) order)
          fun _ => iprop(taskPts vi vv d (vp vi vv d) c s
            ∗ scopedBufs (thr d (coordsV c s)) ∗ scopedSems0 (thr d (coordsV c s))
            ∗ ∃ W', ⌜∀ p ∈ W', p ∈ W ∨ p.2 = none ∨ p.2 = some 1⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownBufs_V]
  unfold taskPts
  iintro ⟨#Hlv, -, ⟨Hi, Hv, Ho⟩, ⟨Hs, Hr, Hbufs⟩, Hsems, HO⟩
  iapply wp_wand_r
  isplitl [Hi Hv Ho Hs Hr Hsems HO]
  · iapply chunks_spec d (coordsV c s) _ _ (vi d) (vv d) (vo d) hi hd O hO order (by decide) W
    isplitr; · iexact Hlv
    isplitl [Hi]; · iexact Hi
    isplitl [Hv]; · iexact Hv
    isplitl [Ho]; · iexact Ho
    isplitl [Hs]; · iexact Hs
    isplitl [Hr]; · iexact Hr
    isplitl [Hsems]; · iexact Hsems
    iexact HO
  iintro %_ ⟨Hi, Hv, Ho, Hs, Hr, Hsems, %W', %hW', HO⟩
  isplitl [Hi Hv Ho]
  · isplitl [Hi]; · iexact Hi
    isplitl [Hv]; · iexact Hv
    iexact Ho
  isplitl [Hs Hr Hbufs]
  · isplitl [Hs]; · iexact Hs
    isplitl [Hr]; · iexact Hr
    iexact Hbufs
  isplitl [Hsems]; · iexact Hsems
  iexists W'; isplitr
  · ipureintro; exact fun p hp => (hW' p hp).imp_right Or.inl
  · iexact HO

theorem defs₀_vector (c : Fin τ.nSC) (s : Fin τ.nSub) :
    defs₀ (F := F) (.scVector c s) 2 ()
      = SparseCore.onTile hcore2 hsub2 (fun c s => chunks (coordsV c s) order) ⟨⟩ c s := rfl

end Tile

end Payload

end Cert.Proof.Scatter

end
-- ==== Proof.Pay.lean ====
/-
  The two SparseCore calls as the launch theorem takes them: what the handshakes of each carry, and that each call's tasks
  do what those say.
-/
module

public import proofs.«01_k».proof.Proof.Launch
public import proofs.«01_k».proof.Proof.Place

@[expose] public section

noncomputable section

namespace Cert.Proof.Calls

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (vi : (d : Dev nD) → Buf (Elt F) (Gather.iLoc d)) (vx : (d : Dev nD) → Buf (Elt F) (Gather.xLoc d)) (vo : (d : Dev nD) → Buf (Elt F) (Gather.oLoc d))
variable (wi : (d : Dev nD) → Buf (Elt F) (Scatter.iLoc d)) (wv : (d : Dev nD) → Buf (Elt F) (Scatter.vLoc d)) (wo : (d : Dev nD) → Buf (Elt F) (Scatter.oLoc d))

def P : (K (F := F)).Pay (nD := nD) (Val := Elt F) (Name := ℕ) (U := UU) where
  st := fun q d c => match q with | 0 => Gather.corePts vi vx d (vo d) c | 1 => Scatter.corePts wi wv d (wo d) c
  dn := fun q d c => match q with | 0 => Gather.corePts vi vx d (Gather.vg vi vx d) c | 1 => Scatter.corePts wi wv d (Scatter.vp wi wv d) c
  go := fun q d c i => match q with | 0 => Gather.taskPts vi vx d (vo d) c i | 1 => Scatter.taskPts wi wv d (wo d) c i
  td := fun q d c i => match q with | 0 => Gather.taskPts vi vx d (Gather.vg vi vx d) c i | 1 => Scatter.taskPts wi wv d (Scatter.vp wi wv d) c i
  x := fun _ _ => iprop(emp)

instance P_storable : (P vi vx vo wi wv wo).IsStorable where
  st q d c := match q with | 0 => Gather.corePts_storable vi vx d (vo d) c | 1 => Scatter.corePts_storable wi wv d (wo d) c
  dn q d c := match q with | 0 => Gather.corePts_storable vi vx d (Gather.vg vi vx d) c | 1 => Scatter.corePts_storable wi wv d (Scatter.vp wi wv d) c
  go q d c i := match q with | 0 => Gather.taskPts_storable vi vx d (vo d) c i | 1 => Scatter.taskPts_storable wi wv d (wo d) c i
  td q d c i := match q with | 0 => Gather.taskPts_storable vi vx d (Gather.vg vi vx d) c i | 1 => Scatter.taskPts_storable wi wv d (Scatter.vp wi wv d) c i

theorem gather_split : (K (F := F)).VecSplit' (P vi vx vo wi wv wo) 0 := by
  intro d c
  show (Gather.corePts vi vx d (vo d) c : sProp 𝕄) ⊢ |={Set.univ}=> iprop(
      (bigSep Finset.univ fun s : Fin 16 => Gather.taskPts vi vx d (vo d) c s)
      ∗ ((bigSep Finset.univ fun s : Fin 16 => Gather.taskPts vi vx d (Gather.vg vi vx d) c s) -∗ Gather.corePts vi vx d (Gather.vg vi vx d) c))
  rw [Gather.core_split, Gather.core_split]
  iintro H; imodintro
  isplitl [H]; · iexact H
  iintro H; iexact H

theorem scatter_split : (K (F := F)).VecSplit' (P vi vx vo wi wv wo) 1 := by
  intro d c
  show (Scatter.corePts wi wv d (wo d) c : sProp 𝕄) ⊢ |={Set.univ}=> iprop(
      (bigSep Finset.univ fun s : Fin 16 => Scatter.taskPts wi wv d (wo d) c s)
      ∗ ((bigSep Finset.univ fun s : Fin 16 => Scatter.taskPts wi wv d (Scatter.vp wi wv d) c s) -∗ Scatter.corePts wi wv d (Scatter.vp wi wv d) c))
  rw [Scatter.core_split, Scatter.core_split]
  iintro H; imodintro
  isplitl [H]; · iexact H
  iintro H; iexact H

set_option maxRecDepth 16384 in
theorem gather_tile (hF : (K (F := F)).Facts) (hi : ∀ d j, (vi d j).toNat < 180000) :
    (K (F := F)).TileObl (D (F := F)) 𝒱 (P vi vx vo wi wv wo) v₀ 0 := by
  intro d c i O W hO _ _
  simp only [show (P vi vx vo wi wv wo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Gather.defs₀_vector]; simp only [SparseCore.onTile, hci, and_self, ↓reduceDIte]
  exact Gather.task_spec vi vx vo d hF c i (hi d) O W hO

set_option maxRecDepth 16384 in
theorem scatter_tile (hF : (K (F := F)).Facts) (hi : ∀ d (n : Fin 180224), (wi d (ix1 (n0 := 180224) n)).toNat < 180224)
    (hd : ∀ d, Scatter.Distinct (F := F) (wi d)) : (K (F := F)).TileObl (D (F := F)) 𝒱 (P vi vx vo wi wv wo) v₀ 1 := by
  intro d c i O W hO _ _
  simp only [show (P vi vx vo wi wv wo).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Scatter.defs₀_vector]; simp only [SparseCore.onTile, hci, and_self, ↓reduceDIte]
  exact Scatter.task_spec wi wv wo d hF c i (hi d) (hd d) O W hO

end Cert.Proof.Calls

end
-- ==== Proof.Region.lean ====
/-
  A TensorCore call as a step of the program: from every buffer held at some contents to the same buffers with the
  call's results in their arrays, the core's handshake state untouched. Two windows of the call may read one array.
-/
module

public import proofs.«01_k».proof.Proof.Base
public import Idealize.ShloMosaic.Lib.Pipeline.RegionArraysS
public import Idealize.ShloMosaic.Lib.Pipeline.Regions
public import Idealize.ShloMosaic.Lib.Pipeline.FrameSuffix
public import Idealize.ShloMosaic.Lib.Pipeline.FrameBody

@[expose] public section

set_option maxRecDepth 16384

noncomputable section

namespace Cert.Proof.Calls

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RegionSeg OwnSemFacts BodyObligation PLaunchFacts₀ cellOf arrRefs arrRef)
open Idealize.ShloMosaic.StableHlo (held held_sub_split held_congr)

variable {F : FTy → Type} [FloatOps F]

local notation "𝕄" => MT nD τ sig (HIx 2) (Elt F) ℕ UU ℕ

instance : (EP (F := F)).LandsIn (upEmb : UEmb _ 𝕄) := by
  unfold EP; infer_instance

/-- No unit the TensorCore owes its sequencers is at the level the call's own waits sit at. -/
theorem owed_above (c : Dev nD) (n : ℕ) (g : GSem nD τ sig) (i : HIx 2) (h : 0 < (K (F := F)).Otc c n g i) :
    i ∈ (K (F := F)).L g ∧ 0 < (K (F := F)).lev g i := by
  exact ⟨Finset.mem_univ _, lt_of_lt_of_le (Nat.succ_pos _) (SparseCore.Cfg.lev_of_Otc_pos h)⟩

/-- The semaphores of each call's staging buffers. -/
abbrev semTab : Fin 2 → List (DmaSem sig)
  | 0 => Pipeline.specSems spec1
  | 1 => Pipeline.specSems spec3

theorem phinj : Function.Injective (cellOf (nD := nD) (τ := τ) cfgs) :=
  Pipeline.cellOf_injective_of_table cfgs semTab (fun | 0 => rfl | 1 => rfl) (by decide) (by decide)

/-- The calls prefetch nothing. -/
abbrev adm (p : Fin 2) : (pcfgs (F := F) p).Adm := (cfgs p).toPCfg_adm

/-- What the waits recorded on a TensorCore before a call may be. -/
abbrev below (c : Dev nD) (b : ℕ) : Set (SemLoc sig × HIx 2) := {p | (K (F := F)).lev (SparseCore.T c, p.1) p.2 ≤ b}

/-- What the core owes across a call, its recorded waits bounded. -/
abbrev owing (b n : ℕ) (c : Dev nD) : sProp 𝕄 :=
  iprop(∃ W, ⌜(K (F := F)).WBelow (SparseCore.T c) W b⌝ ∗ owes (SparseCore.T c) ((K (F := F)).Otc c n) W)

section After

variable {cfg : Pipeline.Cfg sig Λ₀} {c : Dev nD} (dat : Dat τ (Elt F) (HIx 2) ℕ UU ℕ cfg c) (V : Valuation τ sig (Elt F))

/-- What the buffers hold after a call entered at `V`. -/
def afterCall : Valuation τ sig (Elt F) := Pipeline.withArrays cfg.spec c V fun w => dat.arrAt w cfg.N

theorem afterCall_off (S : Finset (DevRef τ sig)) : ∀ b ∈ S \ arrRefs cfg.spec, afterCall dat V b = V b := by
  intro b hb
  unfold afterCall Pipeline.withArrays
  rw [dif_neg]
  rintro ⟨w, e⟩
  exact (Finset.mem_sdiff.mp hb).2 (Finset.mem_map.mpr ⟨_, Finset.mem_image.mpr ⟨w, Finset.mem_univ _, rfl⟩, e⟩)

theorem afterCall_arr (hsh : Pipeline.SharedIn cfg.spec) (hA : ∀ w, dat.A w = V (Proc.devRef .tc (arrRef cfg.spec w))) (w : Fin cfg.W) :
    afterCall dat V (Proc.devRef .tc (arrRef cfg.spec w)) = dat.arrAt w cfg.N := dat.withArrays_arrAt hsh V hA w

/-- A buffer that is no written array keeps what it held. -/
theorem afterCall_keeps (hsh : Pipeline.SharedIn cfg.spec) (hA : ∀ w, dat.A w = V (Proc.devRef .tc (arrRef cfg.spec w)))
    (r : Ref sig .tc) (hr : ∀ w, arrRef cfg.spec w = r → (cfg.spec w).isOut = false) : afterCall dat V (Proc.devRef .tc r) = V (Proc.devRef .tc r) := by
  by_cases h : ∃ w, arrRef cfg.spec w = r
  · obtain ⟨w, rfl⟩ := h
    exact (afterCall_arr dat V hsh hA w).trans ((dat.arrAt_in w (hr w rfl) _).trans (hA w))
  · exact Pipeline.withArrays_of_ne cfg.spec c V _ r fun w e => h ⟨w, e⟩

end After

/-- The data of every call, one of them (`p`) entered with the buffers at `V` while the core owes its later handshakes. -/
structure Enters (dats : (p : Fin 2) → (c : Dev nD) → Dat τ (Elt F) (HIx 2) ℕ UU ℕ (Pipeline.pin (pcfgs (F := F)) adm p) c)
    (p : Fin 2) (V : Dev nD → Valuation τ sig (Elt F)) (b n : ℕ) : Prop where
  kit : PLaunchFacts₀ (nD := nD) (τ := τ) (pcfgs (F := F)) p
  array : ∀ c w, (dats p c).A w = V c (Proc.devRef .tc (arrRef (pcfgs (F := F) p).spec w))
  share : ∀ c w, (dats p c).q w = Pipeline.shareOf (pcfgs (F := F) p).spec w
  inv : ∀ c t, (dats p c).Φ t = Pipeline.scopedRest (pcfgs (F := F) p).spec c
  owed : ∀ c t, (dats p c).owed t = (K (F := F)).Otc c n
  recorded : ∀ c t, (dats p c).recorded t = below (F := F) c b
  body : ∀ c, BodyObligation (dats p c) (defs₀ (F := F)) 𝒱₀ none Set.univ

section Call

variable {dats : (p : Fin 2) → (c : Dev nD) → Dat τ (Elt F) (HIx 2) ℕ UU ℕ (Pipeline.pin (pcfgs (F := F)) adm p) c}
  {p : Fin 2} {V : Dev nD → Valuation τ sig (Elt F)} {b n : ℕ} (h : Enters dats p V b n)

include h

theorem entered_held (c : Dev nD) (G) (Wc : Valuation τ sig (Elt F))
    (hG : ∀ w, G w = Wc (Proc.devRef .tc (arrRef (pcfgs (F := F) p).spec w))) :
    ((dats p c).arrays G : sProp 𝕄) = held (c.tc : Thread nD τ) (arrRefs (pcfgs (F := F) p).spec) Wc := by
  rw [← (dats p c).arrBufs_eq_arrays h.kit.sharedIn h.kit.arr_whole (fun w _ => h.share c w) (fun b => Wc (Proc.devRef .tc b)) G hG]
  unfold held arrRefs Pipeline.arrBufs
  rw [bigSep_map]
  rfl

/-- After the call every window's array is what its write-backs left. -/
theorem Enters.left (c : Dev nD) (w) :
    afterCall (dats p c) (V c) (Proc.devRef .tc (arrRef (pcfgs (F := F) p).spec w)) = (dats p c).arrAt w (Pipeline.pin (pcfgs (F := F)) adm p).N :=
  afterCall_arr (dats p c) (V c) h.kit.sharedIn (h.array c) w

omit h in
/-- The call over its arrays, the core owing its later handshakes throughout. -/
def region (h : Enters dats p V b n) : RegionSeg (pcfgs (F := F)) adm dats none defs₀ 𝒱₀ (K (F := F)).L (K (F := F)).lev p where
  win := h.kit.win
  block_pos := h.kit.block_pos
  stage_whole := h.kit.stage_whole
  K := PEmpty
  osem k := k.elim
  ho := OwnSemFacts.none _
  hbody c := (h.body c).loose
  hwaits c := Pipeline.cellsWaits_of_cut (Pipeline.pin (pcfgs (F := F)) adm) dats none p c 0 ((K (F := F)).Otc c n) (h.owed c)
    (fun _ _ => Finset.mem_univ _) (fun _ _ => le_refl _) (owed_above c n)
  pre c := iprop(held (c.tc : Thread nD τ) (arrRefs (pcfgs (F := F) p).spec) (V c) ∗ owing b n c)
  post c := iprop(held (c.tc : Thread nD τ) (arrRefs (pcfgs (F := F) p).spec) (afterCall (dats p c) (V c)) ∗ owing b n c)
  X _ := BI.emp
  Y _ := BI.emp
  Z _ := BI.emp
  hentry c := by
    rw [Pipeline.ownSems0_none, Pipeline.prefHeld_of_none _ rfl, ← entered_held h c _ (V c) fun w => h.array c w]
    iintro ⟨⟨Ha, ⟨%W, %hW, HO⟩⟩, -, -⟩
    imodintro
    isplitl [Ha]; · iexact Ha
    isplitr; · iempintro
    isplitl [HO]
    · unfold Dat.owesAt Pipeline.owesWithin Dat.bound
      rw [h.owed, h.recorded]
      iexists W; isplitr; · ipureintro; exact fun p hp => Or.inl (hW p hp)
      iexact HO
    isplitr <;> iempintro
  hin c := by
    refine BIBase.Entails.trans ?_ (Entails.of_eq (h.inv c 0).symm)
    iintro ⟨-, -, Hr⟩
    iexact Hr
  hout c := by
    rw [Pipeline.ownSems0_none]
    refine BIBase.Entails.trans (Entails.of_eq (h.inv c (Fin.last _))) ?_
    iintro Hr
    isplitr; · iempintro
    isplitr; · iempintro
    iexact Hr
  hexit c := by
    iintro ⟨Ha, HO, -, -⟩
    imodintro
    isplitl [Ha]; · iapply (Entails.of_eq (entered_held h c _ (afterCall (dats p c) (V c)) fun w => (h.left c w).symm)); iexact Ha
    unfold Dat.owesAt Pipeline.owesWithin Dat.bound
    rw [h.owed, h.recorded]
    icases HO with ⟨%W, %hW, HO⟩
    iexists W; isplitr
    · ipureintro
      intro p hp
      rcases hW hp with h | ⟨w, s, rfl⟩
      · exact h
      · exact Nat.zero_le _
    iexact HO

theorem region_pre (c : Dev nD) : (region h).pre c = iprop(held (c.tc : Thread nD τ) (arrRefs (pcfgs (F := F) p).spec) (V c) ∗ owing b n c) := rfl
theorem region_post (c : Dev nD) : (region h).post c = iprop(held (c.tc : Thread nD τ) (arrRefs (pcfgs (F := F) p).spec) (afterCall (dats p c) (V c)) ∗ owing b n c) := rfl

omit h in
/-- The call, as the program around the SparseCore calls makes it. -/
abbrev call (p : Fin 2) : Prog (TpuEff nD τ sig (Elt F) (ΛP (F := F)) .tc) PUnit := Prog.lift (.customCall (Pipeline.entry p) ())

omit h in
theorem lift_call (p : Fin 2) : SparseCore.liftProg (Q := 2) (call (F := F) p) = Prog.lift (.customCall (SparseCore.inner (Pipeline.entry p)) ()) := rfl

/-- The call as a step of the program. -/
theorem wp_enter (P : (K (F := F)).Pay (nD := nD) (Val := Elt F) (Name := ℕ) (U := UU)) [∀ e, Nonempty (Elt F e)] (κ : GSem nD τ sig → ℕ) (d : Dev nD) (Φ : PUnit → sProp 𝕄) :
    iprop((K (F := F)).ctx EH P κ ∗ owing b n d ∗ boundary (d.tc : Thread nD τ) ∗ held (d.tc : Thread nD τ) (Pipeline.ucRefs τ sig) (V d)
        ∗ (Pipeline.cellsGhost (Pipeline.pin (pcfgs (F := F)) adm) EP p d ∗ Pipeline.toksInit (Pipeline.pin (pcfgs (F := F)) adm) EP p d)
        ∗ ((owing b n d ∗ boundary (d.tc : Thread nD τ) ∗ held (d.tc : Thread nD τ) (Pipeline.ucRefs τ sig) (afterCall (dats p d) (V d))) -∗ Φ ⟨⟩))
      ⊢ wp frame (wpE ((K (F := F)).defs (D (F := F))) 𝒱 (SparseCore.T d) none) Set.univ
          (Prog.lift (.customCall (SparseCore.inner (Pipeline.entry p)) ())) Φ := by
  rw [← lift_call]
  have hl := (K (F := F)).wp_liftProg (D (F := F)) 𝒱 (SparseCore.T d) (Set.univ : Set ℕ) none (call (F := F) p) Φ
  refine BIBase.Entails.trans ?_ hl
  have hsub : arrRefs (τ := τ) (pcfgs (F := F) p).spec ⊆ Pipeline.ucRefs τ sig := Pipeline.arrRefs_sub_ucRefs _ h.kit.win.arr_unscoped
  rw [held_sub_split (d.tc : Thread nD τ) hsub (V d), held_sub_split (d.tc : Thread nD τ) hsub (afterCall (dats p d) (V d)),
    held_congr (d.tc : Thread nD τ) (S := Pipeline.ucRefs τ sig \ arrRefs (pcfgs (F := F) p).spec) (V := afterCall (dats p d) (V d)) (V' := V d)
      (afterCall_off (dats p d) (V d) _)]
  have h2 := RegionSeg.wp (pcfgs (F := F)) adm dats none phinj EP defs₀ 𝒱₀ (K (F := F)).L (K (F := F)).lev (region h) d none
    (fun _ h => nomatch h) .ret Φ
  rw [region_pre, region_post] at h2
  refine BIBase.Entails.trans ?_ h2
  iintro ⟨#Hctx, HO, Hb, ⟨Ha, Hr⟩, ⟨Hg, Ht⟩, Hk⟩
  ihave Hlev := ((K (F := F)).ctx_levAts κ) $$ Hctx
  isplitl [Hk Hr]
  · iintro ⟨Hb, Ha, HO⟩
    rw [show (Prog.ret PUnit.unit : Prog (TpuEff nD τ sig (Elt F) (ΛP (F := F)) .tc) PUnit) = pure ⟨⟩ from rfl, wp_pure]
    imodintro
    iapply Hk
    isplitl [HO]; · iexact HO
    isplitl [Hb]; · iexact Hb
    isplitl [Ha]; · iexact Ha
    iexact Hr
  isplitl [Hb]; · iexact Hb
  isplitl [Ha HO]
  · isplitl [Ha]; · iexact Ha
    iexact HO
  isplitl [Hlev]; · iexact Hlev
  isplitl [Hg]; · iexact Hg
  iexact Ht

end Call

end Cert.Proof.Calls

end
-- ==== Proof.Attend.lean ====
/-
  The attention call, run on the TensorCore between the two SparseCore calls: what one grid point leaves in its
  output block, the staged windows' contents at every point, and the call as a step of the whole program.
-/
module

public import proofs.«01_k».proof.Proof.Region
public import Idealize.ShloMosaic.Lib.Pipeline.FrameBody
public import Idealize.ShloMosaic.Lib.Ring
public import Idealize.ShloMosaic.Lib.VecWindow

@[expose] public section

set_option maxRecDepth 16384

noncomputable section

namespace Cert.Proof.Calls

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## One grid point -/

set_option maxHeartbeats 1000000 in
/-- On any whole buffers holding the five inputs, the body stores its one payload over the whole output buffer. -/
theorem attn_body (c : Dev nD) (i : grid1.Coords)
    (a1 : Memref sig .tc .vmem S2400x128 .f32) (h1 : a1.IsWhole) (a2 : Memref sig .tc .vmem S8x32 .f32) (h2 : a2.IsWhole)
    (a3 : Memref sig .tc .vmem S8x32 .f32) (h3 : a3.IsWhole) (a4 : Memref sig .tc .vmem S32x32 .f32) (h4 : a4.IsWhole)
    (a5 : Memref sig .tc .vmem S64x32 .f32) (h5 : a5.IsWhole) (a6 : Memref sig .tc .vmem S8x300x32 .f32) (h6 : a6.IsWhole)
    (x0 : Vec F S2400x128 .f32) (x1 x2 : Vec F S8x32 .f32) (x3 : Vec F S32x32 .f32) (x4 : Vec F S64x32 .f32)
    (E : Set ℕ) (Q : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (k1_pay1 x0 x1 x2 x3 x4)) -∗ Q ⟨⟩))
      ⊢ wp frame (wpE (defs₀ (F := F)) 𝒱₀ c none) E (cc1__attn_body i a1 h1 a2 h2 a3 h3 a4 h4 a5 h5 a6 h6) Q := by
  simp only [cc1__attn_body_eq_skeleton]; unfold cc1__attn_body_skel
  simp only [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  obtain rfl := h1.eq_unread e0; obtain rfl := h2.eq_unread e1; obtain rfl := h3.eq_unread e2
  obtain rfl := h4.eq_unread e3; obtain rfl := h5.eq_unread e4
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  iexists _; isplitr
  swap; · iexact H5
  ipureintro
  unfold attn_body.sl.r
  rw [View.read_writes_full]
  refine congr (congr (congr (congr (congrArg k1_pay1 ?_) ?_) ?_) ?_) ?_
  exacts [(View.readAt_full _ _ _).trans e0, (View.readAt_full _ _ _).trans e1, (View.readAt_full _ _ _).trans e2,
    (View.readAt_full _ _ _).trans e3, (View.readAt_full _ _ _).trans e4]

/-! ## The call's layout -/

theorem attn_win : Pipeline.WinFacts spec1 := by decide

theorem attn_facts : Pipeline.LaunchFacts (nD := nD) (τ := τ) cfgs 0 where
  cellOf_inj := phinj
  win := attn_win
  block_pos := (by decide : ∀ w : Fin 6, 0 < (spec1 w).block.numel)
  arr_whole := fun
    | 0 => Memref.isWhole_whole _ | 1 => Memref.isWhole_whole _ | 2 => Memref.isWhole_whole _
    | 3 => Memref.isWhole_whole _ | 4 => Memref.isWhole_whole _ | 5 => Memref.isWhole_whole _
  stage_whole := fun
    | 0 => fun s => hstage1_0 (s.cast nbuf1_0) | 1 => fun s => hstage1_1 (s.cast nbuf1_1) | 2 => fun s => hstage1_2 (s.cast nbuf1_2)
    | 3 => fun s => hstage1_3 (s.cast nbuf1_3) | 4 => fun s => hstage1_4 (s.cast nbuf1_4) | 5 => fun s => hstage1_5 (s.cast nbuf1_5)

theorem attn_kit : Pipeline.PLaunchFacts₀ (nD := nD) (τ := τ) (pcfgs (F := F)) 0 := attn_facts.toP.to₀

/-! ## What the staged windows hold -/

section Call

variable (V : Dev nD → Valuation τ sig (Elt F))

/-- Window `w`'s block at point `t`, of the array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The gathered rows' block, as the staging buffer holds it: no block is cut, so the block fills it. -/
def rows (c : Dev nD) (t : Fin cfg1.N) : (cfg1.win 0).block.Idx → Elt F (cfg1.win 0).elt :=
  (cfg1.win 0).fill (cfg1.grid.coords t) (fun _ => Classical.choice inferInstance) (iblk V c 0 t)

theorem rows_uncut : ∀ t : Fin cfg1.N, ∀ a, (cfg1.win 0).xsize (cfg1.grid.coords t) a = (cfg1.win 0).size a := by decide +kernel

theorem rows_fill (t : Fin cfg1.N) (d d' : (cfg1.win 0).block.Idx → Elt F (cfg1.win 0).elt) (g) :
    (cfg1.win 0).fill (cfg1.grid.coords t) d g = (cfg1.win 0).fill (cfg1.grid.coords t) d' g := by
  have hm : ∀ j, (cfg1.win 0).moved (cfg1.grid.coords t) j = true := fun j =>
    ((cfg1.win 0).moved_iff _ j).mpr fun a => by rw [rows_uncut t a]; exact (j a).isLt
  funext j; unfold Pipeline.Window.fill; rw [dif_pos (hm j), dif_pos (hm j)]

/-- What the staging buffers hold after the body at point `t`. -/
def afterAt (c : Dev nD) (w : Fin cfg1.W) (t : Fin cfg1.N) : (cfg1.win w).block.Idx → Elt F (cfg1.win w).elt :=
  match w with
  | ⟨0, _⟩ => rows V c t
  | ⟨1, _⟩ => iblk V c 1 t
  | ⟨2, _⟩ => iblk V c 2 t
  | ⟨3, _⟩ => iblk V c 3 t
  | ⟨4, _⟩ => iblk V c 4 t
  | ⟨5, _⟩ => k1_pay1 (F := F) (rows V c t) (iblk V c 1 t) (iblk V c 2 t) (iblk V c 3 t) (iblk V c 4 t)

/-- The call's data, entered with the buffers at `V` while the core owes its later handshake. -/
def attn_dat (b : ℕ) (c : Dev nD) : Dat τ (Elt F) (HIx 2) ℕ UU ℕ cfg1 c where
  A w := V c (Proc.devRef .tc (Pipeline.arrRef spec1 w))
  after w t := afterAt V c w t
  Φ _ := Pipeline.scopedRest spec1 c
  q w := Pipeline.shareOf spec1 w
  owed _ := (K (F := F)).Otc c 1
  recorded _ := below (F := F) c b

theorem attn_A (b : ℕ) (c : Dev nD) (w : Fin cfg1.W) : (attn_dat V b c).A w = V c (Proc.devRef .tc (Pipeline.arrRef spec1 w)) := by
  dsimp only [attn_dat]
theorem attn_after (b : ℕ) (c : Dev nD) (w : Fin cfg1.W) (t : Fin cfg1.N) : (attn_dat V b c).after w t = afterAt V c w t := by
  dsimp only [attn_dat]

theorem before_rows (b : ℕ) (c : Dev nD) (t : Fin cfg1.N) (d) : (attn_dat V b c).before 0 t d = rows V c t :=
  ((attn_dat V b c).before_in_eq_fetched 0 rfl (fun _ => rfl)
      (fun t t' h => funext fun a => congrArg (fun n => Pipeline.Clip.of n ((cfg1.win 0).size a) (S180224x128.size a)) (congrFun h a))
      (fun t => by rw [attn_after]; show (cfg1.win 0).cut _ (rows V c t) = _; unfold rows; rw [Pipeline.Window.cut_fill]; unfold Dat.blockOf iblk; rw [attn_A]; try rfl) t d).trans
    (by unfold Dat.fetched rows; rw [rows_fill t d (fun _ => Classical.choice inferInstance)]; unfold Dat.blockOf iblk; rw [attn_A]; try rfl)
theorem before_1 (b : ℕ) (c : Dev nD) (t : Fin cfg1.N) (d) : (attn_dat V b c).before 1 t d = iblk V c 1 t :=
  ((attn_dat V b c).before_in_eq_fetched 1 rfl (fun _ => rfl) (fun _ _ _ => rfl) (fun t => by rw [attn_after]; unfold Dat.blockOf; rw [attn_A]; rfl) t d).trans
    (by unfold Dat.fetched Dat.blockOf iblk; rw [attn_A]; try rfl)
theorem before_2 (b : ℕ) (c : Dev nD) (t : Fin cfg1.N) (d) : (attn_dat V b c).before 2 t d = iblk V c 2 t :=
  ((attn_dat V b c).before_in_eq_fetched 2 rfl (fun _ => rfl) (fun _ _ _ => rfl) (fun t => by rw [attn_after]; unfold Dat.blockOf; rw [attn_A]; rfl) t d).trans
    (by unfold Dat.fetched Dat.blockOf iblk; rw [attn_A]; try rfl)
theorem before_3 (b : ℕ) (c : Dev nD) (t : Fin cfg1.N) (d) : (attn_dat V b c).before 3 t d = iblk V c 3 t :=
  ((attn_dat V b c).before_in_eq_fetched 3 rfl (fun _ => rfl) (fun _ _ _ => rfl) (fun t => by rw [attn_after]; unfold Dat.blockOf; rw [attn_A]; rfl) t d).trans
    (by unfold Dat.fetched Dat.blockOf iblk; rw [attn_A]; try rfl)
theorem before_4 (b : ℕ) (c : Dev nD) (t : Fin cfg1.N) (d) : (attn_dat V b c).before 4 t d = iblk V c 4 t :=
  ((attn_dat V b c).before_in_eq_fetched 4 rfl (fun _ => rfl) (fun _ _ _ => rfl) (fun t => by rw [attn_after]; unfold Dat.blockOf; rw [attn_A]; rfl) t d).trans
    (by unfold Dat.fetched Dat.blockOf iblk; rw [attn_A]; try rfl)

/-- What the buffers hold after the call. -/
def attended (b : ℕ) (c : Dev nD) : Valuation τ sig (Elt F) := afterCall (attn_dat V b c) (V c)

/-! ## The body at every point -/

theorem six {M : Type} [URA M] (Φ : Fin 6 → sProp M) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- Window `w`'s staging buffer at point `t`. -/
abbrev stg (w : Fin cfg1.W) (t : Fin cfg1.N) := (cfg1.win w).stage (cfg1.slots t w)

abbrev bodyAt (t : Fin cfg1.N) : Prog (TpuEff nD τ sig (Elt F) Λ₀ .tc) PUnit :=
  cc1__attn_body (grid1.coords t) (stg 0 t) (hstage1_0 ((cfg1.slots t 0).cast nbuf1_0)) (stg 1 t) (hstage1_1 ((cfg1.slots t 1).cast nbuf1_1))
    (stg 2 t) (hstage1_2 ((cfg1.slots t 2).cast nbuf1_2)) (stg 3 t) (hstage1_3 ((cfg1.slots t 3).cast nbuf1_3))
    (stg 4 t) (hstage1_4 ((cfg1.slots t 4).cast nbuf1_4)) (stg 5 t) (hstage1_5 ((cfg1.slots t 5).cast nbuf1_5))

theorem body_row (t : Fin cfg1.N) : defs₀ (F := F) .tc cfg1.body (cfg1.bodyArgs t (cfg1.slots t)) = bodyAt t := by
  unfold defs₀; rfl

theorem body_sound (b : ℕ) (c : Dev nD) (t : Fin cfg1.N) :
    iprop((attn_dat V b c).Φ t.castSucc ∗ (attn_dat V b c).owesAt none t.castSucc
        ∗ (∃ d, owns (c : Thread nD τ) (stg 0 t) fullShare ((attn_dat V b c).before 0 t d))
        ∗ (∃ d, owns (c : Thread nD τ) (stg 1 t) fullShare ((attn_dat V b c).before 1 t d))
        ∗ (∃ d, owns (c : Thread nD τ) (stg 2 t) fullShare ((attn_dat V b c).before 2 t d))
        ∗ (∃ d, owns (c : Thread nD τ) (stg 3 t) fullShare ((attn_dat V b c).before 3 t d))
        ∗ (∃ d, owns (c : Thread nD τ) (stg 4 t) fullShare ((attn_dat V b c).before 4 t d))
        ∗ (∃ d, owns (c : Thread nD τ) (stg 5 t) fullShare ((attn_dat V b c).before 5 t d)))
      ⊢ wp frame (wpE (defs₀ (F := F)) 𝒱₀ c none) Set.univ (bodyAt t) fun _ =>
        iprop((attn_dat V b c).Φ t.succ ∗ (attn_dat V b c).owesAt none t.succ
          ∗ owns (c : Thread nD τ) (stg 0 t) fullShare ((attn_dat V b c).after 0 t)
          ∗ owns (c : Thread nD τ) (stg 1 t) fullShare ((attn_dat V b c).after 1 t)
          ∗ owns (c : Thread nD τ) (stg 2 t) fullShare ((attn_dat V b c).after 2 t)
          ∗ owns (c : Thread nD τ) (stg 3 t) fullShare ((attn_dat V b c).after 3 t)
          ∗ owns (c : Thread nD τ) (stg 4 t) fullShare ((attn_dat V b c).after 4 t)
          ∗ owns (c : Thread nD τ) (stg 5 t) fullShare ((attn_dat V b c).after 5 t)) := by
  simp only [before_rows, before_1, before_2, before_3, before_4, attn_after]
  rw [show (attn_dat V b c).Φ t.succ = (attn_dat V b c).Φ t.castSucc from rfl,
    show (attn_dat V b c).owesAt none t.succ = (attn_dat V b c).owesAt none t.castSucc from rfl]
  iintro ⟨HΦ, Ho, ⟨%d0, H0⟩, ⟨%d1, H1⟩, ⟨%d2, H2⟩, ⟨%d3, H3⟩, ⟨%d4, H4⟩, ⟨%d5, H5⟩⟩
  iapply (attn_body c (grid1.coords t) _ _ _ _ _ _ _ _ _ _ _ _ (rows V c t) (iblk V c 1 t) (iblk V c 2 t) (iblk V c 3 t) (iblk V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (b : ℕ) (c : Dev nD) : BodyObligation (attn_dat (F := F) V b c) (defs₀ (F := F)) 𝒱₀ none Set.univ := fun t => by
  rw [six, six, show defs₀ (F := F) .tc _ _ = bodyAt t from body_row t]
  exact triple_restated (body_sound V b c t) rfl .rfl fun _ => .rfl

end Call

end Cert.Proof.Calls

end
-- ==== Proof.Project.lean ====
/-
  The projection call, run on the TensorCore after the scatter: what one grid point leaves in its output block and in the
  running sums, the staged windows' contents at every point, and the body at every point.
-/
module

public import proofs.«01_k».proof.Proof.Region
public import Idealize.ShloMosaic.Lib.Pipeline.FrameBody
public import Idealize.ShloMosaic.Lib.Ring
public import Idealize.ShloMosaic.Lib.VecWindow

@[expose] public section

set_option maxRecDepth 16384

noncomputable section

namespace Cert.Proof.Calls

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## One grid point -/

/-- At one point exactly one of the two branches runs: the one that sets the sums, or the one that adds to them. -/
def OneBranch (i : grid3.Coords) : Prop := (k3_cond1 i = 1#1 ∧ ¬ k3_cond2 i = 1#1) ∨ (¬ k3_cond1 i = 1#1 ∧ k3_cond2 i = 1#1)

/-- The sums after a point: the block's own where they are set, added to those before otherwise. -/
def sumsAfter (i : grid3.Coords) (z : Vec F S3600x64 .f32) (s : Vec F S2x64 .f32) : Vec F S2x64 .f32 :=
  if k3_cond1 i = 1#1 then k3_pay1 z else k3_pay2 z s

set_option maxHeartbeats 4000000 in
/-- On any whole buffers holding the nine inputs, the body stores its block of the product over the whole output buffer,
    and the sums over theirs. -/
theorem proj_body (c : Dev nD) (i : grid3.Coords) (hi : OneBranch i)
    (a1 : Memref sig .tc .vmem S3600x128 .f32) (h1 : a1.IsWhole) (a2 : Memref sig .tc .vmem S3600x128 .f32) (h2 : a2.IsWhole)
    (a3 : Memref sig .tc .vmem S3600x128 .f32) (h3 : a3.IsWhole) (a4 : Memref sig .tc .vmem S3600x128 .f32) (h4 : a4.IsWhole)
    (a5 : Memref sig .tc .vmem S1x64 .f32) (h5 : a5.IsWhole) (a6 : Memref sig .tc .vmem S1x64 .f32) (h6 : a6.IsWhole)
    (a7 : Memref sig .tc .vmem S64x64 .f32) (h7 : a7.IsWhole) (a8 : Memref sig .tc .vmem S1x64 .f32) (h8 : a8.IsWhole)
    (a9 : Memref sig .tc .vmem S64x128 .f32) (h9 : a9.IsWhole) (a10 : Memref sig .tc .vmem S3600x64 .f32) (h10 : a10.IsWhole)
    (a11 : Memref sig .tc .vmem S2x64 .f32) (h11 : a11.IsWhole)
    (x1 x2 x3 x4 : Vec F S3600x128 .f32) (x5 x6 : Vec F S1x64 .f32) (x7 : Vec F S64x64 .f32) (x8 : Vec F S1x64 .f32) (x9 : Vec F S64x128 .f32)
    (s : Vec F S2x64 .f32) (E : Set ℕ) (Q : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ (∃ d, owns (c : Thread nD τ) a10 fullShare d) ∗ owns (c : Thread nD τ) a11 fullShare s
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
            ∗ owns (c : Thread nD τ) a10 fullShare (k3_pay3 x1 x2 x7 x8 x3 x4 x5 x6 x9) ∗ owns (c : Thread nD τ) a11 fullShare (sumsAfter i (k3_pay3 x1 x2 x7 x8 x3 x4 x5 x6 x9) s)) -∗ Q ⟨⟩))
      ⊢ wp frame (wpE (defs₀ (F := F)) 𝒱₀ c none) E (cc3__outconv2_body i a1 h1 a2 h2 a3 h3 a4 h4 a5 h5 a6 h6 a7 h7 a8 h8 a9 h9 a10 h10 a11 h11) Q := by
  simp only [cc3__outconv2_body_eq_skeleton]; unfold cc3__outconv2_body_skel
  simp only [k3_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h11.eq_unread e11
  rcases hi with ⟨c1, c2⟩ | ⟨c1, c2⟩ <;>
    [simp only [dif_pos c1, dif_neg c2, sumsAfter, if_pos c1]; simp only [dif_neg c1, dif_pos c2, sumsAfter, if_neg c1]] <;>
    (sl_exec
     sl_step
     iapply Hk
     isplitl [H1]
     · iexists _; isplitr; · ipureintro; exact h1.read_unread _
       iexact H1
     isplitl [H2]
     · iexists _; isplitr; · ipureintro; exact h2.read_unread _
       iexact H2
     isplitl [H3]
     · iexists _; isplitr; · ipureintro; exact h3.read_unread _
       iexact H3
     isplitl [H4]
     · iexists _; isplitr; · ipureintro; exact h4.read_unread _
       iexact H4
     isplitl [H5]
     · iexists _; isplitr; · ipureintro; exact h5.read_unread _
       iexact H5
     isplitl [H6]
     · iexists _; isplitr; · ipureintro; exact h6.read_unread _
       iexact H6
     isplitl [H7]
     · iexists _; isplitr; · ipureintro; exact h7.read_unread _
       iexact H7
     isplitl [H8]
     · iexists _; isplitr; · ipureintro; exact h8.read_unread _
       iexact H8
     isplitl [H9]
     · iexists _; isplitr; · ipureintro; exact h9.read_unread _
       iexact H9
     isplitl [H10]
     · iexists _; isplitr
       swap; · iexact H10
       ipureintro
       rw [View.read_writes_full]
       show k3_pay3 _ _ _ _ _ _ _ _ _ = _
       refine congr (congr (congr (congr (congr (congr (congr (congr (congrArg k3_pay3 ?_) ?_) ?_) ?_) ?_) ?_) ?_) ?_) ?_
       exacts [(View.readAt_full _ _ _).trans e1, (View.readAt_full _ _ _).trans e2, (View.readAt_full _ _ _).trans e7, (View.readAt_full _ _ _).trans e8, (View.readAt_full _ _ _).trans e3, (View.readAt_full _ _ _).trans e4, (View.readAt_full _ _ _).trans e5, (View.readAt_full _ _ _).trans e6, (View.readAt_full _ _ _).trans e9]
     iexists _; isplitr
     swap; · iexact H11
     ipureintro
     rw [View.read_writes_full]
     first
     | refine congrArg k3_pay1 ?_
     | refine congr (congrArg k3_pay2 ?_) ((View.readAt_full _ _ _).trans e11)
     show k3_pay3 _ _ _ _ _ _ _ _ _ = _
     refine congr (congr (congr (congr (congr (congr (congr (congr (congrArg k3_pay3 ?_) ?_) ?_) ?_) ?_) ?_) ?_) ?_) ?_
     exacts [(View.readAt_full _ _ _).trans e1, (View.readAt_full _ _ _).trans e2, (View.readAt_full _ _ _).trans e7, (View.readAt_full _ _ _).trans e8, (View.readAt_full _ _ _).trans e3, (View.readAt_full _ _ _).trans e4, (View.readAt_full _ _ _).trans e5, (View.readAt_full _ _ _).trans e6, (View.readAt_full _ _ _).trans e9])

/-! ## The call's layout -/

theorem proj_facts : Pipeline.LaunchFacts₀ (nD := nD) (τ := τ) cfgs 1 where
  cellOf_inj := phinj
  win := by decide
  sharedIn := by decide
  block_pos := (by decide : ∀ w : Fin 11, 0 < (spec3 w).block.numel)
  arr_whole := fun
    | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _
  stage_whole := fun
    | 0 => fun s => hstage3_0 (s.cast nbuf3_0)
    | 1 => fun s => hstage3_1 (s.cast nbuf3_1)
    | 2 => fun s => hstage3_2 (s.cast nbuf3_2)
    | 3 => fun s => hstage3_3 (s.cast nbuf3_3)
    | 4 => fun s => hstage3_4 (s.cast nbuf3_4)
    | 5 => fun s => hstage3_5 (s.cast nbuf3_5)
    | 6 => fun s => hstage3_6 (s.cast nbuf3_6)
    | 7 => fun s => hstage3_7 (s.cast nbuf3_7)
    | 8 => fun s => hstage3_8 (s.cast nbuf3_8)
    | 9 => fun s => hstage3_9 (s.cast nbuf3_9)
    | 10 => fun s => hstage3_10 (s.cast nbuf3_10)

theorem proj_kit : Pipeline.PLaunchFacts₀ (nD := nD) (τ := τ) (pcfgs (F := F)) 1 := proj_facts.toP

/-! ## What the staged windows hold -/

/-- The sums are set at the first point and added to at every later one. -/
theorem branch_first : ∀ t : Fin cfg3.N, t.val = 0 → k3_cond1 (cfg3.grid.coords t) = 1#1 ∧ ¬ k3_cond2 (cfg3.grid.coords t) = 1#1 := by decide +kernel
theorem branch_later : ∀ t : Fin cfg3.N, t.val ≠ 0 → ¬ k3_cond1 (cfg3.grid.coords t) = 1#1 ∧ k3_cond2 (cfg3.grid.coords t) = 1#1 := by decide +kernel

theorem one_branch (t : Fin cfg3.N) : OneBranch (cfg3.grid.coords t) :=
  if h : t.val = 0 then .inl (branch_first t h) else .inr (branch_later t h)

/-- No point leaves the sums alone. -/
theorem sums_live : ∀ i : cfg3.grid.Coords, cfg3.idle 10 i = false := by decide +kernel

theorem live (w : Fin cfg3.W) (hw : (cfg3.win w).isOut = false) (i : cfg3.grid.Coords) : cfg3.idle w i = false :=
  match w, hw with
  | 0, _ => rfl | 1, _ => rfl | 2, _ => rfl | 3, _ => rfl | 4, _ => rfl | 5, _ => rfl | 6, _ => rfl | 7, _ => rfl | 8, _ => rfl
  | 9, h => absurd h (by decide) | 10, h => absurd h (by decide)

/-- The sums are written back only after the last point. -/
theorem sums_kept : ∀ t : Fin cfg3.N, t.val ≠ 24 → (cfg3.win 10).flush t = false := by decide +kernel

theorem uncut : ∀ (w : Fin cfg3.W) (t : Fin cfg3.N), ∀ a, (cfg3.win w).xsize (cfg3.grid.coords t) a = (cfg3.win w).size a := by decide +kernel

section Call

variable (V : Dev nD → Valuation τ sig (Elt F))

/-- Window `w`'s block at point `t`, as its staging buffer holds it: no block is cut, so the block fills it. -/
def staged (c : Dev nD) (w : Fin cfg3.W) (t : Fin cfg3.N) : (cfg3.win w).block.Idx → Elt F (cfg3.win w).elt :=
  (cfg3.win w).fill (cfg3.grid.coords t) (fun _ => Classical.choice inferInstance)
    (((cfg3.win w).blk t).view.read (Elt F) (V c (Proc.devRef .tc (Pipeline.arrRef spec3 w))))

theorem fill_any (w : Fin cfg3.W) (t : Fin cfg3.N) (d d' : (cfg3.win w).block.Idx → Elt F (cfg3.win w).elt) (g) :
    (cfg3.win w).fill (cfg3.grid.coords t) d g = (cfg3.win w).fill (cfg3.grid.coords t) d' g := by
  have hm : ∀ j, (cfg3.win w).moved (cfg3.grid.coords t) j = true := fun j =>
    ((cfg3.win w).moved_iff _ j).mpr fun a => by rw [uncut w t a]; exact (j a).isLt
  funext j; unfold Pipeline.Window.fill; rw [dif_pos (hm j), dif_pos (hm j)]

/-- The block of the product at point `t`. -/
def prod (c : Dev nD) (t : Fin cfg3.N) : FVec F S3600x64 .f32 :=
  k3_pay3 (F := F) (staged V c 0 t) (staged V c 1 t) (staged V c 6 t) (staged V c 7 t) (staged V c 2 t) (staged V c 3 t) (staged V c 4 t) (staged V c 5 t) (staged V c 8 t)

/-- The sums over the blocks up to point `k`. -/
def sums (c : Dev nD) : (k : ℕ) → k < cfg3.N → FVec F S2x64 .f32
  | 0, h => k3_pay1 (prod V c ⟨0, h⟩)
  | k + 1, h => k3_pay2 (prod V c ⟨k + 1, h⟩) (sums c k (Nat.lt_of_succ_lt h))

/-- What the staging buffers hold after the body at point `t`. -/
def leaves (c : Dev nD) (w : Fin cfg3.W) (t : Fin cfg3.N) : (cfg3.win w).block.Idx → Elt F (cfg3.win w).elt :=
  match w with
  | ⟨0, _⟩ => staged V c 0 t | ⟨1, _⟩ => staged V c 1 t | ⟨2, _⟩ => staged V c 2 t | ⟨3, _⟩ => staged V c 3 t | ⟨4, _⟩ => staged V c 4 t | ⟨5, _⟩ => staged V c 5 t | ⟨6, _⟩ => staged V c 6 t | ⟨7, _⟩ => staged V c 7 t | ⟨8, _⟩ => staged V c 8 t
  | ⟨9, _⟩ => prod V c t
  | ⟨10, _⟩ => sums V c t.val t.isLt

theorem leaves_in (c : Dev nD) (w : Fin cfg3.W) (hw : (cfg3.win w).isOut = false) (t : Fin cfg3.N) : leaves V c w t = staged V c w t :=
  match w, hw with
  | 0, _ => rfl | 1, _ => rfl | 2, _ => rfl | 3, _ => rfl | 4, _ => rfl | 5, _ => rfl | 6, _ => rfl | 7, _ => rfl | 8, _ => rfl
  | 9, h => absurd h (by decide) | 10, h => absurd h (by decide)

/-- The call's data, entered with the buffers at `V` while the core owes its later handshakes. -/
def proj_dat (b n : ℕ) (c : Dev nD) : Dat τ (Elt F) (HIx 2) ℕ UU ℕ cfg3 c where
  A w := V c (Proc.devRef .tc (Pipeline.arrRef spec3 w))
  after w t := leaves V c w t
  Φ _ := Pipeline.scopedRest spec3 c
  q w := Pipeline.shareOf spec3 w
  owed _ := (K (F := F)).Otc c n
  recorded _ := below (F := F) c b

variable (b n : ℕ) (c : Dev nD)

theorem proj_A (w : Fin cfg3.W) : (proj_dat V b n c).A w = V c (Proc.devRef .tc (Pipeline.arrRef spec3 w)) := by
  dsimp only [proj_dat]
theorem proj_after (w : Fin cfg3.W) (t : Fin cfg3.N) : (proj_dat V b n c).after w t = leaves V c w t := by
  dsimp only [proj_dat]

theorem same_cut (w : Fin cfg3.W) (hw : (cfg3.win w).isOut = false) (t t' : Fin cfg3.N) (h : (cfg3.win w).index t = (cfg3.win w).index t') :
    (cfg3.win w).clip (cfg3.grid.coords t) = (cfg3.win w).clip (cfg3.grid.coords t') :=
  match w, hw, h with
  | 0, _, h => funext fun a => congrArg (fun n => Pipeline.Clip.of n ((cfg3.win 0).size a) (S180224x128.size a)) (congrFun h a)
  | 1, _, h => funext fun a => congrArg (fun n => Pipeline.Clip.of n ((cfg3.win 1).size a) (S180224x128.size a)) (congrFun h a)
  | 2, _, _ => rfl | 3, _, _ => rfl | 4, _, _ => rfl | 5, _, _ => rfl | 6, _, _ => rfl | 7, _, _ => rfl | 8, _, _ => rfl
  | 9, h, _ => absurd h (by decide) | 10, h, _ => absurd h (by decide)

/-- An input window holds its block at every point. -/
theorem before_staged (w : Fin cfg3.W) (hw : (cfg3.win w).isOut = false) (t : Fin cfg3.N) (d) : (proj_dat V b n c).before w t d = staged V c w t :=
  ((proj_dat V b n c).before_in_eq_fetched w hw (live w hw) (same_cut w hw)
      (fun t => by rw [proj_after, leaves_in V c w hw]; unfold staged; rw [Pipeline.Window.cut_fill]; unfold Dat.blockOf; rw [proj_A]) t d).trans
    (by unfold Dat.fetched staged; rw [fill_any w t d (fun _ => Classical.choice inferInstance)]; unfold Dat.blockOf; rw [proj_A])

/-- The sums the body leaves, from those it finds. -/
theorem sums_step (t : Fin cfg3.N) (d) :
    sumsAfter (cfg3.grid.coords t) (prod V c t) ((proj_dat V b n c).before 10 t d) = sums V c t.val t.isLt := by
  obtain ⟨k, hk⟩ := t
  cases k with
  | zero => unfold sumsAfter; rw [if_pos (branch_first ⟨0, hk⟩ rfl).1]; rfl
  | succ k =>
    unfold sumsAfter
    rw [if_neg (branch_later ⟨k + 1, hk⟩ (Nat.succ_ne_zero k)).1,
      (proj_dat V b n c).before_out_kept 10 rfl ⟨k + 1, hk⟩ (Nat.succ_ne_zero k)
        (sums_kept _ (by have : k + 1 < 25 := hk; show k + 1 - 1 ≠ 24; omega)) sums_live (fun _ _ => rfl), proj_after]
    rfl

/-! ## The body at every point -/

theorem eleven {M : Type} [URA M] (Φ : Fin 11 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), 1, 2, 3, 4, 5, 6, 7, 8, 9, 10] (by decide) (by decide) Φ

/-- Window `w`'s staging buffer at point `t`. -/
abbrev stg3 (w : Fin cfg3.W) (t : Fin cfg3.N) := (cfg3.win w).stage (cfg3.slots t w)

abbrev projAt (t : Fin cfg3.N) : Prog (TpuEff nD τ sig (Elt F) Λ₀ .tc) PUnit :=
  cc3__outconv2_body (grid3.coords t) (stg3 0 t) (hstage3_0 ((cfg3.slots t 0).cast nbuf3_0))
    (stg3 1 t) (hstage3_1 ((cfg3.slots t 1).cast nbuf3_1))
    (stg3 2 t) (hstage3_2 ((cfg3.slots t 2).cast nbuf3_2))
    (stg3 3 t) (hstage3_3 ((cfg3.slots t 3).cast nbuf3_3))
    (stg3 4 t) (hstage3_4 ((cfg3.slots t 4).cast nbuf3_4))
    (stg3 5 t) (hstage3_5 ((cfg3.slots t 5).cast nbuf3_5))
    (stg3 6 t) (hstage3_6 ((cfg3.slots t 6).cast nbuf3_6))
    (stg3 7 t) (hstage3_7 ((cfg3.slots t 7).cast nbuf3_7))
    (stg3 8 t) (hstage3_8 ((cfg3.slots t 8).cast nbuf3_8))
    (stg3 9 t) (hstage3_9 ((cfg3.slots t 9).cast nbuf3_9))
    (stg3 10 t) (hstage3_10 ((cfg3.slots t 10).cast nbuf3_10))

theorem proj_row (t : Fin cfg3.N) : defs₀ (F := F) .tc cfg3.body (cfg3.bodyArgs t (cfg3.slots t)) = projAt t := by
  unfold defs₀; rfl

theorem proj_sound (t : Fin cfg3.N) :
    iprop((proj_dat V b n c).Φ t.castSucc ∗ (proj_dat V b n c).owesAt none t.castSucc
        ∗ (∃ d, owns (c : Thread nD τ) (stg3 0 t) fullShare ((proj_dat V b n c).before 0 t d))
        ∗ (∃ d, owns (c : Thread nD τ) (stg3 1 t) fullShare ((proj_dat V b n c).before 1 t d))
        ∗ (∃ d, owns (c : Thread nD τ) (stg3 2 t) fullShare ((proj_dat V b n c).before 2 t d))
        ∗ (∃ d, owns (c : Thread nD τ) (stg3 3 t) fullShare ((proj_dat V b n c).before 3 t d))
        ∗ (∃ d, owns (c : Thread nD τ) (stg3 4 t) fullShare ((proj_dat V b n c).before 4 t d))
        ∗ (∃ d, owns (c : Thread nD τ) (stg3 5 t) fullShare ((proj_dat V b n c).before 5 t d))
        ∗ (∃ d, owns (c : Thread nD τ) (stg3 6 t) fullShare ((proj_dat V b n c).before 6 t d))
        ∗ (∃ d, owns (c : Thread nD τ) (stg3 7 t) fullShare ((proj_dat V b n c).before 7 t d))
        ∗ (∃ d, owns (c : Thread nD τ) (stg3 8 t) fullShare ((proj_dat V b n c).before 8 t d))
        ∗ (∃ d, owns (c : Thread nD τ) (stg3 9 t) fullShare ((proj_dat V b n c).before 9 t d))
        ∗ (∃ d, owns (c : Thread nD τ) (stg3 10 t) fullShare ((proj_dat V b n c).before 10 t d)))
      ⊢ wp frame (wpE (defs₀ (F := F)) 𝒱₀ c none) Set.univ (projAt t) fun _ =>
        iprop((proj_dat V b n c).Φ t.succ ∗ (proj_dat V b n c).owesAt none t.succ
          ∗ owns (c : Thread nD τ) (stg3 0 t) fullShare ((proj_dat V b n c).after 0 t)
          ∗ owns (c : Thread nD τ) (stg3 1 t) fullShare ((proj_dat V b n c).after 1 t)
          ∗ owns (c : Thread nD τ) (stg3 2 t) fullShare ((proj_dat V b n c).after 2 t)
          ∗ owns (c : Thread nD τ) (stg3 3 t) fullShare ((proj_dat V b n c).after 3 t)
          ∗ owns (c : Thread nD τ) (stg3 4 t) fullShare ((proj_dat V b n c).after 4 t)
          ∗ owns (c : Thread nD τ) (stg3 5 t) fullShare ((proj_dat V b n c).after 5 t)
          ∗ owns (c : Thread nD τ) (stg3 6 t) fullShare ((proj_dat V b n c).after 6 t)
          ∗ owns (c : Thread nD τ) (stg3 7 t) fullShare ((proj_dat V b n c).after 7 t)
          ∗ owns (c : Thread nD τ) (stg3 8 t) fullShare ((proj_dat V b n c).after 8 t)
          ∗ owns (c : Thread nD τ) (stg3 9 t) fullShare ((proj_dat V b n c).after 9 t)
          ∗ owns (c : Thread nD τ) (stg3 10 t) fullShare ((proj_dat V b n c).after 10 t)) := by
  simp only [before_staged V b n c 0 rfl, before_staged V b n c 1 rfl, before_staged V b n c 2 rfl, before_staged V b n c 3 rfl, before_staged V b n c 4 rfl, before_staged V b n c 5 rfl, before_staged V b n c 6 rfl, before_staged V b n c 7 rfl, before_staged V b n c 8 rfl, proj_after]
  rw [show (proj_dat V b n c).Φ t.succ = (proj_dat V b n c).Φ t.castSucc from rfl,
    show (proj_dat V b n c).owesAt none t.succ = (proj_dat V b n c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [show leaves V c 10 t = sumsAfter (cfg3.grid.coords t) (prod V c t) ((proj_dat V b n c).before 10 t d10) from (sums_step V b n c t d10).symm]
  iapply (proj_body c (grid3.coords t) (one_branch t) _ _ _ _ _ _ _ _ _ _ _ _ _ _ _ _ _ _ _ _ _ _ (staged V c 0 t) (staged V c 1 t) (staged V c 2 t) (staged V c 3 t) (staged V c 4 t) (staged V c 5 t) (staged V c 6 t) (staged V c 7 t) (staged V c 8 t)
    ((proj_dat V b n c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem always (w : Fin 11) (i : grid3.Coords) : idle3 w i = false :=
  match w with
  | 0 => rfl | 1 => rfl | 2 => rfl | 3 => rfl | 4 => rfl | 5 => rfl | 6 => rfl | 7 => rfl | 8 => rfl | 9 => rfl
  | 10 => sums_live i

theorem proj_obligation : BodyObligation (proj_dat (F := F) V b n c) (defs₀ (F := F)) 𝒱₀ none Set.univ := fun t => by
  simp only [always]
  rw [eleven, eleven, show defs₀ (F := F) .tc _ _ = projAt t from proj_row t]
  exact triple_restated (proj_sound V b n c t) rfl .rfl fun _ => .rfl

/-- What the buffers hold after the call. -/
def projected : Valuation τ sig (Elt F) := afterCall (proj_dat V b n c) (V c)

end Call

end Cert.Proof.Calls

end
-- ==== Proof.Steps.lean ====
/-
  The two TensorCore calls of the program side by side, and what each needs to be run as a step of it.
-/
module

public import proofs.«01_k».proof.Proof.Attend
public import proofs.«01_k».proof.Proof.Project

@[expose] public section

set_option maxRecDepth 16384

noncomputable section

namespace Cert.Proof.Calls

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-- Both calls' data: the attention call's entered at `V`, the projection's at `V'`, the core owing what it owes after one
    and after two SparseCore calls. -/
def pdats (V V' : Dev nD → Valuation τ sig (Elt F)) (b b' : ℕ) (p : Fin 2) (c : Dev nD) :
    Dat τ (Elt F) (HIx 2) ℕ UU ℕ (Pipeline.pin (pcfgs (F := F)) adm p) c :=
  match p with
  | 0 => attn_dat V b c
  | 1 => proj_dat V' b' 2 c

theorem enters_attend (V V' : Dev nD → Valuation τ sig (Elt F)) (b b' : ℕ) : Enters (pdats V V' b b') 0 V b 1 where
  kit := attn_kit
  array c w := attn_A V b c w
  share _ _ := by dsimp only [pdats]; rfl
  inv _ _ := by dsimp only [pdats]; rfl
  owed _ _ := by dsimp only [pdats]; rfl
  recorded _ _ := by dsimp only [pdats]; rfl
  body c := body_obligation V b c

theorem enters_project (V V' : Dev nD → Valuation τ sig (Elt F)) (b b' : ℕ) : Enters (pdats V V' b b') 1 V' b' 2 where
  kit := proj_kit
  array c w := proj_A V' b' 2 c w
  share _ _ := by dsimp only [pdats]; rfl
  inv _ _ := by dsimp only [pdats]; rfl
  owed _ _ := by dsimp only [pdats]; rfl
  recorded _ _ := by dsimp only [pdats]; rfl
  body c := proj_obligation V' b' 2 c

end Cert.Proof.Calls

end
-- ==== Proof.Run.lean ====
/-
  The run of the program: the host operations that make the two lists of rows, the SparseCore call that gathers, the
  attention call, the host operations that lay its values out, the SparseCore call that scatters, the projection call, the
  slices that drop the padding. From any memory in which every word of the gather's list names a row of the table, and the
  words of the scatter's list are distinct rows of its output, the program ends, and each of its buffers holds what these
  operations and the four calls make of the launch memory.
-/
module

public import Idealize.ShloMosaic.Lib.Pipeline.Frame
public import proofs.«01_k».proof.Proof.Pay
public import proofs.«01_k».proof.Proof.Steps

@[expose] public section

noncomputable section

namespace Cert.Proof.Calls

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## @main as lists of operations around the call -/

/-- The operations that make the list of rows, up to the lookup of the pixel numbers. -/
def opsA : List (HloOp τ sig (Elt F)) :=
  [ binary main_arg3 main_arg4 main_v0 ((fun a b => concatenate S90000 0 [⟨S45000, a⟩, ⟨S45000, b⟩] concatenates_S45000_S45000_S90000_d0) : (⟨S45000, .i32⟩ : BufTy).Contents (Elt F) → (⟨S45000, .i32⟩ : BufTy).Contents (Elt F) → (⟨S90000, .i32⟩ : BufTy).Contents (Elt F))
  , nullary main_v1 (iotaInDim S300 32 0)
  , nullary main_c (constantI S_ 32 150#32)
  , unary main_c main_v2 (broadcastInDim S300 ![] bcast_S_S300 : (⟨S_, .i32⟩ : BufTy).Contents (Elt F) → (⟨S300, .i32⟩ : BufTy).Contents (Elt F))
  , binary main_v1 main_v2 main_v3 (cmpi .sge : (⟨S300, .i32⟩ : BufTy).Contents (Elt F) → (⟨S300, .i32⟩ : BufTy).Contents (Elt F) → (⟨S300, .i1⟩ : BufTy).Contents (Elt F))
  , unary main_v3 main_v4 ((extui 32 · natLt_1_32) : (⟨S300, .i1⟩ : BufTy).Contents (Elt F) → (⟨S300, .i32⟩ : BufTy).Contents (Elt F))
  , nullary main_c_0 (constantI S_ 32 45000#32)
  , unary main_c_0 main_v5 (broadcastInDim S300 ![] bcast_S_S300 : (⟨S_, .i32⟩ : BufTy).Contents (Elt F) → (⟨S300, .i32⟩ : BufTy).Contents (Elt F))
  , binary main_v4 main_v5 main_v6 (muli : (⟨S300, .i32⟩ : BufTy).Contents (Elt F) → (⟨S300, .i32⟩ : BufTy).Contents (Elt F) → (⟨S300, .i32⟩ : BufTy).Contents (Elt F))
  , unary main_v6 main_v7 (broadcastInDim S1x300x1 ![1] bcast_S300_S1x300x1_1 : (⟨S300, .i32⟩ : BufTy).Contents (Elt F) → (⟨S1x300x1, .i32⟩ : BufTy).Contents (Elt F))
  , unary main_v7 main_v8 (broadcastInDim S2x300x300 ![0, 1, 2] bcast_S1x300x1_S2x300x300_0_1_2 : (⟨S1x300x1, .i32⟩ : BufTy).Contents (Elt F) → (⟨S2x300x300, .i32⟩ : BufTy).Contents (Elt F))
  , binary main_arg5 main_v8 main_v9 (addi : (⟨S2x300x300, .i32⟩ : BufTy).Contents (Elt F) → (⟨S2x300x300, .i32⟩ : BufTy).Contents (Elt F) → (⟨S2x300x300, .i32⟩ : BufTy).Contents (Elt F))
  , reshape main_v9 main_v10 (rfl : (.i32 : EltTy) = .i32) shapeCasts_S2x300x300_S180000 ]

/-- The lookup of the pixel numbers in the two lists laid end to end. -/
def opsT : List (HloOp τ sig (Elt F)) :=
  [ TRef.nullary main_call0.c (constantI S_ 32 0#32)
  , TRef.unary main_call0.c main_call0.v0 (broadcastInDim S180000 ![] bcast_S_S180000)
  , TRef.binary (.of main_v10) main_call0.v0 main_call0.v1 (cmpi .slt)
  , TRef.nullary main_call0.c_0 (constantI S_ 32 90000#32)
  , TRef.unary main_call0.c_0 main_call0.v2 (broadcastInDim S180000 ![] bcast_S_S180000)
  , TRef.binary (.of main_v10) main_call0.v2 main_call0.v3 addi
  , TRef.ternary main_call0.v1 main_call0.v3 (.of main_v10) main_call0.call0.v0 select
  , TRef.unary main_call0.call0.v0 main_call0.v5 (broadcastInDim S180000x1 ![0] bcast_S180000_S180000x1_0)
  , TRef.nullary main_call0.c_1 (constantI S1 32 89999#32)
  , TRef.nullary main_call0.c_2 (constantI S_ 32 0#32)
  , TRef.unary main_call0.c_2 main_call0.v6 (broadcastInDim S180000x1 ![] bcast_S_S180000x1)
  , TRef.binary main_call0.v5 main_call0.v6 main_call0.v7 (cmpi .sge)
  , TRef.unary main_call0.c_1 main_call0.v8 (broadcastInDim S1x1 ![1] bcast_S1_S1x1_1)
  , TRef.unary main_call0.v8 main_call0.v9 (broadcastInDim S180000x1 ![0, 1] bcast_S1x1_S180000x1_0_1)
  , TRef.binary main_call0.v5 main_call0.v9 main_call0.v10 (cmpi .sle)
  , TRef.binary main_call0.v7 main_call0.v10 main_call0.v11 andi
  , TRef.nullary main_call0.c_3 (constantI S_ 1 1#1)
  , TRef.binary main_call0.v11 main_call0.c_3 main_call0.v12 (fun x v => Host.reduce IntOp.andi x v reducesTo_S180000x1_S180000_d1 h_S_)
  , TRef.binary (.of main_v0) main_call0.v5 main_call0.v13 (fun x i => Host.gather gather_S90000_S180000x1_S180000_n_0_n_n_0_1_1 x i)
  , TRef.nullary main_call0.c_4 (constantI S_ 32 2147483648#32)
  , TRef.unary main_call0.c_4 main_call0.v14 (broadcastInDim S180000 ![] bcast_S_S180000)
  , TRef.ternary main_call0.v12 main_call0.v13 main_call0.v14 main_call0.v15 select ]

/-- The operations from the looked-up pixel numbers to the two padded lists of rows. -/
def opsB : List (HloOp τ sig (Elt F)) :=
  [ reshape main_v11 main_v12 (rfl : (.i32 : EltTy) = .i32) shapeCasts_S180000_S2x300x300
  , nullary main_v13 (iotaInDim S2 32 0)
  , nullary main_c_1 (constantI S_ 32 90000#32)
  , unary main_c_1 main_v14 (broadcastInDim S2 ![] bcast_S_S2 : (⟨S_, .i32⟩ : BufTy).Contents (Elt F) → (⟨S2, .i32⟩ : BufTy).Contents (Elt F))
  , binary main_v13 main_v14 main_v15 (muli : (⟨S2, .i32⟩ : BufTy).Contents (Elt F) → (⟨S2, .i32⟩ : BufTy).Contents (Elt F) → (⟨S2, .i32⟩ : BufTy).Contents (Elt F))
  , unary main_v15 main_v16 (broadcastInDim S2x1x1 ![0] bcast_S2_S2x1x1_0 : (⟨S2, .i32⟩ : BufTy).Contents (Elt F) → (⟨S2x1x1, .i32⟩ : BufTy).Contents (Elt F))
  , unary main_v16 main_v17 (broadcastInDim S2x300x300 ![0, 1, 2] bcast_S2x1x1_S2x300x300_0_1_2 : (⟨S2x1x1, .i32⟩ : BufTy).Contents (Elt F) → (⟨S2x300x300, .i32⟩ : BufTy).Contents (Elt F))
  , binary main_v12 main_v17 main_v18 (addi : (⟨S2x300x300, .i32⟩ : BufTy).Contents (Elt F) → (⟨S2x300x300, .i32⟩ : BufTy).Contents (Elt F) → (⟨S2x300x300, .i32⟩ : BufTy).Contents (Elt F))
  , reshape main_v18 main_v19 (rfl : (.i32 : EltTy) = .i32) shapeCasts_S2x300x300_S180000
  , nullary main_c_2 (constantI S_ 32 0#32)
  , unary main_c_2 main_v20 (broadcastInDim S224 ![] bcast_S_S224 : (⟨S_, .i32⟩ : BufTy).Contents (Elt F) → (⟨S224, .i32⟩ : BufTy).Contents (Elt F))
  , binary main_v19 main_v20 main_v21 ((fun a b => concatenate S180224 0 [⟨S180000, a⟩, ⟨S224, b⟩] concatenates_S180000_S224_S180224_d0) : (⟨S180000, .i32⟩ : BufTy).Contents (Elt F) → (⟨S224, .i32⟩ : BufTy).Contents (Elt F) → (⟨S180224, .i32⟩ : BufTy).Contents (Elt F))
  , nullary main_v22 (iotaInDim S224 32 0)
  , nullary main_c_3 (constantI S_ 32 180000#32)
  , unary main_c_3 main_v23 (broadcastInDim S224 ![] bcast_S_S224 : (⟨S_, .i32⟩ : BufTy).Contents (Elt F) → (⟨S224, .i32⟩ : BufTy).Contents (Elt F))
  , binary main_v23 main_v22 main_v24 (addi : (⟨S224, .i32⟩ : BufTy).Contents (Elt F) → (⟨S224, .i32⟩ : BufTy).Contents (Elt F) → (⟨S224, .i32⟩ : BufTy).Contents (Elt F))
  , binary main_v19 main_v24 main_v25 ((fun a b => concatenate S180224 0 [⟨S180000, a⟩, ⟨S224, b⟩] concatenates_S180000_S224_S180224_d0) : (⟨S180000, .i32⟩ : BufTy).Contents (Elt F) → (⟨S224, .i32⟩ : BufTy).Contents (Elt F) → (⟨S180224, .i32⟩ : BufTy).Contents (Elt F)) ]

/-- The numbers of the groups of rows divided by the number of groups per head. -/
def opsH : List (HloOp τ sig (Elt F)) :=
  [ nullary main_v26 (iotaInDim S600 32 0)
  , nullary main_c_4 (constantI S_ 32 300#32)
  , TRef.unary (.of main_c_4 : TRef sig ⟨S_, .i32⟩) main_call1.v0 id
  , TRef.unary main_call1.v0 main_call1.v1 (broadcastInDim S600 ![] bcast_S_S600)
  , TRef.binary (.of main_v26 : TRef sig ⟨S600, .i32⟩) main_call1.v1 main_call1.v2 Host.divsi
  , TRef.unary (.of main_v26 : TRef sig ⟨S600, .i32⟩) main_call1.v3 signi
  , TRef.unary main_call1.v0 main_call1.v4 signi
  , TRef.unary main_call1.v4 main_call1.v5 (broadcastInDim S600 ![] bcast_S_S600)
  , TRef.binary main_call1.v3 main_call1.v5 main_call1.v6 (cmpi .ne)
  , TRef.unary main_call1.v0 main_call1.v7 (broadcastInDim S600 ![] bcast_S_S600)
  , TRef.binary (.of main_v26 : TRef sig ⟨S600, .i32⟩) main_call1.v7 main_call1.v8 Host.remsi
  , TRef.nullary main_call1.c (constantI S_ 32 0#32)
  , TRef.unary main_call1.c main_call1.v9 (broadcastInDim S600 ![] bcast_S_S600)
  , TRef.binary main_call1.v8 main_call1.v9 main_call1.v10 (cmpi .ne)
  , TRef.binary main_call1.v6 main_call1.v10 main_call1.v11 andi
  , TRef.nullary main_call1.c_0 (constantI S_ 32 1#32)
  , TRef.unary main_call1.c_0 main_call1.v12 (broadcastInDim S600 ![] bcast_S_S600)
  , TRef.binary main_call1.v2 main_call1.v12 main_call1.v13 subi
  , TRef.ternary main_call1.v11 main_call1.v13 main_call1.v2 main_call1.call0.v0 select ]

/-- Each group's scale and shift, looked up by its head. -/
def opsS : List (HloOp τ sig (Elt F)) :=
  [ reshape main_arg1 main_v28 (rfl : (.f32 : EltTy) = .f32) shapeCasts_S64_S2x32
  , nullary main_c_5 (constantI S_ 32 0#32)
  , unary main_c_5 main_v29 (broadcastInDim S600 ![] bcast_S_S600 : (⟨S_, .i32⟩ : BufTy).Contents (Elt F) → (⟨S600, .i32⟩ : BufTy).Contents (Elt F))
  , binary main_v27 main_v29 main_v30 (cmpi .slt : (⟨S600, .i32⟩ : BufTy).Contents (Elt F) → (⟨S600, .i32⟩ : BufTy).Contents (Elt F) → (⟨S600, .i1⟩ : BufTy).Contents (Elt F))
  , nullary main_c_6 (constantI S_ 32 2#32)
  , unary main_c_6 main_v31 (broadcastInDim S600 ![] bcast_S_S600 : (⟨S_, .i32⟩ : BufTy).Contents (Elt F) → (⟨S600, .i32⟩ : BufTy).Contents (Elt F))
  , binary main_v27 main_v31 main_v32 (addi : (⟨S600, .i32⟩ : BufTy).Contents (Elt F) → (⟨S600, .i32⟩ : BufTy).Contents (Elt F) → (⟨S600, .i32⟩ : BufTy).Contents (Elt F))
  , ternary main_v30 main_v32 main_v27 main_v33 (select : (⟨S600, .i1⟩ : BufTy).Contents (Elt F) → (⟨S600, .i32⟩ : BufTy).Contents (Elt F) → (⟨S600, .i32⟩ : BufTy).Contents (Elt F) → (⟨S600, .i32⟩ : BufTy).Contents (Elt F))
  , unary main_v33 main_v34 (broadcastInDim S600x1 ![0] bcast_S600_S600x1_0 : (⟨S600, .i32⟩ : BufTy).Contents (Elt F) → (⟨S600x1, .i32⟩ : BufTy).Contents (Elt F))
  , binary main_v28 main_v34 main_v35 ((fun x i => Host.gather gather_S2x32_S600x1_S600x32_1_0_n_n_0_1_132 x i) : (⟨S2x32, .f32⟩ : BufTy).Contents (Elt F) → (⟨S600x1, .i32⟩ : BufTy).Contents (Elt F) → (⟨S600x32, .f32⟩ : BufTy).Contents (Elt F))
  , reshape main_arg2 main_v36 (rfl : (.f32 : EltTy) = .f32) shapeCasts_S64_S2x32
  , nullary main_c_7 (constantI S_ 32 0#32)
  , unary main_c_7 main_v37 (broadcastInDim S600 ![] bcast_S_S600 : (⟨S_, .i32⟩ : BufTy).Contents (Elt F) → (⟨S600, .i32⟩ : BufTy).Contents (Elt F))
  , binary main_v27 main_v37 main_v38 (cmpi .slt : (⟨S600, .i32⟩ : BufTy).Contents (Elt F) → (⟨S600, .i32⟩ : BufTy).Contents (Elt F) → (⟨S600, .i1⟩ : BufTy).Contents (Elt F))
  , nullary main_c_8 (constantI S_ 32 2#32)
  , unary main_c_8 main_v39 (broadcastInDim S600 ![] bcast_S_S600 : (⟨S_, .i32⟩ : BufTy).Contents (Elt F) → (⟨S600, .i32⟩ : BufTy).Contents (Elt F))
  , binary main_v27 main_v39 main_v40 (addi : (⟨S600, .i32⟩ : BufTy).Contents (Elt F) → (⟨S600, .i32⟩ : BufTy).Contents (Elt F) → (⟨S600, .i32⟩ : BufTy).Contents (Elt F))
  , ternary main_v38 main_v40 main_v27 main_v41 (select : (⟨S600, .i1⟩ : BufTy).Contents (Elt F) → (⟨S600, .i32⟩ : BufTy).Contents (Elt F) → (⟨S600, .i32⟩ : BufTy).Contents (Elt F) → (⟨S600, .i32⟩ : BufTy).Contents (Elt F))
  , unary main_v41 main_v42 (broadcastInDim S600x1 ![0] bcast_S600_S600x1_0 : (⟨S600, .i32⟩ : BufTy).Contents (Elt F) → (⟨S600x1, .i32⟩ : BufTy).Contents (Elt F))
  , binary main_v36 main_v42 main_v43 ((fun x i => Host.gather gather_S2x32_S600x1_S600x32_1_0_n_n_0_1_132 x i) : (⟨S2x32, .f32⟩ : BufTy).Contents (Elt F) → (⟨S600x1, .i32⟩ : BufTy).Contents (Elt F) → (⟨S600x32, .f32⟩ : BufTy).Contents (Elt F)) ]

variable [FloatOps F]

/-- Between the calls: the values, one row of channels per place of the list. -/
def opsV : List (HloOp τ sig (Elt F)) :=
  [ reshape main_v45 main_v46 (rfl : (.f32 : EltTy) = .f32) shapeCasts_S600x300x32_S600x32x300
  , unary main_v46 main_v47 ((transpose S600x300x32 [0, 2, 1] · transposes_S600x32x300_S600x300x32_0_2_1) : (⟨S600x32x300, .f32⟩ : BufTy).Contents (Elt F) → (⟨S600x300x32, .f32⟩ : BufTy).Contents (Elt F))
  , reshape main_v47 main_v48 (rfl : (.f32 : EltTy) = .f32) shapeCasts_S600x300x32_S180000x32
  , nullary main_c_9 (constantI S_ 32 0#32)
  , TRef.unary (.of main_c_9) main_call2.v0 (sitofp .f32)
  , TRef.binary (.of main_v48 : TRef sig ⟨S180000x32, .f32⟩) main_call2.v0 main_call2.v1 (fun x v => pad S180224x128 ![0, 0] ![224, 96] ![0, 0] x v pads_S180000x32_S180224x128_02240_0960 h_S_) ]

/-- Between the scatter and the projection: the projection's scales, shifts and offsets as rows. -/
def opsD : List (HloOp τ sig (Elt F)) :=
  [ reshape main_arg1 main_v51 (rfl : (.f32 : EltTy) = .f32) shapeCasts_S64_S1x64
  , reshape main_arg2 main_v52 (rfl : (.f32 : EltTy) = .f32) shapeCasts_S64_S1x64
  , reshape main_arg9 main_v53 (rfl : (.f32 : EltTy) = .f32) shapeCasts_S64_S1x64 ]

/-- What follows the calls. -/
def opsC : List (HloOp τ sig (Elt F)) :=
  [ unary main_v44 main_v55 ((extractStridedSlice S180000x128 ![0, 0] · slices_S180224x128_S180000x128_0_0) : (⟨S180224x128, .f32⟩ : BufTy).Contents (Elt F) → (⟨S180000x128, .f32⟩ : BufTy).Contents (Elt F))
  , unary main_v50 main_v56 ((extractStridedSlice S180000x32 ![0, 0] · slices_S180224x128_S180000x32_0_0) : (⟨S180224x128, .f32⟩ : BufTy).Contents (Elt F) → (⟨S180000x32, .f32⟩ : BufTy).Contents (Elt F)) ]

/-- The operations before the calls. -/
abbrev opsBefore : List (HloOp τ sig (Elt F)) := opsA ++ opsT ++ opsB ++ opsH ++ opsS

set_option maxHeartbeats 4000000 in
theorem main_eq (d : Dev nD) :
    main (F := F) d = (seq opsBefore >>= fun _ => (sc.run d 0 >>= fun _ => (Prog.lift (.customCall (SparseCore.inner (Pipeline.entry 0)) ()) >>= fun _ => (seq opsV >>= fun _ => (sc.run d 1 >>= fun _ =>
      (seq opsD >>= fun _ => (Prog.lift (.customCall (SparseCore.inner (Pipeline.entry 1)) ()) >>= fun _ => (seq opsC >>= fun _ => pure ⟨⟩)))))))) := rfl

theorem before_bufs : (opsBefore (F := F)).Forall fun op => op.bufs ⊆ tcRefs τ sig := by
  simp [opsBefore, opsA, opsT, opsB, opsH, opsS, TRef.nullary, TRef.unary, TRef.binary, TRef.ternary]
theorem between_bufs : (opsV (F := F)).Forall fun op => op.bufs ⊆ tcRefs τ sig := by
  simp [opsV, TRef.unary, TRef.binary]
theorem rows_bufs : (opsD (F := F)).Forall fun op => op.bufs ⊆ tcRefs τ sig := by
  simp [opsD]
theorem after_bufs : (opsC (F := F)).Forall fun op => op.bufs ⊆ tcRefs τ sig := by
  simp [opsC]
theorem before_fresh : ∀ op ∈ opsBefore (F := F), op.fresh = ∅ :=
  List.forall_iff_forall_mem.mp (by unfold opsBefore opsA opsT opsB opsH opsS; repeat' constructor)
theorem between_fresh : ∀ op ∈ opsV (F := F), op.fresh = ∅ :=
  List.forall_iff_forall_mem.mp (by unfold opsV; repeat' constructor)
theorem rows_fresh : ∀ op ∈ opsD (F := F), op.fresh = ∅ :=
  List.forall_iff_forall_mem.mp (by unfold opsD; repeat' constructor)
theorem after_fresh : ∀ op ∈ opsC (F := F), op.fresh = ∅ :=
  List.forall_iff_forall_mem.mp (by unfold opsC; repeat' constructor)

/-! ## The run -/

section Run

variable (m : (ℓ : Loc nD τ sig) → Buf (Elt F) ℓ) (ρ : Dev nD → PrngReg)

/-- What the buffers hold before the gather, after it, after the attention call, before the scatter, after it,
    before the projection, after it, and at the end. -/
def val₁ (d : Dev nD) : Valuation τ sig (Elt F) := after opsBefore (launchContents m d)
def val₂ (d : Dev nD) : Valuation τ sig (Elt F) :=
  Function.update (val₁ m d) (Proc.devRef .tc main_v44) (Gather.rowsOf (F := F) (val₁ m d (Proc.devRef .tc main_arg0)) (val₁ m d (Proc.devRef .tc main_v21)))
def valₐ : Dev nD → Valuation τ sig (Elt F) := attended (val₂ m) 8
def val₃ (d : Dev nD) : Valuation τ sig (Elt F) := after opsV (valₐ m d)
def val₄ (d : Dev nD) : Valuation τ sig (Elt F) :=
  Function.update (val₃ m d) (Proc.devRef .tc main_v50) (Scatter.placed (F := F) (val₃ m d (Proc.devRef .tc main_v49)) (val₃ m d (Proc.devRef .tc main_v25)))
def val₅ (d : Dev nD) : Valuation τ sig (Elt F) := after opsD (val₄ m d)
def valₚ : Dev nD → Valuation τ sig (Elt F) := projected (val₅ m) 16 2
def val₆ (d : Dev nD) : Valuation τ sig (Elt F) := after opsC (valₚ m d)

abbrev vi (d : Dev nD) : Buf (Elt F) (Gather.iLoc d) := val₁ m d (Proc.devRef .tc main_v21)
abbrev vx (d : Dev nD) : Buf (Elt F) (Gather.xLoc d) := val₁ m d (Proc.devRef .tc main_arg0)
abbrev vo (d : Dev nD) : Buf (Elt F) (Gather.oLoc d) := val₁ m d (Proc.devRef .tc main_v44)
abbrev wi (d : Dev nD) : Buf (Elt F) (Scatter.iLoc d) := val₃ m d (Proc.devRef .tc main_v25)
abbrev wv (d : Dev nD) : Buf (Elt F) (Scatter.vLoc d) := val₃ m d (Proc.devRef .tc main_v49)
abbrev wo (d : Dev nD) : Buf (Elt F) (Scatter.oLoc d) := val₃ m d (Proc.devRef .tc main_v50)

/-- Each call's three arrays. -/
def gRefs : Finset (DevRef τ sig) := {Proc.devRef .tc main_v21, Proc.devRef .tc main_arg0, Proc.devRef .tc main_v44}
def sRefs : Finset (DevRef τ sig) := {Proc.devRef .tc main_v25, Proc.devRef .tc main_v49, Proc.devRef .tc main_v50}

theorem gRefs_sub : gRefs ⊆ Pipeline.ucRefs τ sig := by
  intro b hb
  simp only [gRefs, Finset.mem_insert, Finset.mem_singleton] at hb
  rcases hb with rfl | rfl | rfl <;>
    exact Finset.mem_filter.mpr ⟨devRef_mem_tcRefs _, by decide⟩
theorem sRefs_sub : sRefs ⊆ Pipeline.ucRefs τ sig := by
  intro b hb
  simp only [sRefs, Finset.mem_insert, Finset.mem_singleton] at hb
  rcases hb with rfl | rfl | rfl <;>
    exact Finset.mem_filter.mpr ⟨devRef_mem_tcRefs _, by decide⟩

/-- Three distinct buffers held are each held. -/
theorem held_three (d : Dev nD) (V : Valuation τ sig (Elt F)) {a b c : DevRef τ sig} (hab : a ∉ ({b, c} : Finset _)) (hbc : b ∉ ({c} : Finset _)) :
    (held (d.tc : Thread nD τ) {a, b, c} V : sProp 𝕄)
      = iprop((((d, a) : Loc nD τ sig) ↦{fullShare} V a) ∗ (((d, b) : Loc nD τ sig) ↦{fullShare} V b) ∗ ((d, c) : Loc nD τ sig) ↦{fullShare} V c) := by
  unfold held
  rw [SparseCore.bigSep_insert' hab, SparseCore.bigSep_insert' hbc, bigSep_singleton]

theorem held_g (d : Dev nD) (V : Valuation τ sig (Elt F)) :
    (held (d.tc : Thread nD τ) gRefs V : sProp 𝕄)
      = iprop((Gather.iLoc d ↦{fullShare} V (Proc.devRef .tc main_v21)) ∗ (Gather.xLoc d ↦{fullShare} V (Proc.devRef .tc main_arg0))
          ∗ Gather.oLoc d ↦{fullShare} V (Proc.devRef .tc main_v44)) := held_three d V (by decide) (by decide)
theorem held_s (d : Dev nD) (V : Valuation τ sig (Elt F)) :
    (held (d.tc : Thread nD τ) sRefs V : sProp 𝕄)
      = iprop((Scatter.iLoc d ↦{fullShare} V (Proc.devRef .tc main_v25)) ∗ (Scatter.vLoc d ↦{fullShare} V (Proc.devRef .tc main_v49))
          ∗ Scatter.oLoc d ↦{fullShare} V (Proc.devRef .tc main_v50)) := held_three d V (by decide) (by decide)

theorem held_g₁ (d : Dev nD) :
    (held (d.tc : Thread nD τ) gRefs (val₁ m d) : sProp 𝕄) = bigSep Finset.univ fun c : Fin 2 => Gather.corePts (vi m) (vx m) d (vo m d) c := by
  rw [held_g, ← Gather.whole_split]
theorem held_g₂ (d : Dev nD) :
    (held (d.tc : Thread nD τ) gRefs (val₂ m d) : sProp 𝕄)
      = bigSep Finset.univ fun c : Fin 2 => Gather.corePts (vi m) (vx m) d (Gather.vg (vi m) (vx m) d) c := by
  rw [held_g, ← Gather.whole_split, val₂, Function.update_self, Function.update_of_ne (by decide), Function.update_of_ne (by decide)]
theorem held_s₃ (d : Dev nD) (hi : ∀ n : Fin 180224, (wi m d (ix1 (n0 := 180224) n)).toNat < 180224) (hd : Scatter.Distinct (F := F) (wi m d)) :
    (held (d.tc : Thread nD τ) sRefs (val₃ m d) : sProp 𝕄) = bigSep Finset.univ fun c : Fin 2 => Scatter.corePts (wi m) (wv m) d (wo m d) c := by
  rw [held_s, ← Scatter.whole_split (hi := hi) (hd := hd)]
theorem held_s₄ (d : Dev nD) (hi : ∀ n : Fin 180224, (wi m d (ix1 (n0 := 180224) n)).toNat < 180224) (hd : Scatter.Distinct (F := F) (wi m d)) :
    (held (d.tc : Thread nD τ) sRefs (val₄ m d) : sProp 𝕄)
      = bigSep Finset.univ fun c : Fin 2 => Scatter.corePts (wi m) (wv m) d (Scatter.vp (wi m) (wv m) d) c := by
  rw [held_s, ← Scatter.whole_split (hi := hi) (hd := hd), val₄, Function.update_self, Function.update_of_ne (by decide), Function.update_of_ne (by decide)]

/-- Buffers a call does not touch. -/
theorem held_update (d : Dev nD) (R : Finset (DevRef τ sig)) (V : Valuation τ sig (Elt F)) (b : DevRef τ sig) (hb : b ∈ R) (x) :
    (held (d.tc : Thread nD τ) (Pipeline.ucRefs τ sig \ R) V : sProp 𝕄) = held (d.tc : Thread nD τ) (Pipeline.ucRefs τ sig \ R) (Function.update V b x) :=
  held_congr _ fun b' hb' => by
    rw [Function.update_of_ne]
    rintro rfl
    exact (Finset.mem_sdiff.mp hb').2 hb

abbrev PM : (K (F := F)).Pay (nD := nD) (Val := Elt F) (Name := ℕ) (U := UU) := P (vi m) (vx m) (vo m) (wi m) (wv m) (wo m)

/-- What the two TensorCore calls' staging cells start from on one core. -/
abbrev staging (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

def uP : UP := initOf (Pipeline.cells (Pipeline.pin (pcfgs (F := F)) adm) phinj) (Pipeline.launchToks (Pipeline.pin (pcfgs (F := F)) adm) phinj)

def u₀ : UU := (initOf (K (F := F)).hsCells (K (F := F)).hsToks, (uP (F := F), 1))

theorem two {M : Type} [URA M] (Φ : Fin 2 → sProp M) : bigSep Finset.univ Φ = iprop(Φ 0 ∗ Φ 1) :=
  bigSep_univ_eq_bigSepL [(0 : Fin 2), 1] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => staging (F := F) d)
        ∗ bigSep Finset.univ fun thr : Thread nD τ => bigSep Finset.univ fun q : Fin 2 => (PM m).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb (embR : Emb (UP × Counters) 𝕄) (uP (F := F)) (1 : Counters)) $$ HR
  icases H with ⟨HP, -⟩
  have hP : (BI.own (((Emb.inl : Emb UP (UP × Counters)).trans embR) (uP (F := F))) : sProp 𝕄) ⊢ _ := Pipeline.fund_ghost (Pipeline.pin (pcfgs (F := F)) adm) EP phinj
  imod hP $$ HP with ⟨Hg, Ht⟩
  imodintro
  isplitl [HH]; · iexact HH
  isplitl [Hg Ht]
  · rw [show (bigSep Finset.univ fun d : Dev nD => staging (F := F) d)
        = iprop((bigSep Finset.univ fun d : Dev nD => bigSep Finset.univ fun p : Fin 2 => Pipeline.cellsGhost (Pipeline.pin (pcfgs (F := F)) adm) EP p d)
        ∗ bigSep Finset.univ fun d : Dev nD => bigSep Finset.univ fun p : Fin 2 => (Pipeline.toksInit (Pipeline.pin (pcfgs (F := F)) adm) EP p d : sProp 𝕄)) from bigSep_sep' _ _ _]
    isplitl [Hg] <;> [iexact Hg; iexact Ht]
  rw [show (bigSep Finset.univ fun thr : Thread nD τ => bigSep Finset.univ fun q : Fin 2 => (PM m).x q thr)
      = (iprop(emp) : sProp 𝕄) from (bigSep_congr fun _ _ => bigSep_emp_const _).trans (bigSep_emp_const _)]
  iempintro

/-- The handshake state after each SparseCore call: what is owed, its recorded waits bounded, and the rest. -/
theorem between_calls (d : Dev nD) : ∃ R : sProp 𝕄, (K (F := F)).tcSt EH d (((0 : Fin 2) : ℕ) + 1) = iprop(owing 8 1 d ∗ R) := ⟨_, rfl⟩
theorem after_calls (d : Dev nD) : ∃ R : sProp 𝕄, (K (F := F)).tcSt EH d (((1 : Fin 2) : ℕ) + 1) = iprop(owing 16 2 d ∗ R) := ⟨_, rfl⟩

abbrev FIN (d : Dev nD) : sProp 𝕄 := held (d.tc : Thread nD τ) (Pipeline.ucRefs τ sig) (val₆ m d)

/-- A SparseCore call from the buffers it is called on: its arrays go out and come back as the call leaves them. -/
theorem wp_call (κ : GSem nD τ sig → ℕ) (d : Dev nD) (q : Fin 2) {R : Finset (DevRef τ sig)} (hR : R ⊆ Pipeline.ucRefs τ sig)
    (V V' : Valuation τ sig (Elt F))
    (hst : (held (d.tc : Thread nD τ) R V : sProp 𝕄) = bigSep Finset.univ fun c : Fin ((K (F := F)).nCore q) => (PM m).st q d c)
    (hdn : (held (d.tc : Thread nD τ) R V' : sProp 𝕄) = bigSep Finset.univ fun c : Fin ((K (F := F)).nCore q) => (PM m).dn q d c)
    (hrest : (held (d.tc : Thread nD τ) (Pipeline.ucRefs τ sig \ R) V : sProp 𝕄) = held (d.tc : Thread nD τ) (Pipeline.ucRefs τ sig \ R) V')
    (Φ : PUnit → sProp 𝕄) :
    iprop((K (F := F)).ctx EH (PM m) κ ∗ (K (F := F)).tcSt EH d q.val ∗ held (d.tc : Thread nD τ) (Pipeline.ucRefs τ sig) V
        ∗ (((K (F := F)).tcSt EH d (q.val + 1) ∗ held (d.tc : Thread nD τ) (Pipeline.ucRefs τ sig) V') -∗ Φ ⟨⟩))
      ⊢ wp frame (wpE ((K (F := F)).defs (D (F := F))) 𝒱 (SparseCore.T d) none) Set.univ (sc.run d q) Φ := by
  iintro ⟨#Hctx, Hst, Hh, Hk⟩
  ihave Hh' := (Entails.of_eq (held_sub_split (d.tc : Thread nD τ) hR V)) $$ Hh
  icases Hh' with ⟨Hc, Hh⟩
  iapply ((K (F := F)).wp_run (D (F := F)) 𝒱 (EH := EH) (P := PM m) κ d q) $$ [Hst Hc Hh Hk]
  isplitr; · iexact Hctx
  isplitl [Hst]; · iexact Hst
  isplitl [Hc]
  · iapply (Entails.of_eq hst); iexact Hc
  iintro ⟨Hst, Hdn⟩
  iapply Hk
  isplitl [Hst]; · iexact Hst
  ihave Hc := (Entails.of_eq hdn.symm) $$ Hdn
  ihave Hh' := (Entails.of_eq hrest) $$ Hh
  iapply (Entails.of_eq (held_sub_split (d.tc : Thread nD τ) hR V').symm)
  isplitl [Hc] <;> [iexact Hc; iexact Hh']

theorem hmain [∀ e, Nonempty (Elt F e)] (hi : ∀ d (n : Fin 180224), (wi m d (ix1 (n0 := 180224) n)).toNat < 180224) (hd : ∀ d, Scatter.Distinct (F := F) (wi m d))
    (κ : GSem nD τ sig → ℕ) (d : Dev nD) :
    iprop((K (F := F)).ctx EH (PM m) κ ∗ (K (F := F)).tcSt EH d 0 ∗ (K (F := F)).tcRes m ρ d ∗ staging d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (launchContents m d) from
    Pipeline.unscopedBufs_held d (launchContents m d)]
  iintro ⟨#Hctx, Hst, ⟨Hb, Hh, Hts, -⟩, ⟨Hg, Ht⟩⟩
  ihave Hg' := (Entails.of_eq (two fun p => (Pipeline.cellsGhost (Pipeline.pin (pcfgs (F := F)) adm) EP p d : sProp 𝕄))) $$ Hg
  ihave Ht' := (Entails.of_eq (two fun p => (Pipeline.toksInit (Pipeline.pin (pcfgs (F := F)) adm) EP p d : sProp 𝕄))) $$ Ht
  icases Hg' with ⟨Hg, Hg'⟩
  icases Ht' with ⟨Ht, Ht'⟩
  iapply (wp_seq (defs := (K (F := F)).defs (D (F := F))) 𝒱 none Set.univ d (Pipeline.ucRefs τ sig) _ opsBefore
    (fun op ho => Pipeline.sub_ucRefs op (List.forall_iff_forall_mem.mp before_bufs op ho)) before_fresh (launchContents m d)) $$ [Hb Hh]
  · isplitl [Hb]; · iexact Hb
    iexact Hh
  iintro ⟨Hb, Hh⟩
  rw [wp_bind]
  iapply (wp_call m κ d 0 gRefs_sub (val₁ m d) (val₂ m d) (held_g₁ m d) (held_g₂ m d) (held_update d gRefs (val₁ m d) _ (by decide) _)) $$ [Hst Hh Hb Hts Hg Ht Hg' Ht']
  isplitr; · iexact Hctx
  isplitl [Hst]; · iexact Hst
  isplitl [Hh]; · iexact Hh
  iintro ⟨Hst, Hh⟩
  obtain ⟨R, hR⟩ := between_calls (F := F) d
  ihave Hst' := (Entails.of_eq hR) $$ Hst
  icases Hst' with ⟨HO, HR⟩
  rw [wp_bind]
  iapply (wp_enter (enters_attend (val₂ m) (val₅ m) 8 16) (PM m) κ d) $$ [HO HR Hh Hb Hts Hg Ht Hg' Ht']
  isplitr; · iexact Hctx
  isplitl [HO]; · iexact HO
  isplitl [Hb]; · iexact Hb
  isplitl [Hh]; · iexact Hh
  isplitl [Hg Ht]
  · isplitl [Hg] <;> [iexact Hg; iexact Ht]
  iintro ⟨HO, Hb, Hh⟩
  ihave Hst := (Entails.of_eq hR.symm) $$ [HO HR]
  · isplitl [HO] <;> [iexact HO; iexact HR]
  iapply (wp_seq (defs := (K (F := F)).defs (D (F := F))) 𝒱 none Set.univ d (Pipeline.ucRefs τ sig) _ opsV
    (fun op ho => Pipeline.sub_ucRefs op (List.forall_iff_forall_mem.mp between_bufs op ho)) between_fresh (valₐ m d)) $$ [Hb Hh]
  · isplitl [Hb]; · iexact Hb
    iexact Hh
  iintro ⟨Hb, Hh⟩
  rw [wp_bind]
  iapply (wp_call m κ d 1 sRefs_sub (val₃ m d) (val₄ m d) (held_s₃ m d (hi d) (hd d)) (held_s₄ m d (hi d) (hd d)) (held_update d sRefs (val₃ m d) _ (by decide) _)) $$ [Hst Hh Hb Hts Hg' Ht']
  isplitr; · iexact Hctx
  isplitl [Hst]; · iexact Hst
  isplitl [Hh]; · iexact Hh
  iintro ⟨Hst, Hh⟩
  iapply (wp_seq (defs := (K (F := F)).defs (D (F := F))) 𝒱 none Set.univ d (Pipeline.ucRefs τ sig) _ opsD
    (fun op ho => Pipeline.sub_ucRefs op (List.forall_iff_forall_mem.mp rows_bufs op ho)) rows_fresh (val₄ m d)) $$ [Hb Hh]
  · isplitl [Hb]; · iexact Hb
    iexact Hh
  iintro ⟨Hb, Hh⟩
  obtain ⟨R', hR'⟩ := after_calls (F := F) d
  ihave Hst' := (Entails.of_eq hR') $$ Hst
  icases Hst' with ⟨HO, HR⟩
  rw [wp_bind]
  iapply (wp_enter (enters_project (val₂ m) (val₅ m) 8 16) (PM m) κ d) $$ [HO HR Hh Hb Hts Hg' Ht']
  isplitr; · iexact Hctx
  isplitl [HO]; · iexact HO
  isplitl [Hb]; · iexact Hb
  isplitl [Hh]; · iexact Hh
  isplitl [Hg' Ht']
  · isplitl [Hg'] <;> [iexact Hg'; iexact Ht']
  iintro ⟨HO, Hb, Hh⟩
  ihave Hst := (Entails.of_eq hR'.symm) $$ [HO HR]
  · isplitl [HO] <;> [iexact HO; iexact HR]
  iapply (wp_seq (defs := (K (F := F)).defs (D (F := F))) 𝒱 none Set.univ d (Pipeline.ucRefs τ sig) _ opsC
    (fun op ho => Pipeline.sub_ucRefs op (List.forall_iff_forall_mem.mp after_bufs op ho)) after_fresh (valₚ m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> [iexact Hb; iexact Hts]

def fq (d : Dev nD) (s' : Phys nD τ sig (Elt F)) : Prop := ∀ b ∈ Pipeline.ucRefs τ sig, s'.mem.mem (d, b) = val₆ m d b

theorem hfin (d : Dev nD) (s' : Phys nD τ sig (Elt F)) : iprop(FIN m d ∗ SI s') ⊢ (⌜fq m d s'⌝ : sProp 𝕄) :=
  sep_comm.trans (SI_pointsTo_bufs_agree (qs := fun _ => fullShare) (Pipeline.ucRefs τ sig))

theorem run_main [∀ e, Nonempty (Elt F e)] (hg : ∀ d j, (vi m d j).toNat < 180000)
    (hi : ∀ d (n : Fin 180224), (wi m d (ix1 (n0 := 180224) n)).toNat < 180224) (hd : ∀ d, Scatter.Distinct (F := F) (wi m d)) :
    θ_run (defs (F := F)) (threads (F := F)) ⟨m, fun _ => 0, ρ⟩
      fun r => (∀ (d : Dev nD), ∀ b ∈ Pipeline.ucRefs τ sig, r.2.mem (d, b) = val₆ m d b) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq | 1 => nomatch hq)
    (fun q _ => match q with
      | 0 => gather_tile (vi m) (vx m) (vo m) (wi m) (wv m) (wo m) facts hg
      | 1 => scatter_tile (vi m) (vx m) (vo m) (wi m) (wv m) (wo m) facts hi hd)
    (fun q _ => match q with
      | 0 => SparseCore.Cfg.VecSplit.of_plain (gather_split (vi m) (vx m) (vo m) (wi m) (wv m) (wo m))
      | 1 => SparseCore.Cfg.VecSplit.of_plain (scatter_split (vi m) (vx m) (vo m) (wi m) (wv m) (wo m)))
    m ρ main staging (FIN m) (u₀ (F := F)) (sep_elim_left.trans (hu₀ m)) (hmain m ρ hi hd) (fq m) (hfin m) _ (fun _ h hz => ⟨h, hz⟩)

end Run

end Cert.Proof.Calls

end
-- ==== Proof.Index.lean ====
/-
  The host side of an index list, apart from any program: words that are row numbers, a take whose indices are all in
  range, and the list of rows itself.
-/
module

public import Idealize.ShloMosaic.Lib.StableHlo.ReadAt
public import Idealize.ShloMosaic.Lib.ReduceAll
public import Idealize.ShloMosaic.Lib.Pointwise.IndexBridge
public import Idealize.ShloMosaic.Lib.Routing.OpsSearch

@[expose] public section

noncomputable section

namespace Cert.Proof.Index

open Idealize.ShloMosaic Idealize.ShloMosaic.WordCmp

/-! ## Words -/

/-- A word below half the range is not negative, so an index is not moved by the length. -/
theorem wrap_word (w n : BitVec 32) (h : w.toNat < 2 ^ 31) :
    Scalar.select (IntOp.cmpi .slt w 0#32) (IntOp.addi w n) w = w := by
  have : IntOp.cmpi .slt w 0#32 = 0#1 := by
    rw [cmpi_slt_zero, decide_eq_false (by show ¬ 2 ^ 31 ≤ w.toNat; omega)]; rfl
  rw [this]; rfl

/-- A word at most `hi` passes the two comparisons that guard a take. -/
theorem inside_word (w : BitVec 32) (hi : ℕ) (h31 : hi < 2 ^ 31) (h : w.toNat ≤ hi) :
    IntOp.andi (IntOp.cmpi .sge w 0#32) (IntOp.cmpi .sle w (BitVec.ofNat 32 hi)) = 1#1 := by
  have e1 : IntOp.cmpi .sge w 0#32 = 1#1 := by
    rw [cmpi_sge_zero, decide_eq_true (by show w.toNat < 2 ^ 31; omega)]; rfl
  have e2 : IntOp.cmpi .sle w (BitVec.ofNat 32 hi) = 1#1 := by
    rw [cmpi_sle_eq, toInt_eq_toNat_of_lt_half (by show w.toNat < 2 ^ 31; omega), toInt_ofNat_of_lt (by show hi < 2 ^ 31; omega),
      decide_eq_true (by omega)]; rfl
  rw [e1, e2]; rfl

/-- The two comparisons of a printed range, read back. -/
theorem range_word (w : BitVec 32) (n : ℕ) (h31 : n < 2 ^ 31)
    (h : IntOp.andi (IntOp.cmpi .sge w 0#32) (IntOp.cmpi .slt w (BitVec.ofNat 32 n)) = 1#1) : w.toNat < n := by
  rw [andi_sge_zero_slt_ofNat (by show n < 2 ^ 31; omega)] at h
  by_contra hc
  rw [decide_eq_false hc] at h
  exact absurd h (by decide)

/-! ## A take with every index in range -/

section Take

variable {s r u : Shape} {α : Type}

/-- The move of negative indices does nothing to indices that are not negative. -/
theorem wrap_eq (i : IVec s 32) (a b : IVec s 32) (ha : ∀ j, a j = 0#32) (h : ∀ j, (i j).toNat < 2 ^ 31) :
    select (cmpi .slt i a) (addi i b) i = i := by
  funext j
  show Scalar.select (IntOp.cmpi .slt (i j) (a j)) (IntOp.addi (i j) (b j)) (i j) = i j
  rw [ha, wrap_word _ _ (h j)]

/-- A take that fills what is out of range, with every index in range, is the plain gather. -/
theorem fill_eq {axes : List (Fin r.rank)} (i lo up : IVec r 32) (hi : ℕ) (h31 : hi < 2 ^ 31) (hlo : ∀ j, lo j = 0#32) (hup : ∀ j, up j = BitVec.ofNat 32 hi)
    (h : ∀ j, (i j).toNat ≤ hi) (one : IVec u 1) (hone : ∀ j, one j = 1#1) (red : r.ReducesTo axes s) (hu : 0 < u.numel)
    (g f : s.Idx → α) :
    select (Host.reduce IntOp.andi (andi (cmpi .sge i lo) (cmpi .sle i up)) one red hu) g f = g := by
  funext j
  show Scalar.select (Host.reduce IntOp.andi _ one red hu j) (g j) (f j) = g j
  rw [Host.reduce_andi_one _ _ red hu j (hone _) fun k => by
    show IntOp.andi (IntOp.cmpi .sge (i k) (lo k)) (IntOp.cmpi .sle (i k) (up k)) = 1#1
    rw [hlo, hup, inside_word _ _ h31 (h k)]]
  rfl

end Take

/-! ## The rows -/

/-- A list's entry at the place a word names. -/
def at45 (x : (⟨1, ![45000]⟩ : Shape).Idx → BitVec 32) (w : BitVec 32) : BitVec 32 := x (ix1 ⟨w.toNat % 45000, Nat.mod_lt _ (by decide)⟩)

/-- The pixel that head `h` reads at row `r` and column `c` of its square: of the first list in the first 150 rows,
    of the second list in the others. -/
def pixel (obj bg : (⟨1, ![45000]⟩ : Shape).Idx → BitVec 32) (rand : (⟨3, ![2, 300, 300]⟩ : Shape).Idx → BitVec 32)
    (h : Fin 2) (r c : Fin 300) : BitVec 32 :=
  if r.val < 150 then at45 obj (rand (ix3 h r c)) else at45 bg (rand (ix3 h r c))

/-- What the ranges of the three index arrays say. -/
structure InRange (obj bg : (⟨1, ![45000]⟩ : Shape).Idx → BitVec 32) (rand : (⟨3, ![2, 300, 300]⟩ : Shape).Idx → BitVec 32) : Prop where
  obj : ∀ j, (obj j).toNat < 90000
  bg : ∀ j, (bg j).toNat < 90000
  rand : ∀ j, (rand j).toNat < 45000

variable {obj bg : (⟨1, ![45000]⟩ : Shape).Idx → BitVec 32} {rand : (⟨3, ![2, 300, 300]⟩ : Shape).Idx → BitVec 32}

theorem InRange.pixel_lt (H : InRange obj bg rand) (h : Fin 2) (r c : Fin 300) : (pixel obj bg rand h r c).toNat < 90000 := by
  unfold pixel at45
  split
  · exact H.obj _
  · exact H.bg _

/-- The table row that a list of both heads' pixels names at place `n`. -/
def rowAt (obj bg : (⟨1, ![45000]⟩ : Shape).Idx → BitVec 32) (rand : (⟨3, ![2, 300, 300]⟩ : Shape).Idx → BitVec 32) (n : Fin 180000) : ℕ :=
  n.val / 90000 * 90000 + (pixel obj bg rand ⟨n.val / 90000, by omega⟩ ⟨n.val / 300 % 300, by omega⟩ ⟨n.val % 300, by omega⟩).toNat

theorem InRange.rowAt_lt (H : InRange obj bg rand) (n : Fin 180000) : rowAt obj bg rand n < 180000 := by
  have := H.pixel_lt ⟨n.val / 90000, by omega⟩ ⟨n.val / 300 % 300, by omega⟩ ⟨n.val % 300, by omega⟩
  unfold rowAt; omega

/-- The same at a place given by head, row and column. -/
theorem rowAt_of (h : Fin 2) (r c : Fin 300) (n : Fin 180000) (hn : n.val = h.val * 90000 + r.val * 300 + c.val) :
    rowAt obj bg rand n = h.val * 90000 + (pixel obj bg rand h r c).toNat := by
  obtain ⟨n, hlt⟩ := n
  obtain rfl : n = h.val * 90000 + r.val * 300 + c.val := hn
  have e0 : (⟨(h.val * 90000 + r.val * 300 + c.val) / 90000, by omega⟩ : Fin 2) = h := Fin.ext (by show _ / _ = _; omega)
  have e1 : (⟨(h.val * 90000 + r.val * 300 + c.val) / 300 % 300, by omega⟩ : Fin 300) = r := Fin.ext (by show _ / _ % _ = _; omega)
  have e2 : (⟨(h.val * 90000 + r.val * 300 + c.val) % 300, by omega⟩ : Fin 300) = c := Fin.ext (by show _ % _ = _; omega)
  unfold rowAt
  rw [e0, e1, e2]
  show (h.val * 90000 + r.val * 300 + c.val) / 90000 * 90000 + _ = _
  omega

/-- The rows of a table of both heads' pixels, in the order in which the heads read them. -/
def gathered {α : Type} (H : InRange obj bg rand) (x : (⟨2, ![180000, 128]⟩ : Shape).Idx → α) : (⟨2, ![180000, 128]⟩ : Shape).Idx → α :=
  fun j => x (ix2 ⟨rowAt obj bg rand (j 0), H.rowAt_lt (j 0)⟩ (j 1))

end Cert.Proof.Index

end
-- ==== Proof.Heads.lean ====
/-
  The scales and shifts of each group, as the host looks them up by the group's head.
-/
module

public import proofs.«01_k».proof.Proof.Run
public import proofs.«01_k».proof.Proof.Index
public import Idealize.ShloMosaic.Lib.Routing.Ops

@[expose] public section

noncomputable section

namespace Cert.Proof.Calls

open Cert.KernelIdeal Cert.KernelIdeal.Gen Cert.Proof.Index

open Idealize.ShloMosaic Idealize.ShloMosaic.StableHlo

variable {F : FTy → Type} [FloatOps F]

/-- A number spread over the groups. -/
def spread (w : BitVec 32) : IVec S600 32 := broadcastInDim S600 ![] bcast_S_S600 (constantI S_ 32 w)

/-- The groups' heads: their numbers divided by 300, rounded down. -/
def heads : IVec S600 32 :=
  select (andi (cmpi .ne (signi (iotaInDim S600 32 0)) (broadcastInDim S600 ![] bcast_S_S600 (signi (constantI S_ 32 300#32))))
      (cmpi .ne (Host.remsi (iotaInDim S600 32 0) (spread 300#32)) (spread 0#32)))
    (subi (Host.divsi (iotaInDim S600 32 0) (spread 300#32)) (spread 1#32)) (Host.divsi (iotaInDim S600 32 0) (spread 300#32))

theorem heads_at : ∀ g : Fin 600, heads (ix1 g) = BitVec.ofNat 32 (g.val / 300) := by decide +kernel

theorem opsH_v27 (V : Valuation τ sig (Elt F)) : (after opsH V (Proc.devRef .tc main_v27) : S600.Idx → BitVec 32) = heads := by
  unfold opsH
  after_results_simp
  simp -implicitDefEqProofs only [TRef.toBuf, TRef.ofBuf, cast_cast, cast_eq]
  rfl

/-- Each group's row of a list of scales or shifts. -/
def looked {φ : FTy} (x : FVec F S64 φ) (i : IVec S600 32) : FVec F S600x32 φ :=
  Host.gather gather_S2x32_S600x1_S600x32_1_0_n_n_0_1_132 (shapeCast S2x32 x shapeCasts_S64_S2x32)
    (broadcastInDim S600x1 ![0] bcast_S600_S600x1_0 (select (cmpi .slt i (spread 0#32)) (addi i (spread 2#32)) i))

theorem looked_at {φ : FTy} (x : FVec F S64 φ) (i : IVec S600 32) (h : ∀ g : Fin 600, i (ix1 g) = BitVec.ofNat 32 (g.val / 300)) (g : Fin 600) (k : Fin 32) :
    looked x i (ix2 g k) = x (ix1 ⟨g.val / 300 * 32 + k.val, by omega⟩) := by
  have hlt (j : S600.Idx) : (i j).toNat < 2 ^ 31 := by
    obtain ⟨p, rfl⟩ : ∃ p, j = ix1 p := ⟨_, eq_ix1 j⟩
    rw [h, BitVec.toNat_ofNat]; omega
  unfold looked
  rw [wrap_eq i (spread 0#32) (spread 2#32) (fun _ => rfl) hlt]
  refine (Routing.gather_row _ rfl rfl rfl rfl rfl _ _ g k ⟨g.val / 300, by omega⟩ ?_ (by decide)).trans ?_
  · refine Eq.trans ?_ (h g)
    pointwise
  · pointwise

theorem opsS_v35 (V : Valuation τ sig (Elt F)) :
    (after opsS V (Proc.devRef .tc main_v35) : S600x32.Idx → F .f32) = looked (F := F) (φ := .f32) (V (Proc.devRef .tc main_arg1)) (V (Proc.devRef .tc main_v27)) := by
  unfold opsS
  after_results_simp
  rfl

theorem opsS_v43 (V : Valuation τ sig (Elt F)) :
    (after opsS V (Proc.devRef .tc main_v43) : S600x32.Idx → F .f32) = looked (F := F) (φ := .f32) (V (Proc.devRef .tc main_arg2)) (V (Proc.devRef .tc main_v27)) := by
  unfold opsS
  after_results_simp
  rfl

/-- What is made before a stretch of operations that does not write it is there after it. -/
theorem before_split (V : Valuation τ sig (Elt F)) (b : DevRef τ sig) :
    after opsBefore V b = after opsS (after opsH (after opsB (after opsT (after opsA V)))) b := by
  rw [show (opsBefore : List (HloOp τ sig (Elt F))) = opsA ++ opsT ++ opsB ++ opsH ++ opsS from rfl, after_append, after_append, after_append, after_append]

theorem early_arg1 (V : Valuation τ sig (Elt F)) :
    after opsH (after opsB (after opsT (after opsA V))) (Proc.devRef .tc main_arg1) = V (Proc.devRef .tc main_arg1) := by
  unfold opsH opsB opsT opsA
  after_results_simp

theorem early_arg2 (V : Valuation τ sig (Elt F)) :
    after opsH (after opsB (after opsT (after opsA V))) (Proc.devRef .tc main_arg2) = V (Proc.devRef .tc main_arg2) := by
  unfold opsH opsB opsT opsA
  after_results_simp

theorem late_v21 (V : Valuation τ sig (Elt F)) : after opsS (after opsH V) (Proc.devRef .tc main_v21) = V (Proc.devRef .tc main_v21) := by
  unfold opsS opsH
  after_results_simp

theorem late_v25 (V : Valuation τ sig (Elt F)) : after opsS (after opsH V) (Proc.devRef .tc main_v25) = V (Proc.devRef .tc main_v25) := by
  unfold opsS opsH
  after_results_simp

theorem before_v35 (V : Valuation τ sig (Elt F)) (g : Fin 600) (k : Fin 32) :
    (after opsBefore V (Proc.devRef .tc main_v35) : S600x32.Idx → F .f32) (ix2 g k)
      = (V (Proc.devRef .tc main_arg1) : S64.Idx → F .f32) (ix1 ⟨g.val / 300 * 32 + k.val, by omega⟩) := by
  rw [before_split, opsS_v35, opsH_v27, early_arg1]
  exact looked_at _ _ heads_at g k

theorem before_v43 (V : Valuation τ sig (Elt F)) (g : Fin 600) (k : Fin 32) :
    (after opsBefore V (Proc.devRef .tc main_v43) : S600x32.Idx → F .f32) (ix2 g k)
      = (V (Proc.devRef .tc main_arg2) : S64.Idx → F .f32) (ix1 ⟨g.val / 300 * 32 + k.val, by omega⟩) := by
  rw [before_split, opsS_v43, opsH_v27, early_arg2]
  exact looked_at _ _ heads_at g k

end Cert.Proof.Calls

end
-- ==== Proof.Attended.lean ====
/-
  What the attention call leaves: its output array group by group, and every other array as it was.
-/
module

public import proofs.«01_k».proof.Proof.Attend
public import Idealize.ShloMosaic.Lib.Pipeline.ValueKit.Geometry

@[expose] public section

noncomputable section

namespace Cert.Proof.Calls

open Cert.KernelIdeal Cert.KernelIdeal.Gen

open Idealize.ShloMosaic Idealize.ShloMosaic.StableHlo Idealize.ShloMosaic.Pipeline

variable {F : FTy → Type} [FloatOps F]

/-- Eight groups' rows, of all groups'. -/
def rowsOf (x : Vec F S180224x128 .f32) (t : Fin 75) : Vec F S2400x128 .f32 := fun y => x (ix2 ⟨t.val * 2400 + (y 0).val, by have := (y 0).isLt; have : (y 0).val < 2400 := this; omega⟩ (y 1))

/-- Eight groups' scales or shifts, of all groups'. -/
def scalesOf (x : Vec F S600x32 .f32) (t : Fin 75) : Vec F S8x32 .f32 := fun y => x (ix2 ⟨t.val * 8 + (y 0).val, by have := (y 0).isLt; have : (y 0).val < 8 := this; omega⟩ (y 1))

/-- What the call computes: block by block of eight groups. -/
def groups (x : Vec F S180224x128 .f32) (s h : Vec F S600x32 .f32) (wq : Vec F S32x32 .f32) (wkv : Vec F S64x32 .f32) : Vec F S600x300x32 .f32 := fun j =>
  k1_pay1 (rowsOf x ⟨(j 0).val / 8, by have := (j 0).isLt; have : (j 0).val < 600 := this; omega⟩)
    (scalesOf s ⟨(j 0).val / 8, by have := (j 0).isLt; have : (j 0).val < 600 := this; omega⟩)
    (scalesOf h ⟨(j 0).val / 8, by have := (j 0).isLt; have : (j 0).val < 600 := this; omega⟩) wq wkv (ix3 ⟨(j 0).val % 8, by omega⟩ (j 1) (j 2))

variable (V : Dev nD → Valuation τ sig (Elt F)) [∀ e, Nonempty (Elt F e)]

theorem at_0 : ∀ t : Fin cfg1.N, win1_0.index t = ![t.val, 0] := by decide +kernel
theorem at_1 : ∀ t : Fin cfg1.N, win1_1.index t = ![t.val, 0] := by decide +kernel
theorem at_2 : ∀ t : Fin cfg1.N, win1_2.index t = ![t.val, 0] := by decide +kernel
theorem at_3 : ∀ t : Fin cfg1.N, win1_3.index t = ![0, 0] := by decide +kernel
theorem at_4 : ∀ t : Fin cfg1.N, win1_4.index t = ![0, 0] := by decide +kernel
theorem at_5 : ∀ t : Fin cfg1.N, win1_5.index t = ![t.val, 0, 0] := by decide +kernel

theorem rows_eq (c : Dev nD) (t : Fin 75) : rows V c t = rowsOf (V c (Proc.devRef .tc main_v44)) t := by
  funext y
  unfold rows rowsOf
  have hm : (cfg1.win 0).moved (cfg1.grid.coords t) y = true :=
    ((cfg1.win 0).moved_iff _ y).mpr fun a => by rw [rows_uncut t a]; exact (y a).isLt
  unfold Pipeline.Window.fill
  rw [dif_pos hm]
  refine congrArg (V c (Proc.devRef .tc main_v44)) ?_
  blk_ext [at_0 t]

theorem block_1 (c : Dev nD) (t : Fin 75) : iblk V c 1 t = scalesOf (V c (Proc.devRef .tc main_v35)) t := by
  funext y
  refine congrArg (V c (Proc.devRef .tc main_v35)) ?_
  blk_ext [at_1 t]

theorem block_2 (c : Dev nD) (t : Fin 75) : iblk V c 2 t = scalesOf (V c (Proc.devRef .tc main_v43)) t := by
  funext y
  refine congrArg (V c (Proc.devRef .tc main_v43)) ?_
  blk_ext [at_2 t]

theorem block_3 (c : Dev nD) (t : Fin 75) : iblk V c 3 t = V c (Proc.devRef .tc main_arg6) := by
  funext y
  refine congrArg (V c (Proc.devRef .tc main_arg6)) ?_
  blk_ext [at_3 t]

theorem block_4 (c : Dev nD) (t : Fin 75) : iblk V c 4 t = V c (Proc.devRef .tc main_arg7) := by
  funext y
  refine congrArg (V c (Proc.devRef .tc main_arg7)) ?_
  blk_ext [at_4 t]

/-- A block of the output array, computed from the step's input blocks. -/
theorem block_out (c : Dev nD) (t : Fin 75) (y : S8x300x32.Idx) :
    k1_pay1 (F := F) (rows V c t) (iblk V c 1 t) (iblk V c 2 t) (iblk V c 3 t) (iblk V c 4 t) y
    = groups (V c (Proc.devRef .tc main_v44)) (V c (Proc.devRef .tc main_v35)) (V c (Proc.devRef .tc main_v43)) (V c (Proc.devRef .tc main_arg6)) (V c (Proc.devRef .tc main_arg7))
      (ix3 ⟨t.val * 8 + (y 0).val, by have := t.isLt; have := (y 0).isLt; have : (y 0).val < 8 := this; omega⟩ (y 1) (y 2)) := by
  have h0 : (y 0).val < 8 := (y 0).isLt
  have ht : (⟨(t.val * 8 + (y 0).val) / 8, by have := t.isLt; omega⟩ : Fin 75) = t := Fin.ext (by dsimp only; omega)
  have hg : (⟨(t.val * 8 + (y 0).val) % 8, by omega⟩ : Fin 8) = y 0 := Fin.ext (by dsimp only; omega)
  show _ = k1_pay1 (rowsOf _ ⟨(t.val * 8 + (y 0).val) / 8, _⟩) (scalesOf _ ⟨(t.val * 8 + (y 0).val) / 8, _⟩) (scalesOf _ ⟨(t.val * 8 + (y 0).val) / 8, _⟩) _ _ (ix3 ⟨(t.val * 8 + (y 0).val) % 8, _⟩ (y 1) (y 2))
  rw [ht, hg, rows_eq, block_1, block_2, block_3, block_4]
  exact congrArg _ (eq_ix3 y)

theorem arr_out (b : ℕ) (c : Dev nD) : (attn_dat V b c).arrAt 5 cfg1.N
    = groups (V c (Proc.devRef .tc main_v44)) (V c (Proc.devRef .tc main_v35)) (V c (Proc.devRef .tc main_v43)) (V c (Proc.devRef .tc main_arg6)) (V c (Proc.devRef .tc main_arg7)) := by
  refine (attn_dat V b c).arrAt_eq_of_covers 5 _ (by decide +kernel) fun t hf y => ?_
  blk_simp
  rw [attn_after]
  refine (block_out V c t y).trans (congrArg _ (Eq.symm ?_))
  blk_ext [at_5 t]

/-- The call's output array after it. -/
theorem attended_out (b : ℕ) (c : Dev nD) : attended V b c (Proc.devRef .tc main_v45)
    = groups (V c (Proc.devRef .tc main_v44)) (V c (Proc.devRef .tc main_v35)) (V c (Proc.devRef .tc main_v43)) (V c (Proc.devRef .tc main_arg6)) (V c (Proc.devRef .tc main_arg7)) :=
  (afterCall_arr (attn_dat V b c) (V c) (attn_kit (F := F)).sharedIn (fun w => attn_A V b c w) 5).trans (arr_out V b c)

/-- Every other array is as it was. -/
theorem attended_keeps (b : ℕ) (c : Dev nD) (r : Ref sig .tc) (h : r ≠ main_v45) : attended V b c (Proc.devRef .tc r) = V c (Proc.devRef .tc r) :=
  afterCall_keeps (attn_dat V b c) (V c) (attn_kit (F := F)).sharedIn (fun w => attn_A V b c w) r fun
    | 0, _ => rfl | 1, _ => rfl | 2, _ => rfl | 3, _ => rfl | 4, _ => rfl
    | 5, e => absurd e.symm h

end Cert.Proof.Calls

end
-- ==== Proof.Projected.lean ====
/-
  What the projection call leaves: its output array block by block, the sums over all its rows, and every other array as
  it was.
-/
module

public import proofs.«01_k».proof.Proof.Project
public import Idealize.ShloMosaic.Lib.Pipeline.ValueKit.Geometry

@[expose] public section

noncomputable section

namespace Cert.Proof.Calls

open Cert.KernelIdeal Cert.KernelIdeal.Gen

open Idealize.ShloMosaic Idealize.ShloMosaic.StableHlo Idealize.ShloMosaic.Pipeline

variable {F : FTy → Type} [FloatOps F]

/-- One of the fifty blocks of 3600 rows. -/
def blockOf {n : ℕ} (hn : 180000 ≤ n) (x : Vec F ⟨2, ![n, 128]⟩ .f32) (k : Fin 50) : Vec F S3600x128 .f32 := fun y =>
  x (ix2 ⟨k.val * 3600 + (y 0).val, by have := k.isLt; have := (y 0).isLt; have : (y 0).val < 3600 := this; omega⟩ (y 1))

/-- The block of a point in the first half of the rows, and the one in the second. -/
def low (t : Fin 25) : Fin 50 := ⟨t.val, by omega⟩
def high (t : Fin 25) : Fin 50 := ⟨t.val + 25, by omega⟩

section Values

variable (x : Vec F S180224x128 .f32) (y : Vec F S180000x128 .f32) (sc sh : Vec F S1x64 .f32) (wo : Vec F S64x64 .f32)
  (bo : Vec F S1x64 .f32) (w2 : Vec F S64x128 .f32)

/-- The product's block at a point. -/
def prodBlock (t : Fin 25) : FVec F S3600x64 .f32 :=
  k3_pay3 (blockOf (by decide) x (low t)) (blockOf (by decide) x (high t)) wo bo (blockOf (by decide) y (low t)) (blockOf (by decide) y (high t)) sc sh w2

/-- The product, block by block. -/
def products : Vec F S90000x64 .f32 := fun j =>
  prodBlock x y sc sh wo bo w2 ⟨(j 0).val / 3600, by have := (j 0).isLt; have : (j 0).val < 90000 := this; omega⟩ (ix2 ⟨(j 0).val % 3600, by omega⟩ (j 1))

/-- The sums over the blocks up to a point. -/
def totals : (k : ℕ) → k < 25 → FVec F S2x64 .f32
  | 0, h => k3_pay1 (prodBlock x y sc sh wo bo w2 ⟨0, h⟩)
  | k + 1, h => k3_pay2 (prodBlock x y sc sh wo bo w2 ⟨k + 1, h⟩) (totals k (Nat.lt_of_succ_lt h))

end Values

variable (V : Dev nD → Valuation τ sig (Elt F)) [∀ e, Nonempty (Elt F e)]

theorem idx3_0 : ∀ t : Fin cfg3.N, win3_0.index t = ![t.val, 0] := by decide +kernel
theorem idx3_1 : ∀ t : Fin cfg3.N, win3_1.index t = ![t.val + 25, 0] := by decide +kernel
theorem idx3_2 : ∀ t : Fin cfg3.N, win3_2.index t = ![t.val, 0] := by decide +kernel
theorem idx3_3 : ∀ t : Fin cfg3.N, win3_3.index t = ![t.val + 25, 0] := by decide +kernel
theorem idx3_9 : ∀ t : Fin cfg3.N, win3_9.index t = ![t.val, 0] := by decide +kernel
theorem idx3_4 : ∀ t : Fin cfg3.N, win3_4.index t = ![0, 0] := by decide +kernel
theorem idx3_5 : ∀ t : Fin cfg3.N, win3_5.index t = ![0, 0] := by decide +kernel
theorem idx3_6 : ∀ t : Fin cfg3.N, win3_6.index t = ![0, 0] := by decide +kernel
theorem idx3_7 : ∀ t : Fin cfg3.N, win3_7.index t = ![0, 0] := by decide +kernel
theorem idx3_8 : ∀ t : Fin cfg3.N, win3_8.index t = ![0, 0] := by decide +kernel
theorem idx3_10 : ∀ t : Fin cfg3.N, win3_10.index t = ![0, 0] := by decide +kernel

/-- A staged block, from what the array holds at each of its places. -/
theorem staged_of (c : Dev nD) (w : Fin cfg3.W) (t : Fin cfg3.N) (g : (cfg3.win w).block.Idx → Elt F (cfg3.win w).elt)
    (h : ∀ y (hy : ∀ a, (y a).val < (cfg3.win w).xsize (cfg3.grid.coords t) a),
      ((cfg3.win w).blk t).view.read (Elt F) (V c (Proc.devRef .tc (arrRef spec3 w))) (fun a => ⟨(y a).val, hy a⟩) = g y) :
    staged V c w t = g := by
  funext y
  have hy : ∀ a, (y a).val < (cfg3.win w).xsize (cfg3.grid.coords t) a := fun a => by rw [uncut w t a]; exact (y a).isLt
  unfold staged Pipeline.Window.fill
  rw [dif_pos (((cfg3.win w).moved_iff _ y).mpr hy)]
  exact h y hy

/-- The call's arrays and what it makes of them. -/
abbrev prodOf (c : Dev nD) (t : Fin 25) : FVec F S3600x64 .f32 :=
  prodBlock (V c (Proc.devRef .tc main_v50)) (V c (Proc.devRef .tc main_arg0)) (V c (Proc.devRef .tc main_v51)) (V c (Proc.devRef .tc main_v52))
    (V c (Proc.devRef .tc main_arg8)) (V c (Proc.devRef .tc main_v53)) (V c (Proc.devRef .tc main_arg10)) t

theorem staged_0 (c : Dev nD) (t : Fin 25) : staged V c 0 t = blockOf (by decide) (V c (Proc.devRef .tc main_v50)) (low t) :=
  staged_of V c 0 t _ fun y hy => congrArg (V c (Proc.devRef .tc main_v50)) (by unfold low; blk_ext [idx3_0 t])
theorem staged_1 (c : Dev nD) (t : Fin 25) : staged V c 1 t = blockOf (by decide) (V c (Proc.devRef .tc main_v50)) (high t) :=
  staged_of V c 1 t _ fun y hy => congrArg (V c (Proc.devRef .tc main_v50)) (by unfold high; blk_ext [idx3_1 t])
theorem staged_2 (c : Dev nD) (t : Fin 25) : staged V c 2 t = blockOf (by decide) (V c (Proc.devRef .tc main_arg0)) (low t) :=
  staged_of V c 2 t _ fun y hy => congrArg (V c (Proc.devRef .tc main_arg0)) (by unfold low; blk_ext [idx3_2 t])
theorem staged_3 (c : Dev nD) (t : Fin 25) : staged V c 3 t = blockOf (by decide) (V c (Proc.devRef .tc main_arg0)) (high t) :=
  staged_of V c 3 t _ fun y hy => congrArg (V c (Proc.devRef .tc main_arg0)) (by unfold high; blk_ext [idx3_3 t])
theorem staged_4 (c : Dev nD) (t : Fin 25) : staged V c 4 t = V c (Proc.devRef .tc main_v51) :=
  staged_of V c 4 t _ fun y hy => congrArg (V c (Proc.devRef .tc main_v51)) (by blk_ext [idx3_4 t])
theorem staged_5 (c : Dev nD) (t : Fin 25) : staged V c 5 t = V c (Proc.devRef .tc main_v52) :=
  staged_of V c 5 t _ fun y hy => congrArg (V c (Proc.devRef .tc main_v52)) (by blk_ext [idx3_5 t])
theorem staged_6 (c : Dev nD) (t : Fin 25) : staged V c 6 t = V c (Proc.devRef .tc main_arg8) :=
  staged_of V c 6 t _ fun y hy => congrArg (V c (Proc.devRef .tc main_arg8)) (by blk_ext [idx3_6 t])
theorem staged_7 (c : Dev nD) (t : Fin 25) : staged V c 7 t = V c (Proc.devRef .tc main_v53) :=
  staged_of V c 7 t _ fun y hy => congrArg (V c (Proc.devRef .tc main_v53)) (by blk_ext [idx3_7 t])
theorem staged_8 (c : Dev nD) (t : Fin 25) : staged V c 8 t = V c (Proc.devRef .tc main_arg10) :=
  staged_of V c 8 t _ fun y hy => congrArg (V c (Proc.devRef .tc main_arg10)) (by blk_ext [idx3_8 t])

theorem prod_eq (c : Dev nD) (t : Fin 25) : prod V c t = prodOf V c t := by
  unfold prod prodOf prodBlock
  rw [staged_0, staged_1, staged_2, staged_3, staged_4, staged_5, staged_6, staged_7, staged_8]

theorem sums_eq (c : Dev nD) (k : ℕ) (h : k < 25) : sums V c k h = totals (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) k h := by
  induction k with
  | zero => exact congrArg k3_pay1 (prod_eq V c ⟨0, h⟩)
  | succ k ih =>
    show k3_pay2 (prod V c ⟨k + 1, h⟩) (sums V c k _) = k3_pay2 (prodOf V c ⟨k + 1, h⟩) (totals (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) k _)
    exact congr (congrArg k3_pay2 (prod_eq V c ⟨k + 1, h⟩)) (ih _)

/-- A block of the output array, computed from the point's input blocks. -/
theorem block_prod (c : Dev nD) (t : Fin 25) (y : S3600x64.Idx) : prod V c t y = products (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10))
      (ix2 ⟨t.val * 3600 + (y 0).val, by have := t.isLt; have := (y 0).isLt; have : (y 0).val < 3600 := this; omega⟩ (y 1)) := by
  have h0 : (y 0).val < 3600 := (y 0).isLt
  have ht : (⟨(t.val * 3600 + (y 0).val) / 3600, by have := t.isLt; omega⟩ : Fin 25) = t := Fin.ext (by dsimp only; omega)
  have hg : (⟨(t.val * 3600 + (y 0).val) % 3600, by omega⟩ : Fin 3600) = y 0 := Fin.ext (by dsimp only; omega)
  show prod V c t y = prodBlock _ _ _ _ _ _ _ ⟨(t.val * 3600 + (y 0).val) / 3600, _⟩ (ix2 ⟨(t.val * 3600 + (y 0).val) % 3600, _⟩ (y 1))
  rw [ht, hg, prod_eq]
  exact congrArg _ (eq_ix2 y)

variable (b n : ℕ) (c : Dev nD)

theorem arr_prod : (proj_dat V b n c).arrAt 9 cfg3.N = products (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) := by
  refine (proj_dat V b n c).arrAt_eq_of_covers 9 _ (by decide +kernel) fun t hf y => ?_
  blk_simp
  rw [proj_after]
  refine (block_prod V c t y).trans (congrArg _ (Eq.symm ?_))
  blk_ext [idx3_9 t]

theorem arr_sums : (proj_dat V b n c).arrAt 10 cfg3.N = totals (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) 24 (by decide) :=
  (proj_dat V b n c).arrAt_eq_of_after_last 10 ⟨24, by decide⟩ (by decide +kernel) _ fun j => by
    rw [proj_after]
    exact congrFun (sums_eq V c 24 (by decide)) _

/-- The product's array after the call. -/
theorem projected_prod : projected V b n c (Proc.devRef .tc main_v54_0) = products (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) :=
  (afterCall_arr (proj_dat V b n c) (V c) (proj_kit (F := F)).sharedIn (fun w => proj_A V b n c w) 9).trans (arr_prod V b n c)

/-- The sums' array after the call. -/
theorem projected_sums : projected V b n c (Proc.devRef .tc main_v54_1) = totals (V c (Proc.devRef .tc main_v50)) (V c (Proc.devRef .tc main_arg0)) (V c (Proc.devRef .tc main_v51)) (V c (Proc.devRef .tc main_v52))
      (V c (Proc.devRef .tc main_arg8)) (V c (Proc.devRef .tc main_v53)) (V c (Proc.devRef .tc main_arg10)) 24 (by decide) :=
  (afterCall_arr (proj_dat V b n c) (V c) (proj_kit (F := F)).sharedIn (fun w => proj_A V b n c w) 10).trans (arr_sums V b n c)

/-- Every other array is as it was. -/
theorem projected_keeps (r : Ref sig .tc) (h : r ≠ main_v54_0) (h' : r ≠ main_v54_1) : projected V b n c (Proc.devRef .tc r) = V c (Proc.devRef .tc r) :=
  afterCall_keeps (proj_dat V b n c) (V c) (proj_kit (F := F)).sharedIn (fun w => proj_A V b n c w) r fun
    | 0, _ => rfl | 1, _ => rfl | 2, _ => rfl | 3, _ => rfl | 4, _ => rfl | 5, _ => rfl | 6, _ => rfl | 7, _ => rfl | 8, _ => rfl
    | 9, e => absurd e.symm h | 10, e => absurd e.symm h'

end Cert.Proof.Calls

end
-- ==== Proof.Mix.lean ====
/-
  The projection of one pixel: the two heads' new channels, one after the other, through the output projection, and the result
  beside the heads' own scaled channels through the second convolution; and the sums of the products, and of their squares,
  over all pixels. Over the extended reals the projection call's arrays are these.
-/
module

public import Idealize.ShloMosaic.Lib.Pointwise
public import Idealize.ShloMosaic.Lib.Pipeline.ValueKit.Acc
public import Idealize.ShloMosaic.PureOps.Ideal.Laws
public import proofs.«01_k».proof.Proof.Projected

@[expose] public section

noncomputable section

namespace Cert.Proof.Mix

open Idealize.ShloMosaic

/-! ## The mathematics -/

/-- A pixel's output projection, from its 64 new channels. -/
def projected (wo : (⟨2, ![64, 64]⟩ : Shape).Idx → EReal) (bo : Fin 64 → EReal) (u : Fin 64 → EReal) (e : Fin 64) : EReal :=
  max (∑ k : Fin 64, u k * wo (ix2 e k) + bo e) 0

/-- A pixel's products, from its 64 new channels and its 64 scaled ones. -/
def mixed (wo : (⟨2, ![64, 64]⟩ : Shape).Idx → EReal) (bo : Fin 64 → EReal) (w2 : (⟨2, ![64, 128]⟩ : Shape).Idx → EReal)
    (u v : Fin 64 → EReal) (co : Fin 64) : EReal :=
  ∑ e : Fin 64, projected wo bo u e * w2 (ix2 co ⟨e.val, by omega⟩) + ∑ e : Fin 64, v e * w2 (ix2 co ⟨64 + e.val, by omega⟩)

/-- The sums over all pixels, in the first row, and those of the squares, in the second. -/
def sumsOf (z : (⟨2, ![90000, 64]⟩ : Shape).Idx → EReal) : (⟨2, ![2, 64]⟩ : Shape).Idx → EReal := fun j =>
  if (j 0).val < 1 then ∑ n : Fin 90000, z (ix2 n (j 1)) else ∑ n : Fin 90000, z (ix2 n (j 1)) * z (ix2 n (j 1))

/-! ## The call -/

open Cert.KernelIdeal Cert.KernelIdeal.Gen Cert.Proof.Calls

/-- Two blocks' first 32 channels, one after the other. -/
def joined (a b : FVec Ideal S3600x128 .f32) (r : Fin 3600) (k : Fin 64) : EReal :=
  if h : k.val < 32 then a (ix2 r ⟨k.val, by omega⟩) else b (ix2 r ⟨k.val - 32, by omega⟩)

theorem block_at (a0 a1 : Vec Ideal S3600x128 .f32) (wo : Vec Ideal S64x64 .f32) (bo : Vec Ideal S1x64 .f32) (b0 b1 : Vec Ideal S3600x128 .f32)
    (sc sh : Vec Ideal S1x64 .f32) (w2 : Vec Ideal S64x128 .f32) (r : Fin 3600) (co : Fin 64) :
    k3_pay3 a0 a1 wo bo b0 b1 sc sh w2 (ix2 r co)
      = mixed wo (fun e => bo (ix2 0 e)) w2 (joined a0 a1 r) (fun k => max (joined b0 b1 r k * sc (ix2 0 k) + sh (ix2 0 k)) 0) co := by
  unfold k3_pay3 mixed projected joined
  pointwise

theorem sums_at (z : FVec Ideal S3600x64 .f32) (b : Fin 2) (co : Fin 64) :
    k3_pay1 z (ix2 b co) = if b.val < 1 then ∑ r : Fin 3600, z (ix2 r co) else ∑ r : Fin 3600, z (ix2 r co) * z (ix2 r co) := by
  unfold k3_pay1
  pointwise
  split <;> rfl

section Whole

variable (x : Vec Ideal S180224x128 .f32) (y : Vec Ideal S180000x128 .f32) (sc sh : Vec Ideal S1x64 .f32) (wo : Vec Ideal S64x64 .f32)
  (bo : Vec Ideal S1x64 .f32) (w2 : Vec Ideal S64x128 .f32)

theorem joined_block {n : ℕ} (hn : 180000 ≤ n) (x : Vec Ideal ⟨2, ![n, 128]⟩ .f32) (t : Fin 25) (r : Fin 3600) (k : Fin 64) :
    joined (blockOf hn x (low t)) (blockOf hn x (high t)) r k
      = x (ix2 ⟨k.val / 32 * 90000 + (t.val * 3600 + r.val), by omega⟩ ⟨k.val % 32, by omega⟩) := by
  unfold joined blockOf low high
  split
  · refine congrArg x (congrArg₂ ix2 (Fin.ext ?_) (Fin.ext ?_))
    · show t.val * 3600 + r.val = k.val / 32 * 90000 + (t.val * 3600 + r.val); omega
    · show k.val = k.val % 32; omega
  · refine congrArg x (congrArg₂ ix2 (Fin.ext ?_) (Fin.ext ?_))
    · show (t.val + 25) * 3600 + r.val = k.val / 32 * 90000 + (t.val * 3600 + r.val); omega
    · show k.val - 32 = k.val % 32; omega

/-- The products of a pixel. -/
theorem products_at (p : Fin 90000) (co : Fin 64) :
    products x y sc sh wo bo w2 (ix2 p co)
      = mixed wo (fun e => bo (ix2 0 e)) w2 (fun k => x (ix2 ⟨k.val / 32 * 90000 + p.val, by omega⟩ ⟨k.val % 32, by omega⟩))
          (fun k => max (y (ix2 ⟨k.val / 32 * 90000 + p.val, by omega⟩ ⟨k.val % 32, by omega⟩) * sc (ix2 0 k) + sh (ix2 0 k)) 0) co := by
  have hr (k : Fin 64) : k.val / 32 * 90000 + (p.val / 3600 * 3600 + p.val % 3600) = k.val / 32 * 90000 + p.val := by omega
  have e : products x y sc sh wo bo w2 (ix2 p co)
      = prodBlock x y sc sh wo bo w2 ⟨p.val / 3600, by omega⟩ (ix2 ⟨p.val % 3600, by omega⟩ co) := rfl
  rw [e]
  unfold prodBlock
  rw [block_at]
  have e1 := funext (joined_block (by decide) x ⟨p.val / 3600, by omega⟩ ⟨p.val % 3600, by omega⟩)
  simp only [hr] at e1
  simp only [joined_block, hr]
  exact congrArg (fun u => mixed wo (fun e => bo (ix2 0 e)) w2 u _ co) e1

theorem prod_at (t : Fin 25) (r : Fin 3600) (co : Fin 64) :
    prodBlock x y sc sh wo bo w2 t (ix2 r co) = products x y sc sh wo bo w2 (ix2 ⟨t.val * 3600 + r.val, by omega⟩ co) := by
  refine congrArg₂ (fun t r => prodBlock x y sc sh wo bo w2 t (ix2 r co)) (Fin.ext ?_) (Fin.ext ?_)
  · show t.val = (t.val * 3600 + r.val) / 3600; omega
  · show r.val = (t.val * 3600 + r.val) % 3600; omega

theorem totals_at (j : S2x64.Idx) : ∀ (k : ℕ) (h : k < 25),
    totals x y sc sh wo bo w2 k h j = ∑ t : Fin (k + 1), k3_pay1 (prodBlock x y sc sh wo bo w2 ⟨t.val, by omega⟩) j
  | 0, h => by rw [Fin.sum_univ_one]; rfl
  | k + 1, h => by
    rw [Fin.sum_univ_castSucc]
    have step : totals x y sc sh wo bo w2 (k + 1) h j
        = totals x y sc sh wo bo w2 k (Nat.lt_of_succ_lt h) j + k3_pay1 (prodBlock x y sc sh wo bo w2 ⟨k + 1, h⟩) j := by
      show k3_pay2 _ _ j = _
      unfold k3_pay2
      pointwise
    rw [step, totals_at j k]
    rfl

/-- The sums the call leaves are those over all pixels. -/
theorem totals_eq (h : 24 < 25) : totals x y sc sh wo bo w2 24 h = sumsOf (products x y sc sh wo bo w2) := by
  funext j
  obtain ⟨b, co, rfl⟩ : ∃ b co, j = ix2 b co := ⟨_, _, eq_ix2 j⟩
  rw [totals_at]
  simp only [sums_at, prod_at]
  unfold sumsOf
  dsimp only
  show _ = if b.val < 1 then _ else _
  split
  · exact Fin.sum_mul_add_fin (S := 25) (n := 3600) (L := 90000) (fun n => products x y sc sh wo bo w2 (ix2 n co))
  · exact Fin.sum_mul_add_fin (S := 25) (n := 3600) (L := 90000) (fun n => products x y sc sh wo bo w2 (ix2 n co) * products x y sc sh wo bo w2 (ix2 n co))

end Whole

end Cert.Proof.Mix

end
-- ==== Proof.Block.lean ====
/-
  One group's attention: 300 rows of 32 channels, their queries, keys and values, the scaled products of queries and
  keys, the softmax of these, and the weighted values. Over the extended reals the attention call's block is this, for
  each of the eight groups of a block.
-/
module

public import Idealize.ShloMosaic.Lib.Pointwise
public import Idealize.ShloMosaic.PureOps.Ideal.Laws
public import proofs.«01_k».proof.Proof.Gen.KernelIdeal.Skeleton

@[expose] public section

noncomputable section

namespace Cert.Proof.Group

open Idealize.ShloMosaic

/-! ## The mathematics -/

section Maths

variable (x : Fin 300 → Fin 32 → EReal) (wq : (⟨2, ![32, 32]⟩ : Shape).Idx → EReal) (wkv : (⟨2, ![64, 32]⟩ : Shape).Idx → EReal)

/-- A row's query. -/
def query (i : Fin 300) (e : Fin 32) : EReal := ∑ k : Fin 32, x i k * wq (ix2 e k)

/-- A row's key, in the first half, and its value, in the second. -/
def keyValue (i : Fin 300) (e : Fin 64) : EReal := ∑ k : Fin 32, x i k * wkv (ix2 e k)

/-- The scaled product of a query and a key. -/
def score (i j : Fin 300) : EReal :=
  (∑ e : Fin 32, query x wq i e * keyValue x wkv j ⟨e.val, by omega⟩) * Ideal.ofBits .f32 0x3E3504F3#32

/-- The greatest of a row's scores. -/
def top (d : Fin 300 → Fin 300 → EReal) (i : Fin 300) : EReal := Finset.univ.fold max (Ideal.ofBits .f32 0xFF800000#32) fun j : Fin 300 => d i j

/-- The weight of a key, before it is divided by the row's sum. -/
def weight (d : Fin 300 → Fin 300 → EReal) (i j : Fin 300) : EReal := FloatOps.exp (F := Ideal) (φ := .f32) (d i j - top d i)

/-- The softmax of a row. -/
def soft (d : Fin 300 → Fin 300 → EReal) (i j : Fin 300) : EReal :=
  FloatOps.divf (F := Ideal) (φ := .f32) (weight d i j) (∑ k : Fin 300, weight d i k)

/-- What a row attends to. -/
def attend (i : Fin 300) (e : Fin 32) : EReal := ∑ j : Fin 300, soft (score x wq wkv) i j * keyValue x wkv j ⟨32 + e.val, by omega⟩

end Maths

/-! ## The call's block -/

open Cert.KernelIdeal Cert.KernelIdeal.Gen

/-- A block's rows, scaled, shifted and cut off below at zero. -/
def inputs (a : Vec Ideal S2400x128 .f32) (b c : Vec Ideal S8x32 .f32) : FVec Ideal S8x300x32 .f32 :=
  maximumf (addf (mulf (shapeCast S8x300x32 (extractStridedSlice S2400x32 ![0, 0] (shapeCast S2400x128 a shapeCasts_S2400x128_S2400x128) slices_S2400x128_o0_0_S2400x32) shapeCasts_S2400x32_S8x300x32)
        (broadcastTo S8x300x32 (shapeCast S8x1x32 (shapeCast S8x32 b shapeCasts_S8x32_S8x32) shapeCasts_S8x32_S8x1x32) broadcasts_S8x1x32_S8x300x32))
      (broadcastTo S8x300x32 (shapeCast S8x1x32 (shapeCast S8x32 c shapeCasts_S8x32_S8x32) shapeCasts_S8x32_S8x1x32) broadcasts_S8x1x32_S8x300x32))
    (broadcast S8x300x32 (Scalar.ofBits .f32 0x00000000#32))

def queries (s : FVec Ideal S8x300x32 .f32) (w : Vec Ideal S32x32 .f32) : FVec Ideal S8x300x32 .f32 :=
  shapeCast S8x300x32 (matmul (φ₂ := .f32) dot_S2400x32_S32x32_S2400x32_1_1_0_0_n_n none (shapeCast S2400x32 s shapeCasts_S8x300x32_S2400x32) w
    (constant S2400x32 .f32 0x00000000#32)) shapeCasts_S2400x32_S8x300x32

def keysValues (s : FVec Ideal S8x300x32 .f32) (w : Vec Ideal S64x32 .f32) : FVec Ideal S2400x64 .f32 :=
  matmul (φ₂ := .f32) dot_S2400x32_S64x32_S2400x64_1_1_0_0_n_n none (shapeCast S2400x32 s shapeCasts_S8x300x32_S2400x32) w (constant S2400x64 .f32 0x00000000#32)

def keys (t : FVec Ideal S2400x64 .f32) : FVec Ideal S8x300x32 .f32 :=
  shapeCast S8x300x32 (extractStridedSlice S2400x32 ![0, 0] t slices_S2400x64_o0_0_S2400x32) shapeCasts_S2400x32_S8x300x32

def values (t : FVec Ideal S2400x64 .f32) : FVec Ideal S8x300x32 .f32 :=
  shapeCast S8x300x32 (extractStridedSlice S2400x32 ![0, 32] t slices_S2400x64_o0_32_S2400x32) shapeCasts_S2400x32_S8x300x32

def scores (q k : FVec Ideal S8x300x32 .f32) : FVec Ideal S8x300x300 .f32 :=
  mulf (matmul dot_S8x300x32_S8x300x32_S8x300x300_2_2_1_1_0_0 none q k (constant S8x300x300 .f32 0x00000000#32))
    (broadcast S8x300x300 (Scalar.ofBits .f32 0x3E3504F3#32))

def weights (d : FVec Ideal S8x300x300 .f32) : FVec Ideal S8x300x300 .f32 :=
  exp (subf d (broadcastTo S8x300x300 (shapeCast S8x300x1 (multiReduction .maximumf [2] S8x300 d 0xFF800000#32 reduces_S8x300x300_S8x300 (.inl rfl) rfl)
    shapeCasts_S8x300_S8x300x1) broadcasts_S8x300x1_S8x300x300))

def softs (e : FVec Ideal S8x300x300 .f32) : FVec Ideal S8x300x300 .f32 :=
  divf e (broadcastTo S8x300x300 (shapeCast S8x300x1 (multiReduction .add [2] S8x300 e 0x00000000#32 reduces_S8x300x300_S8x300 (.inl rfl) rfl)
    shapeCasts_S8x300_S8x300x1) broadcasts_S8x300x1_S8x300x300)

theorem block_eq (a : Vec Ideal S2400x128 .f32) (b c : Vec Ideal S8x32 .f32) (wq : Vec Ideal S32x32 .f32) (wkv : Vec Ideal S64x32 .f32) :
    k1_pay1 a b c wq wkv
      = matmul dot_S8x300x300_S8x300x32_S8x300x32_2_1_1_2_0_0 none
          (softs (weights (scores (queries (inputs a b c) wq) (keys (keysValues (inputs a b c) wkv))))) (values (keysValues (inputs a b c) wkv))
          (constant S8x300x32 .f32 0x00000000#32) := rfl

theorem inputs_at (a : Vec Ideal S2400x128 .f32) (b c : Vec Ideal S8x32 .f32) (g : Fin 8) (i : Fin 300) (k : Fin 32) :
    inputs a b c (ix3 g i k) = max (a (ix2 ⟨g.val * 300 + i.val, by omega⟩ ⟨k.val, by omega⟩) * b (ix2 g k) + c (ix2 g k)) 0 := by
  unfold inputs
  pointwise

theorem queries_at (s : FVec Ideal S8x300x32 .f32) (w : Vec Ideal S32x32 .f32) (g : Fin 8) (i : Fin 300) (e : Fin 32) :
    queries s w (ix3 g i e) = query (fun i k => s (ix3 g i k)) w i e := by
  unfold queries query
  pointwise

theorem keysValues_at (s : FVec Ideal S8x300x32 .f32) (w : Vec Ideal S64x32 .f32) (n : Fin 2400) (e : Fin 64) :
    keysValues s w (ix2 n e) = keyValue (fun i k => s (ix3 ⟨n.val / 300, by omega⟩ i k)) w ⟨n.val % 300, by omega⟩ e := by
  unfold keysValues keyValue
  pointwise

theorem keys_at (t : FVec Ideal S2400x64 .f32) (g : Fin 8) (i : Fin 300) (e : Fin 32) :
    keys t (ix3 g i e) = t (ix2 ⟨g.val * 300 + i.val, by omega⟩ ⟨e.val, by omega⟩) := by
  unfold keys
  pointwise

theorem values_at (t : FVec Ideal S2400x64 .f32) (g : Fin 8) (i : Fin 300) (e : Fin 32) :
    values t (ix3 g i e) = t (ix2 ⟨g.val * 300 + i.val, by omega⟩ ⟨32 + e.val, by omega⟩) := by
  unfold values
  pointwise

theorem scores_at (q k : FVec Ideal S8x300x32 .f32) (g : Fin 8) (i j : Fin 300) :
    scores q k (ix3 g i j) = (∑ e : Fin 32, q (ix3 g i e) * k (ix3 g j e)) * Ideal.ofBits .f32 0x3E3504F3#32 := by
  unfold scores
  pointwise

theorem weights_at (d : FVec Ideal S8x300x300 .f32) (g : Fin 8) (i j : Fin 300) :
    weights d (ix3 g i j) = weight (fun i j => d (ix3 g i j)) i j := by
  unfold weights weight top
  pointwise

theorem softs_at (e : FVec Ideal S8x300x300 .f32) (g : Fin 8) (i j : Fin 300) :
    softs e (ix3 g i j) = FloatOps.divf (F := Ideal) (φ := .f32) (e (ix3 g i j)) (∑ k : Fin 300, e (ix3 g i k)) := by
  unfold softs
  pointwise

/-- What the call leaves of one group of a block. -/
theorem block_at (a : Vec Ideal S2400x128 .f32) (b c : Vec Ideal S8x32 .f32) (wq : Vec Ideal S32x32 .f32) (wkv : Vec Ideal S64x32 .f32) (g : Fin 8) (i : Fin 300) (e : Fin 32) :
    k1_pay1 a b c wq wkv (ix3 g i e)
      = attend (fun i k => max (a (ix2 ⟨g.val * 300 + i.val, by omega⟩ ⟨k.val, by omega⟩) * b (ix2 g k) + c (ix2 g k)) 0) wq wkv i e := by
  have hx : (fun (i : Fin 300) (k : Fin 32) => inputs a b c (ix3 g i k))
      = fun i k => max (a (ix2 ⟨g.val * 300 + i.val, by omega⟩ ⟨k.val, by omega⟩) * b (ix2 g k) + c (ix2 g k)) 0 := by
    funext i k; exact inputs_at a b c g i k
  have hkv (i : Fin 300) (e : Fin 64) : keysValues (inputs a b c) wkv (ix2 ⟨g.val * 300 + i.val, by omega⟩ e)
      = keyValue (fun i k => inputs a b c (ix3 g i k)) wkv i e := by
    rw [keysValues_at, show (⟨(g.val * 300 + i.val) / 300, by omega⟩ : Fin 8) = g from Fin.ext (by dsimp only; omega),
      show (⟨(g.val * 300 + i.val) % 300, by omega⟩ : Fin 300) = i from Fin.ext (by dsimp only; omega)]
  have hd : (fun i j => scores (queries (inputs a b c) wq) (keys (keysValues (inputs a b c) wkv)) (ix3 g i j))
      = score (fun i k => inputs a b c (ix3 g i k)) wq wkv := by
    funext i j
    rw [scores_at]
    unfold score
    simp only [queries_at, keys_at, hkv]
  rw [block_eq, ← hx]
  have key : ∀ (s : FVec Ideal S8x300x300 .f32) (v : FVec Ideal S8x300x32 .f32),
      matmul dot_S8x300x300_S8x300x32_S8x300x32_2_1_1_2_0_0 none s v (constant S8x300x32 .f32 0x00000000#32) (ix3 g i e)
        = ∑ j : Fin 300, s (ix3 g i j) * v (ix3 g j e) := fun s v => by pointwise
  rw [key]
  unfold attend soft
  simp only [softs_at, weights_at, hd, values_at, hkv]

end Cert.Proof.Group

end
-- ==== Proof.Output.lean ====
/-
  The attention's output of every group, from the table, the scales and shifts, the index arrays and the weights.
-/
module

public import proofs.«01_k».proof.Proof.Block
public import proofs.«01_k».proof.Proof.Index

@[expose] public section

noncomputable section

namespace Cert.Proof.Group

open Cert.Proof.Index

open Idealize.ShloMosaic

variable {obj bg : (⟨1, ![45000]⟩ : Shape).Idx → BitVec 32} {rand : (⟨3, ![2, 300, 300]⟩ : Shape).Idx → BitVec 32}

/-- Group `g`'s pixels: the rows that the index arrays name, scaled and shifted channel by channel, negatives set to zero. -/
def pixels (H : InRange obj bg rand) (x : (⟨2, ![180000, 128]⟩ : Shape).Idx → EReal) (sc sh : (⟨1, ![64]⟩ : Shape).Idx → EReal) (g : Fin 600) :
    Fin 300 → Fin 32 → EReal := fun i k =>
  max (x (ix2 ⟨rowAt obj bg rand ⟨g.val * 300 + i.val, by omega⟩, H.rowAt_lt _⟩ ⟨k.val, by omega⟩) * sc (ix1 ⟨g.val / 300 * 32 + k.val, by omega⟩)
    + sh (ix1 ⟨g.val / 300 * 32 + k.val, by omega⟩)) 0

theorem scaled_congr {a a' b b' c c' : EReal} (ha : a = a') (hb : b = b') (hc : c = c') : max (a * b + c) 0 = max (a' * b' + c') 0 := by
  rw [ha, hb, hc]

/-- Every group's output. -/
def output (H : InRange obj bg rand) (x : (⟨2, ![180000, 128]⟩ : Shape).Idx → EReal) (sc sh : (⟨1, ![64]⟩ : Shape).Idx → EReal)
    (wq : (⟨2, ![32, 32]⟩ : Shape).Idx → EReal) (wkv : (⟨2, ![64, 32]⟩ : Shape).Idx → EReal) : (⟨3, ![600, 300, 32]⟩ : Shape).Idx → EReal := fun j =>
  attend (pixels H x sc sh (j 0)) wq wkv (j 1) (j 2)

end Cert.Proof.Group

end
-- ==== Proof.Perm.lean ====
/-
  What the precondition says: the two lists of pixels laid end to end hold every pixel once, and each head's places in a
  half of its square hold every place of that half's list once. So a head reads every pixel once, and both heads together
  every row of the table once.
-/
module

public import Idealize.ShloMosaic.Lib.SortFacts
public import Idealize.ShloMosaic.Lib.ReduceAll
public import Idealize.ShloMosaic.Lib.Pointwise
public import proofs.«01_k».proof.Proof.Index
public import proofs.«01_k».proof.Proof.Gen.Pre_permutations

@[expose] public section

noncomputable section

namespace Cert.Proof.Index

open Idealize.ShloMosaic Idealize.ShloMosaic.StableHlo

/-- A list that sorts to `0, 1, 2, …` holds each of these numbers once. -/
theorem of_sorted {n : ℕ} (hn : n < 2 ^ 32) (cmp : BitVec 32 → BitVec 32 → BitVec 1) (x : (⟨1, ![n]⟩ : Shape).Idx → BitVec 32)
    (h : ∀ k : Fin n, Host.sort ⟨1, ![n]⟩ 0 cmp x (ix1 k) = BitVec.ofNat 32 k.val) :
    (∀ k : Fin n, (x (ix1 k)).toNat < n) ∧ ∀ k k' : Fin n, x (ix1 k) = x (ix1 k') → k = k' := by
  have hd : 0 < (⟨1, ![n]⟩ : Shape).rank := Nat.one_pos
  have along (j : (⟨1, ![n]⟩ : Shape).Idx) (k : Fin n) : j.along (⟨0, hd⟩ : Fin (⟨1, ![n]⟩ : Shape).rank) k = ix1 k := by
    exact (Shape.Idx.along_rank1 j k).trans (eq_ix1 _)
  let f : Fin n → Fin n := sortedFrom fun k k' => cmp (x (ix1 k)) (x (ix1 k')) == 1#1
  have hf (k : Fin n) : x (ix1 (f k)) = BitVec.ofNat 32 k.val := by
    rw [← h k]
    unfold Host.sort
    rw [dif_pos hd]
    have hb : (fun a b : Fin n => cmp (x ((ix1 k : (⟨1, ![n]⟩ : Shape).Idx).along ⟨0, hd⟩ a)) (x ((ix1 k : (⟨1, ![n]⟩ : Shape).Idx).along ⟨0, hd⟩ b)) == 1#1)
        = fun a b => cmp (x (ix1 a)) (x (ix1 b)) == 1#1 := by
      funext a b; rw [along, along]
    refine congrArg x (Eq.symm ((along _ _).trans (congrArg ix1 ?_)))
    exact congrArg (fun g => sortedFrom g k) hb
  have toNat (k : Fin n) : (x (ix1 (f k))).toNat = k.val := by
    rw [hf, BitVec.toNat_ofNat, Nat.mod_eq_of_lt (by omega)]
  refine ⟨fun k => ?_, fun k k' e => ?_⟩
  · obtain ⟨k, rfl⟩ := sortedFrom_surjective (fun k k' => cmp (x (ix1 k)) (x (ix1 k')) == 1#1) k
    exact (toNat k).trans_lt k.isLt
  · obtain ⟨k, rfl⟩ := sortedFrom_surjective (fun k k' => cmp (x (ix1 k)) (x (ix1 k')) == 1#1) k
    obtain ⟨k', rfl⟩ := sortedFrom_surjective (fun k k' => cmp (x (ix1 k)) (x (ix1 k')) == 1#1) k'
    have : k.val = k'.val := (toNat k).symm.trans ((congrArg BitVec.toNat e).trans (toNat k'))
    rw [Fin.ext this]

/-- What the precondition says of the three index arrays. -/
structure Perms (obj bg : (⟨1, ![45000]⟩ : Shape).Idx → BitVec 32) (rand : (⟨3, ![2, 300, 300]⟩ : Shape).Idx → BitVec 32) : Prop where
  obj_inj : ∀ k k' : Fin 45000, obj (ix1 k) = obj (ix1 k') → k = k'
  bg_inj : ∀ k k' : Fin 45000, bg (ix1 k) = bg (ix1 k') → k = k'
  apart : ∀ k k' : Fin 45000, obj (ix1 k) ≠ bg (ix1 k')
  rand_inj : ∀ (h : Fin 2) (r c r' c' : Fin 300), (r.val < 150 ↔ r'.val < 150) → rand (ix3 h r c) = rand (ix3 h r' c') → r = r' ∧ c = c'
  inRange : InRange obj bg rand

variable {obj bg : (⟨1, ![45000]⟩ : Shape).Idx → BitVec 32} {rand : (⟨3, ![2, 300, 300]⟩ : Shape).Idx → BitVec 32}

/-- A head reads no pixel twice. -/
theorem Perms.pixel_inj (H : Perms obj bg rand) (h : Fin 2) (r c r' c' : Fin 300)
    (e : (pixel obj bg rand h r c).toNat = (pixel obj bg rand h r' c').toNat) : r = r' ∧ c = c' := by
  have e := BitVec.eq_of_toNat_eq e
  have place (w w' : BitVec 32) (hw : w.toNat < 45000) (hw' : w'.toNat < 45000)
      (h : (⟨w.toNat % 45000, Nat.mod_lt _ (by decide)⟩ : Fin 45000) = ⟨w'.toNat % 45000, Nat.mod_lt _ (by decide)⟩) : w = w' := by
    have := Fin.mk.inj h
    rw [Nat.mod_eq_of_lt hw, Nat.mod_eq_of_lt hw'] at this
    exact BitVec.eq_of_toNat_eq this
  unfold pixel at45 at e
  by_cases hr : r.val < 150 <;> by_cases hr' : r'.val < 150
  · rw [if_pos hr, if_pos hr'] at e
    exact H.rand_inj h r c r' c' (iff_of_true hr hr') (place _ _ (H.inRange.rand _) (H.inRange.rand _) (H.obj_inj _ _ e))
  · rw [if_pos hr, if_neg hr'] at e
    exact absurd e (H.apart _ _)
  · rw [if_neg hr, if_pos hr'] at e
    exact absurd e.symm (H.apart _ _)
  · rw [if_neg hr, if_neg hr'] at e
    exact H.rand_inj h r c r' c' (iff_of_false hr hr') (place _ _ (H.inRange.rand _) (H.inRange.rand _) (H.bg_inj _ _ e))

/-- The two heads together read no row twice. -/
theorem Perms.rowAt_inj (H : Perms obj bg rand) (n n' : Fin 180000) (e : rowAt obj bg rand n = rowAt obj bg rand n') : n = n' := by
  have hp := H.inRange.pixel_lt ⟨n.val / 90000, by omega⟩ ⟨n.val / 300 % 300, by omega⟩ ⟨n.val % 300, by omega⟩
  have hp' := H.inRange.pixel_lt ⟨n'.val / 90000, by omega⟩ ⟨n'.val / 300 % 300, by omega⟩ ⟨n'.val % 300, by omega⟩
  unfold rowAt at e
  have hh : n.val / 90000 = n'.val / 90000 := by omega
  have e' : (pixel obj bg rand ⟨n.val / 90000, by omega⟩ ⟨n.val / 300 % 300, by omega⟩ ⟨n.val % 300, by omega⟩).toNat
      = (pixel obj bg rand ⟨n.val / 90000, by omega⟩ ⟨n'.val / 300 % 300, by omega⟩ ⟨n'.val % 300, by omega⟩).toNat := by
    have e1 : (⟨n'.val / 90000, by omega⟩ : Fin 2) = ⟨n.val / 90000, by omega⟩ := Fin.ext hh.symm
    rw [e1] at e
    omega
  obtain ⟨hr, hc⟩ := H.pixel_inj _ _ _ _ _ e'
  have hr := Fin.mk.inj hr
  have hc := Fin.mk.inj hc
  exact Fin.ext (by omega)

/-! ## What a scatter over both heads' rows leaves -/

/-- The row that the list names at a place. -/
def row (H : Perms obj bg rand) (n : Fin 180000) : Fin 180000 := ⟨rowAt obj bg rand n, H.inRange.rowAt_lt n⟩

theorem row_surjective (H : Perms obj bg rand) : Function.Surjective (row H) :=
  Finite.surjective_of_injective fun n n' e => H.rowAt_inj n n' (Fin.mk.inj e)

/-- The array whose row named at place `n` holds the values `w n`. -/
def scattered {α : Type} (H : Perms obj bg rand) (w : Fin 180000 → Fin 32 → α) : (⟨2, ![180000, 32]⟩ : Shape).Idx → α :=
  fun j => w (Function.surjInv (row_surjective H) (j 0)) (j 1)

/-- An array that holds `w n` in the row named at place `n` is this array. -/
theorem eq_scattered {α : Type} (H : Perms obj bg rand) (w : Fin 180000 → Fin 32 → α) (y : (⟨2, ![180000, 32]⟩ : Shape).Idx → α)
    (h : ∀ n ch, y (ix2 (row H n) ch) = w n ch) : y = scattered H w := by
  funext j
  obtain ⟨r, ch, rfl⟩ : ∃ r ch, j = ix2 r ch := ⟨_, _, eq_ix2 j⟩
  obtain ⟨n, rfl⟩ := row_surjective H r
  rw [h]
  show w n ch = w (Function.surjInv (row_surjective H) (row H n)) ch
  have e : row H (Function.surjInv (row_surjective H) (row H n)) = row H n := Function.surjInv_eq _ _
  rw [H.rowAt_inj _ n (Fin.mk.inj e)]

/-- The value of place `n` and channel `ch`: with each row of the square read as 32 channels of 300 columns. -/
def valueAt {α : Type} (o : (⟨3, ![600, 300, 32]⟩ : Shape).Idx → α) (n : Fin 180000) (ch : Fin 32) : α :=
  o (ix3 ⟨n.val / 300, by omega⟩ ⟨(ch.val * 300 + n.val % 300) / 32, by omega⟩ ⟨(ch.val * 300 + n.val % 300) % 32, by omega⟩)

/-! ## The precondition -/

section Pre

open Cert.Pre_permutations Cert.Pre_permutations.Gen

theorem cat_at (a b : IVec S45000 32) (k : Fin 90000) :
    concatenate S90000 0 [⟨S45000, a⟩, ⟨S45000, b⟩] Facts.concatenates_S45000_S45000_S90000_d0 (ix1 k)
      = if h : k.val < 45000 then a (ix1 ⟨k.val, h⟩) else b (ix1 ⟨k.val - 45000, by omega⟩) := by
  pointwise

theorem half_at (off : Fin 3 → ℕ) (h : Fin 2) (b : ℕ) (hb : b + 150 ≤ 300) (hoff : off = ![h.val, b, 0]) (x : IVec S2x300x300 32)
    (hs : S2x300x300.Slices off S1x150x300) (k : Fin 45000) :
    shapeCast S45000 (shapeCast S150x300 (extractStridedSlice S1x150x300 off x hs) Facts.shapeCasts_S1x150x300_S150x300) Facts.shapeCasts_S150x300_S45000 (ix1 k)
      = x (ix3 h ⟨b + k.val / 300, by omega⟩ ⟨k.val % 300, by omega⟩) := by
  subst hoff
  pointwise

/-- A comparison with `0, 1, 2, …` that holds everywhere, read back. -/
theorem eq_iota {n : ℕ} (x : IVec ⟨1, ![n]⟩ 32) (h : ∀ j, cmpi .eq x (iotaInDim ⟨1, ![n]⟩ 32 0) j = 1#1) (k : Fin n) :
    x (ix1 k) = BitVec.ofNat 32 k.val := by
  have e : IntOp.cmpi .eq (x (ix1 k)) (BitVec.ofNat 32 k.val) = 1#1 := h (ix1 k)
  rw [WordCmp.cmpi_eq_eq] at e
  by_contra hc
  rw [decide_eq_false hc] at e
  exact absurd e (by decide)

/-- The places of one half of one head, from the part of the precondition that is about them. -/
theorem half_of (cmp : BitVec 32 → BitVec 32 → BitVec 1) (off : Fin 3 → ℕ) (h : Fin 2) (b : ℕ) (hb : b + 150 ≤ 300) (hoff : off = ![h.val, b, 0])
    (x : IVec S2x300x300 32) (hs : S2x300x300.Slices off S1x150x300)
    (e : ∀ j, cmpi .eq (Host.sort S45000 0 cmp (shapeCast S45000 (shapeCast S150x300 (extractStridedSlice S1x150x300 off x hs)
      Facts.shapeCasts_S1x150x300_S150x300) Facts.shapeCasts_S150x300_S45000)) (iotaInDim S45000 32 0) j = 1#1) :
    (∀ r c : Fin 300, b ≤ r.val → r.val < b + 150 → (x (ix3 h r c)).toNat < 45000)
      ∧ ∀ r c r' c' : Fin 300, b ≤ r.val → r.val < b + 150 → b ≤ r'.val → r'.val < b + 150 → x (ix3 h r c) = x (ix3 h r' c') → r = r' ∧ c = c' := by
  obtain ⟨lt, inj⟩ := of_sorted (by decide) cmp _ (eq_iota _ e)
  have hlt (r c : Fin 300) (h1 : b ≤ r.val) (h2 : r.val < b + 150) : (r.val - b) * 300 + c.val < 45000 := by omega
  have at_ (r c : Fin 300) (h1 : b ≤ r.val) (h2 : r.val < b + 150) := half_at off h b hb hoff x hs ⟨(r.val - b) * 300 + c.val, hlt r c h1 h2⟩
  have place (r c : Fin 300) (h1 : b ≤ r.val) (h2 : r.val < b + 150) :
      shapeCast S45000 (shapeCast S150x300 (extractStridedSlice S1x150x300 off x hs) Facts.shapeCasts_S1x150x300_S150x300)
        Facts.shapeCasts_S150x300_S45000 (ix1 ⟨(r.val - b) * 300 + c.val, hlt r c h1 h2⟩) = x (ix3 h r c) := by
    rw [at_ r c h1 h2]
    have er : (⟨b + ((r.val - b) * 300 + c.val) / 300, by omega⟩ : Fin 300) = r := Fin.ext (by dsimp only; omega)
    have ec : (⟨((r.val - b) * 300 + c.val) % 300, by omega⟩ : Fin 300) = c := Fin.ext (by dsimp only; omega)
    rw [er, ec]
  refine ⟨fun r c h1 h2 => ?_, fun r c r' c' h1 h2 h1' h2' e => ?_⟩
  · rw [← place r c h1 h2]; exact lt _
  · rw [← place r c h1 h2, ← place r' c' h1' h2'] at e
    have := Fin.mk.inj (inj _ _ e)
    exact ⟨Fin.ext (by omega), Fin.ext (by omega)⟩

/-- The printed precondition, read back. -/
theorem perms_of_pre {F : FTy → Type} [FloatOps F] (x : FVec F S180000x128 .f32) (sc sh : FVec F S64 .f32) (obj bg : IVec S45000 32)
    (rand : IVec S2x300x300 32) (wq : FVec F S32x32 .f32) (wkv : FVec F S64x32 .f32) (wo : FVec F S64x64 .f32) (bo : FVec F S64 .f32) (w2 : FVec F S64x128 .f32)
    (h : fn (F := F) x sc sh obj bg rand wq wkv wo bo w2 = fun _ => 1#1) : Perms obj bg rand := by
  have e := congrFun h (Shape.Idx.first (by decide))
  have split (a b : BitVec 1) (hab : IntOp.andi a b = 1#1) : a = 1#1 ∧ b = 1#1 := by
    revert hab; revert a b; decide
  obtain ⟨e, e4⟩ := split _ _ e
  obtain ⟨e, e3⟩ := split _ _ e
  obtain ⟨e, e2⟩ := split _ _ e
  obtain ⟨e0, e1⟩ := split _ _ e
  obtain ⟨lt, inj⟩ := of_sorted (by decide) _ _ (eq_iota _ fun j => Host.reduce_andi_all _ _ _ _ _ e0 j)
  obtain ⟨lt1, inj1⟩ := half_of _ ![0, 0, 0] 0 0 (by decide) rfl _ _ fun j => Host.reduce_andi_all _ _ _ _ _ e1 j
  obtain ⟨lt2, inj2⟩ := half_of _ ![0, 150, 0] 0 150 (by decide) rfl _ _ fun j => Host.reduce_andi_all _ _ _ _ _ e2 j
  obtain ⟨lt3, inj3⟩ := half_of _ ![1, 0, 0] 1 0 (by decide) rfl _ _ fun j => Host.reduce_andi_all _ _ _ _ _ e3 j
  obtain ⟨lt4, inj4⟩ := half_of _ ![1, 150, 0] 1 150 (by decide) rfl _ _ fun j => Host.reduce_andi_all _ _ _ _ _ e4 j
  have fst (k : Fin 45000) : concatenate S90000 0 [⟨S45000, obj⟩, ⟨S45000, bg⟩] Facts.concatenates_S45000_S45000_S90000_d0 (ix1 ⟨k.val, by omega⟩)
      = obj (ix1 k) := (cat_at obj bg _).trans (dif_pos k.isLt)
  have snd (k : Fin 45000) : concatenate S90000 0 [⟨S45000, obj⟩, ⟨S45000, bg⟩] Facts.concatenates_S45000_S45000_S90000_d0 (ix1 ⟨45000 + k.val, by omega⟩)
      = bg (ix1 k) := by
    refine (cat_at obj bg _).trans ((dif_neg (by dsimp only; omega)).trans (congrArg (fun z => bg (ix1 z)) (Fin.ext ?_)))
    dsimp only; omega
  refine ⟨fun k k' e => ?_, fun k k' e => ?_, fun k k' e => ?_, fun h r c r' c' hr e => ?_, fun j => ?_, fun j => ?_, fun j => ?_⟩
  · rw [← fst, ← fst] at e
    exact Fin.ext (Fin.mk.inj (inj _ _ e))
  · rw [← snd, ← snd] at e
    have := Fin.mk.inj (inj _ _ e)
    exact Fin.ext (by omega)
  · rw [← fst, ← snd] at e
    have := Fin.mk.inj (inj _ _ e)
    omega
  · by_cases hc : r.val < 150
    · have hc' := hr.mp hc
      match h with
      | 0 => exact inj1 r c r' c' (Nat.zero_le _) (by omega) (Nat.zero_le _) (by omega) e
      | 1 => exact inj3 r c r' c' (Nat.zero_le _) (by omega) (Nat.zero_le _) (by omega) e
    · have hc' : ¬r'.val < 150 := fun h => hc (hr.mpr h)
      match h with
      | 0 => exact inj2 r c r' c' (by omega) (by omega) (by omega) (by omega) e
      | 1 => exact inj4 r c r' c' (by omega) (by omega) (by omega) (by omega) e
  · obtain ⟨k, rfl⟩ : ∃ k, j = ix1 k := ⟨_, eq_ix1 j⟩
    rw [← fst]; exact lt _
  · obtain ⟨k, rfl⟩ : ∃ k, j = ix1 k := ⟨_, eq_ix1 j⟩
    rw [← snd]; exact lt _
  · obtain ⟨h, r, c, rfl⟩ : ∃ h r c, j = ix3 h r c := ⟨_, _, _, eq_ix3 j⟩
    by_cases hc : r.val < 150
    · match h with
      | 0 => exact lt1 r c (Nat.zero_le _) (by omega)
      | 1 => exact lt3 r c (Nat.zero_le _) (by omega)
    · match h with
      | 0 => exact lt2 r c (by omega) (by omega)
      | 1 => exact lt4 r c (by omega) (by omega)

end Pre

end Cert.Proof.Index

end
-- ==== Proof.List.lean ====
/-
  The list of rows that the host makes for the gather, and what the program therefore ends with.
-/
module

public import proofs.«01_k».proof.Proof.Heads
public import proofs.«01_k».proof.Proof.Attended
public import proofs.«01_k».proof.Proof.Run
public import proofs.«01_k».proof.Proof.Mix
public import proofs.«01_k».proof.Proof.Output
public import proofs.«01_k».proof.Proof.Perm

@[expose] public section

noncomputable section

namespace Cert.Proof.Calls

open Cert.KernelIdeal Cert.KernelIdeal.Gen Cert.Proof.Index

open Idealize.ShloMosaic Idealize.ShloMosaic.StableHlo

variable {F : FTy → Type} [FloatOps F]

/-! ## The lookup of the pixels -/

/-- The operations up to the lookup: the two lists laid end to end, and the places, those of the second list moved by
    the first one's length. -/
theorem opsA_v0 (V : Valuation τ sig (Elt F)) (k : Fin 90000) :
    (after opsA V (Proc.devRef .tc main_v0) : S90000.Idx → BitVec 32) (ix1 k)
      = if h : k.val < 45000 then (V (Proc.devRef .tc main_arg3) : S45000.Idx → BitVec 32) (ix1 ⟨k.val, h⟩)
        else (V (Proc.devRef .tc main_arg4) : S45000.Idx → BitVec 32) (ix1 ⟨k.val - 45000, by omega⟩) := by
  unfold opsA
  after_reads_at

theorem opsA_v10 (V : Valuation τ sig (Elt F)) (n : Fin 180000) :
    (after opsA V (Proc.devRef .tc main_v10) : S180000.Idx → BitVec 32) (ix1 n)
      = IntOp.addi ((V (Proc.devRef .tc main_arg5) : S2x300x300.Idx → BitVec 32) (ix3 ⟨n.val / 90000, by omega⟩ ⟨n.val / 300 % 300, by omega⟩ ⟨n.val % 300, by omega⟩))
          (if n.val / 300 % 300 < 150 then 0#32 else 45000#32) := by
  unfold opsA
  after_reads_at
  congr 1
  split
  · rw [show IntOp.cmpi .sge (BitVec.ofNat 32 (n.val / 300 % 300)) 150#32 = 0#1 from
      (WordCmp.cmpi_sge_ofNat_eq_zero_iff (by show _ < 2 ^ 31; omega) (by decide)).mpr (by omega)]; rfl
  · rw [show IntOp.cmpi .sge (BitVec.ofNat 32 (n.val / 300 % 300)) 150#32 = 1#1 from
      (WordCmp.cmpi_sge_ofNat_eq_one_iff (by show _ < 2 ^ 31; omega) (by decide)).mpr (by omega)]; rfl

/-- The places, as the lookup asks for them. -/
def column (i : IVec S180000 32) : IVec S180000x1 32 :=
  broadcastInDim S180000x1 ![0] bcast_S180000_S180000x1_0
    (select (cmpi .slt i (broadcastInDim S180000 ![] bcast_S_S180000 (constantI S_ 32 0#32)))
      (addi i (broadcastInDim S180000 ![] bcast_S_S180000 (constantI S_ 32 90000#32))) i)

/-- The lookup of all places in one list. -/
def take (x : IVec S90000 32) (i : IVec S180000 32) : IVec S180000 32 :=
  select (Host.reduce IntOp.andi
      (andi (cmpi .sge (column i) (broadcastInDim S180000x1 ![] bcast_S_S180000x1 (constantI S_ 32 0#32)))
        (cmpi .sle (column i) (broadcastInDim S180000x1 ![0, 1] bcast_S1x1_S180000x1_0_1
          (broadcastInDim S1x1 ![1] bcast_S1_S1x1_1 (constantI S1 32 89999#32)))))
      (constantI S_ 1 1#1) reducesTo_S180000x1_S180000_d1 h_S_)
    (Host.gather gather_S90000_S180000x1_S180000_n_0_n_n_0_1_1 x (column i))
    (broadcastInDim S180000 ![] bcast_S_S180000 (constantI S_ 32 2147483648#32))

theorem column_at (i : IVec S180000 32) (h : ∀ j, (i j).toNat < 90000) (p : Fin 180000) (z : Fin 1) : column i (ix2 p z) = i (ix1 p) := by
  unfold column
  rw [wrap_eq]
  rotate_left
  · exact fun _ => rfl
  · exact fun j => (h j).trans (by decide)
  pointwise

theorem column_lt (i : IVec S180000 32) (h : ∀ j, (i j).toNat < 90000) (j : S180000x1.Idx) : (column i j).toNat < 90000 := by
  obtain ⟨p, z, rfl⟩ : ∃ p z, j = ix2 p z := ⟨_, _, eq_ix2 j⟩
  rw [column_at i h]; exact h _

theorem take_at (x : IVec S90000 32) (i : IVec S180000 32) (h : ∀ j, (i j).toNat < 90000) (n : Fin 180000) :
    take x i (ix1 n) = x (ix1 ⟨(i (ix1 n)).toNat, h _⟩) := by
  unfold take
  rw [fill_eq (hi := 89999)]
  rotate_left
  · decide
  · exact fun _ => rfl
  · exact fun _ => rfl
  · exact fun j => Nat.le_of_lt_succ (column_lt i h j)
  · exact fun _ => rfl
  have e : column i (ix2 n 0) = BitVec.ofNat 32 (i (ix1 n)).toNat := (column_at i h n 0).trans (by simp)
  exact Routing.take_ap gather_S90000_S180000x1_S180000_n_0_n_n_0_1_1 rfl rfl rfl rfl x (column i) n (h (ix1 n)) ((h (ix1 n)).trans (by decide)) e

theorem opsT_v11 (V : Valuation τ sig (Elt F)) :
    (after opsT V (Proc.devRef .tc main_v11) : S180000.Idx → BitVec 32)
      = take (V (Proc.devRef .tc main_v0)) (V (Proc.devRef .tc main_v10)) := by
  unfold opsT
  after_results_simp
  simp -implicitDefEqProofs only [TRef.toBuf, TRef.ofBuf, cast_cast, cast_eq]
  rfl

theorem row_word (x : S180000.Idx → BitVec 32) (n : Fin 180224) (h : n.val < 180000) :
    IntOp.addi (x (ix1 ⟨n.val / 90000 * 90000 + n.val / 300 % 300 * 300 + n.val % 300, by omega⟩)) (IntOp.muli (BitVec.ofNat 32 (n.val / 90000)) 90000#32)
      = IntOp.addi (x (ix1 ⟨n.val, h⟩)) (IntOp.muli (BitVec.ofNat 32 (n.val / 90000)) 90000#32) := by
  refine congrArg (fun w => IntOp.addi w (IntOp.muli (BitVec.ofNat 32 (n.val / 90000)) 90000#32)) ?_
  refine congrArg x (congrArg ix1 (Fin.ext ?_))
  show n.val / 90000 * 90000 + n.val / 300 % 300 * 300 + n.val % 300 = n.val
  omega

/-- One of the two lists of rows: the rows of all places, then the padding. -/
theorem opsB_v21 (V : Valuation τ sig (Elt F)) (n : Fin 180224) :
    (after opsB V (Proc.devRef .tc main_v21) : S180224.Idx → BitVec 32) (ix1 n)
      = if h : n.val < 180000 then IntOp.addi ((V (Proc.devRef .tc main_v11) : S180000.Idx → BitVec 32) (ix1 ⟨n.val, h⟩)) (IntOp.muli (BitVec.ofNat 32 (n.val / 90000)) 90000#32)
        else 0#32 := by
  unfold opsB
  after_reads_at
  exact dite_congr rfl (fun h => row_word _ n h) fun _ => rfl

theorem opsB_v25 (V : Valuation τ sig (Elt F)) (n : Fin 180224) :
    (after opsB V (Proc.devRef .tc main_v25) : S180224.Idx → BitVec 32) (ix1 n)
      = if h : n.val < 180000 then IntOp.addi ((V (Proc.devRef .tc main_v11) : S180000.Idx → BitVec 32) (ix1 ⟨n.val, h⟩)) (IntOp.muli (BitVec.ofNat 32 (n.val / 90000)) 90000#32)
        else IntOp.addi 180000#32 (BitVec.ofNat 32 (n.val - 180000)) := by
  unfold opsB
  after_reads_at
  exact dite_congr rfl (fun h => row_word _ n h) fun _ => rfl

/-! ## The list -/

variable {obj bg : S45000.Idx → BitVec 32} {rand : S2x300x300.Idx → BitVec 32}

/-- The place that the lookup is asked for at head `h`, row `r`, column `c`, and what stands there. -/
theorem place_lt (w : BitVec 32) (h : w.toNat < 45000) (r : ℕ) :
    (IntOp.addi w (if r < 150 then 0#32 else 45000#32)).toNat = w.toNat + if r < 150 then 0 else 45000 := by
  show (w + _).toNat = _
  rw [BitVec.toNat_add]
  split
  · show (w.toNat + 0) % 2 ^ 32 = _; omega
  · show (w.toNat + 45000) % 2 ^ 32 = _; omega

/-- The row that the host computes for a place. -/
theorem row_of (V : Valuation τ sig (Elt F)) (ho : V (Proc.devRef .tc main_arg3) = obj) (hb : V (Proc.devRef .tc main_arg4) = bg)
    (hr : V (Proc.devRef .tc main_arg5) = rand) (H : InRange obj bg rand) (n : Fin 180000) :
    IntOp.addi ((after opsT (after opsA V) (Proc.devRef .tc main_v11) : S180000.Idx → BitVec 32) (ix1 n)) (IntOp.muli (BitVec.ofNat 32 (n.val / 90000)) 90000#32)
      = BitVec.ofNat 32 (rowAt obj bg rand n) := by
  have hA := opsA_v10 V
  rw [hr] at hA
  have hlt (j : S180000.Idx) : ((after opsA V (Proc.devRef .tc main_v10) : S180000.Idx → BitVec 32) j).toNat < 90000 := by
    obtain ⟨p, rfl⟩ : ∃ p, j = ix1 p := ⟨_, eq_ix1 j⟩
    rw [hA, place_lt _ (H.rand _)]
    have := H.rand (ix3 ⟨p.val / 90000, by omega⟩ ⟨p.val / 300 % 300, by omega⟩ ⟨p.val % 300, by omega⟩)
    split <;> omega
  have hw := H.rand (ix3 ⟨n.val / 90000, by omega⟩ ⟨n.val / 300 % 300, by omega⟩ ⟨n.val % 300, by omega⟩)
  have hk := (congrArg BitVec.toNat (hA n)).trans (place_lt _ (H.rand _) _)
  have hpix : take (after opsA V (Proc.devRef .tc main_v0)) (after opsA V (Proc.devRef .tc main_v10)) (ix1 n)
      = pixel obj bg rand ⟨n.val / 90000, by omega⟩ ⟨n.val / 300 % 300, by omega⟩ ⟨n.val % 300, by omega⟩ := by
    rw [take_at _ _ hlt, opsA_v0, ho, hb]
    unfold pixel at45
    dsimp only at hk ⊢
    by_cases hc : n.val / 300 % 300 < 150
    · rw [if_pos hc] at hk
      rw [dif_pos (by omega), if_pos hc]
      exact congrArg (fun z => obj (ix1 z)) (Fin.ext (by dsimp only; omega))
    · rw [if_neg hc] at hk
      rw [dif_neg (by omega), if_neg hc]
      exact congrArg (fun z => bg (ix1 z)) (Fin.ext (by dsimp only; omega))
  rw [opsT_v11, hpix]
  have := H.pixel_lt ⟨n.val / 90000, by omega⟩ ⟨n.val / 300 % 300, by omega⟩ ⟨n.val % 300, by omega⟩
  unfold rowAt
  refine BitVec.eq_of_toNat_eq ?_
  show (_ + BitVec.ofNat 32 _ * 90000#32).toNat = _
  rw [BitVec.toNat_add, BitVec.toNat_mul, BitVec.toNat_ofNat, BitVec.toNat_ofNat, BitVec.toNat_ofNat]
  omega

theorem before_v21 (V : Valuation τ sig (Elt F)) (ho : V (Proc.devRef .tc main_arg3) = obj) (hb : V (Proc.devRef .tc main_arg4) = bg)
    (hr : V (Proc.devRef .tc main_arg5) = rand) (H : InRange obj bg rand) (n : Fin 180224) :
    (after opsBefore V (Proc.devRef .tc main_v21) : S180224.Idx → BitVec 32) (ix1 n)
      = if h : n.val < 180000 then BitVec.ofNat 32 (rowAt obj bg rand ⟨n.val, h⟩) else 0#32 := by
  rw [before_split, late_v21, opsB_v21]
  exact dite_congr rfl (fun h => row_of V ho hb hr H ⟨n.val, h⟩) fun _ => rfl

theorem before_v25 (V : Valuation τ sig (Elt F)) (ho : V (Proc.devRef .tc main_arg3) = obj) (hb : V (Proc.devRef .tc main_arg4) = bg)
    (hr : V (Proc.devRef .tc main_arg5) = rand) (H : InRange obj bg rand) (n : Fin 180224) :
    ((after opsBefore V (Proc.devRef .tc main_v25) : S180224.Idx → BitVec 32) (ix1 n)).toNat
      = if h : n.val < 180000 then rowAt obj bg rand ⟨n.val, h⟩ else n.val := by
  rw [before_split, late_v25, opsB_v25]
  by_cases h : n.val < 180000
  · rw [dif_pos h, dif_pos h, row_of V ho hb hr H ⟨n.val, h⟩, BitVec.toNat_ofNat]
    have := H.rowAt_lt ⟨n.val, h⟩
    omega
  · rw [dif_neg h, dif_neg h]
    show (180000#32 + BitVec.ofNat 32 (n.val - 180000)).toNat = _
    rw [BitVec.toNat_add, BitVec.toNat_ofNat, BitVec.toNat_ofNat]
    omega

/-- The values, laid out for the scatter: channel `ch` of place `n`. -/
theorem opsV_v49 (V : Valuation τ sig (Elt F)) (n : Fin 180000) (ch : Fin 32) :
    (after opsV V (Proc.devRef .tc main_v49) : S180224x128.Idx → F .f32) (ix2 ⟨n.val, by omega⟩ ⟨ch.val, by omega⟩)
      = valueAt (V (Proc.devRef .tc main_v45) : S600x300x32.Idx → F .f32) n ch := by
  unfold opsV
  after_reads_at
  unfold valueAt
  congr 2
  · exact Fin.ext (by dsimp only; omega)
  · exact Fin.ext (by dsimp only; omega)

/-- The arguments. -/
def IsArg (r : Ref sig .tc) : Prop := r = main_arg0 ∨ r = main_arg1 ∨ r = main_arg2 ∨ r = main_arg3 ∨ r = main_arg4 ∨ r = main_arg5 ∨ r = main_arg6 ∨ r = main_arg7
  ∨ r = main_arg8 ∨ r = main_arg9 ∨ r = main_arg10

/-- The operations before the calls leave the arguments as they are. -/
theorem before_arg (V : Valuation τ sig (Elt F)) (r : Ref sig .tc) (h : IsArg r) : after opsBefore V (Proc.devRef .tc r) = V (Proc.devRef .tc r) := by
  unfold opsBefore opsA opsT opsB opsH opsS
  simp only [List.cons_append, List.nil_append]
  obtain rfl | rfl | rfl | rfl | rfl | rfl | rfl | rfl | rfl | rfl | rfl := h <;> after_results_simp

/-! ## The program -/

section Program

variable (m : (ℓ : Loc nD τ sig) → Buf (Elt F) ℓ) (ρ : Dev nD → PrngReg) [∀ e, Nonempty (Elt F e)]

/-- What the precondition says, of a launch memory. -/
def Ok : Prop := ∀ d : Dev nD, Perms (m (d, Proc.devRef .tc main_arg3)) (m (d, Proc.devRef .tc main_arg4)) (m (d, Proc.devRef .tc main_arg5))

variable {m}

theorem vi_eq (H : Ok m) (d : Dev nD) (n : Fin 180224) :
    (vi m d : S180224.Idx → BitVec 32) (ix1 n) = if h : n.val < 180000 then BitVec.ofNat 32 (rowAt (m (d, Proc.devRef .tc main_arg3)) (m (d, Proc.devRef .tc main_arg4)) (m (d, Proc.devRef .tc main_arg5)) ⟨n.val, h⟩) else 0#32 :=
  before_v21 (launchContents m d) rfl rfl rfl (H d).inRange n

theorem vi_lt (H : Ok m) (d : Dev nD) (j : S180224.Idx) : ((vi m d : S180224.Idx → BitVec 32) j).toNat < 180000 := by
  obtain ⟨n, rfl⟩ : ∃ n, j = ix1 n := ⟨_, eq_ix1 j⟩
  rw [vi_eq H]
  split
  · rename_i h
    have := (H d).inRange.rowAt_lt ⟨n.val, h⟩
    rw [BitVec.toNat_ofNat]; omega
  · decide

/-- What lies between the two calls leaves the scatter's list as it is. -/
theorem wi_eq (H : Ok m) (d : Dev nD) (n : Fin 180224) :
    ((wi m d : S180224.Idx → BitVec 32) (ix1 n)).toNat = if h : n.val < 180000 then rowAt (m (d, Proc.devRef .tc main_arg3)) (m (d, Proc.devRef .tc main_arg4)) (m (d, Proc.devRef .tc main_arg5)) ⟨n.val, h⟩ else n.val := by
  have e : wi m d = after opsBefore (launchContents m d) (Proc.devRef .tc main_v25) := by
    have k : wi m d = valₐ m d (Proc.devRef .tc main_v25) := by
      unfold wi val₃ opsV
      after_results_simp
    exact k.trans ((attended_keeps (val₂ m) 8 d main_v25 (by decide)).trans (Function.update_of_ne (by decide) _ _))
  rw [e]
  exact before_v25 (launchContents m d) rfl rfl rfl (H d).inRange n

theorem wi_lt (H : Ok m) (d : Dev nD) (n : Fin 180224) : ((wi m d : S180224.Idx → BitVec 32) (ix1 n)).toNat < 180224 := by
  rw [wi_eq H]
  split
  · rename_i h
    have := (H d).inRange.rowAt_lt ⟨n.val, h⟩
    omega
  · exact n.isLt

/-- No two words of the scatter's list name the same row: the rows of the places are distinct, and the padding's rows
    come after all of them. -/
theorem wi_distinct (H : Ok m) (d : Dev nD) : Scatter.Distinct (F := F) (wi m d) := by
  intro n n' e
  have e : ((wi m d : S180224.Idx → BitVec 32) (ix1 n)).toNat = ((wi m d : S180224.Idx → BitVec 32) (ix1 n')).toNat := e
  rw [wi_eq H, wi_eq H] at e
  by_cases h : n.val < 180000 <;> by_cases h' : n'.val < 180000
  · rw [dif_pos h, dif_pos h'] at e
    exact Fin.ext (Fin.mk.inj ((H d).rowAt_inj _ _ e))
  · rw [dif_pos h, dif_neg h'] at e
    have := (H d).inRange.rowAt_lt ⟨n.val, h⟩
    omega
  · rw [dif_neg h, dif_pos h'] at e
    have := (H d).inRange.rowAt_lt ⟨n'.val, h'⟩
    omega
  · rw [dif_neg h, dif_neg h'] at e
    exact Fin.ext e

theorem rows_writes : (opsD (F := F)).Forall fun op => op.writes ⊆ (([main_v51, main_v52, main_v53] : List (Ref sig .tc)).map (Proc.devRef (τ := τ) .tc)).toFinset := by
  simp [opsD]

/-- What the projection call and the reshapes before it leave as it was. -/
theorem late_keeps (d : Dev nD) (r : Ref sig .tc) (h : r ≠ main_v51 ∧ r ≠ main_v52 ∧ r ≠ main_v53 ∧ r ≠ main_v54_0 ∧ r ≠ main_v54_1) :
    val₅ m d (Proc.devRef .tc r) = val₄ m d (Proc.devRef .tc r) ∧ valₚ m d (Proc.devRef .tc r) = val₅ m d (Proc.devRef .tc r) := by
  refine ⟨?_, projected_keeps (val₅ m) 16 2 d r h.2.2.2.1 h.2.2.2.2⟩
  exact after_of_writes_sub opsD _ rows_writes (by simpa only [List.mem_cons, List.not_mem_nil, or_false, not_or] using ⟨h.1, h.2.1, h.2.2.1⟩)

theorem val₆_gathered (H : Ok m) (d : Dev nD) :
    (val₆ m d (Proc.devRef .tc main_v55) : S180000x128.Idx → F .f32) = gathered (H d).inRange (m (d, Proc.devRef .tc main_arg0) : S180000x128.Idx → F .f32) := by
  funext j
  obtain ⟨n, e, rfl⟩ : ∃ n e, j = ix2 n e := ⟨_, _, eq_ix2 j⟩
  have h2 : valₚ m d (Proc.devRef .tc main_v44) = Gather.rowsOf (F := F) (vx m d) (vi m d) := by
    rw [(late_keeps d main_v44 (by decide)).2, (late_keeps d main_v44 (by decide)).1]
    unfold val₄
    rw [Function.update_of_ne (by decide)]
    have k : val₃ m d (Proc.devRef .tc main_v44) = valₐ m d (Proc.devRef .tc main_v44) := by
      unfold val₃ opsV
      after_results_simp
    exact k.trans ((attended_keeps (val₂ m) 8 d main_v44 (by decide)).trans (Function.update_self _ _ _))
  unfold val₆ opsC
  after_reads_at
  rw [h2]
  have hn : n.val < 180224 := by omega
  have hv : (vi m d : S180224.Idx → BitVec 32) (ix1 ⟨n.val, hn⟩) = BitVec.ofNat 32 (rowAt (m (d, Proc.devRef .tc main_arg3)) (m (d, Proc.devRef .tc main_arg4)) (m (d, Proc.devRef .tc main_arg5)) n) :=
    (vi_eq H d ⟨n.val, hn⟩).trans (dif_pos n.isLt)
  have hx : vx m d = m (d, Proc.devRef .tc main_arg0) := before_arg (launchContents m d) main_arg0 (.inl rfl)
  rw [hx]
  refine congrArg (m (d, Proc.devRef .tc main_arg0) : S180000x128.Idx → F .f32) (congrArg (fun z => ix2 z e) (Fin.ext ?_))
  show ((vi m d : S180224.Idx → BitVec 32) (ix1 ⟨n.val, hn⟩)).toNat % 180000 = _
  rw [hv, BitVec.toNat_ofNat]
  have := (H d).inRange.rowAt_lt n
  show _ = rowAt _ _ _ n
  omega

/-- What the attention call computes, from the launch memory. -/
def attends (m : (ℓ : Loc nD τ sig) → Buf (Elt F) ℓ) (d : Dev nD) : S600x300x32.Idx → F .f32 :=
  groups (Gather.rowsOf (F := F) (vx m d) (vi m d)) (val₁ m d (Proc.devRef .tc main_v35)) (val₁ m d (Proc.devRef .tc main_v43))
    (m (d, Proc.devRef .tc main_arg6)) (m (d, Proc.devRef .tc main_arg7))

theorem valₐ_v45 (d : Dev nD) : valₐ m d (Proc.devRef .tc main_v45) = attends m d := by
  have k (r : Ref sig .tc) (h : r ≠ main_v44) : val₂ m d (Proc.devRef .tc r) = val₁ m d (Proc.devRef .tc r) :=
    Function.update_of_ne (fun e => h (Proc.devRef_injective .tc e)) _ _
  refine (attended_out (val₂ m) 8 d).trans ?_
  rw [k main_v35 (by decide), k main_v43 (by decide), k main_arg6 (by decide), k main_arg7 (by decide),
    show val₂ m d (Proc.devRef .tc main_v44) = Gather.rowsOf (F := F) (vx m d) (vi m d) from Function.update_self _ _ _]
  have h6 : val₁ m d (Proc.devRef .tc main_arg6) = m (d, Proc.devRef .tc main_arg6) := before_arg (launchContents m d) main_arg6 (by simp [IsArg])
  have h7 : val₁ m d (Proc.devRef .tc main_arg7) = m (d, Proc.devRef .tc main_arg7) := before_arg (launchContents m d) main_arg7 (by simp [IsArg])
  rw [h6, h7]
  rfl

/-- The new table's rows and channels, in the scatter's padded one. -/
theorem val₄_scattered (H : Ok m) (d : Dev nD) (q : Fin 180000) (ch : Fin 32) :
    (val₄ m d (Proc.devRef .tc main_v50) : S180224x128.Idx → F .f32) (ix2 ⟨q.val, by omega⟩ ⟨ch.val, by omega⟩)
      = scattered (H d) (valueAt (attends m d)) (ix2 q ch) := by
  have key := eq_scattered (H d) (valueAt (attends m d)) (fun j : S180000x32.Idx => (val₄ m d (Proc.devRef .tc main_v50) : S180224x128.Idx → F .f32)
    (ix2 ⟨(j 0).val, lt_of_lt_of_le (j 0).isLt (by decide)⟩ ⟨(j 1).val, lt_of_lt_of_le (j 1).isLt (by decide)⟩)) fun n ch => ?_
  · exact congrFun key (ix2 q ch)
  have hn : n.val < 180224 := by omega
  have hr : (row (H d) n).val < 180224 := by omega
  have hw : ((wi m d : S180224.Idx → BitVec 32) (ix1 ⟨n.val, hn⟩)).toNat = (⟨(row (H d) n).val, hr⟩ : Fin 180224).val :=
    (wi_eq H d ⟨n.val, hn⟩).trans (dif_pos n.isLt)
  rw [val₄, Function.update_self]
  have e := opsV_v49 (valₐ m d) n ch
  rw [valₐ_v45] at e
  refine Eq.trans ?_ e
  refine congrArg (wv m d : S180224x128.Idx → F .f32) (congrArg (fun z => ix2 z (⟨ch.val, by omega⟩ : Fin 128)) ?_)
  exact Scatter.wordFor_eq (F := F) (wi_distinct H d) hw

theorem val₆_scattered (H : Ok m) (d : Dev nD) :
    (val₆ m d (Proc.devRef .tc main_v56) : S180000x32.Idx → F .f32) = scattered (H d) (valueAt (attends m d)) := by
  funext j
  obtain ⟨q, ch, rfl⟩ : ∃ q ch, j = ix2 q ch := ⟨_, _, eq_ix2 j⟩
  unfold val₆ opsC
  after_reads_at
  rw [(late_keeps d main_v50 (by decide)).2, (late_keeps d main_v50 (by decide)).1]
  exact val₄_scattered H d q ch

theorem val₄_arg (d : Dev nD) (r : Ref sig .tc) (h : IsArg r) : val₄ m d (Proc.devRef .tc r) = m (d, Proc.devRef .tc r) := by
  have hV : after opsV (valₐ m d) (Proc.devRef .tc r) = valₐ m d (Proc.devRef .tc r) := by
    unfold opsV
    obtain rfl | rfl | rfl | rfl | rfl | rfl | rfl | rfl | rfl | rfl | rfl := h <;> after_results_simp
  have hne : r ≠ main_v44 ∧ r ≠ main_v45 ∧ r ≠ main_v50 := by
    obtain rfl | rfl | rfl | rfl | rfl | rfl | rfl | rfl | rfl | rfl | rfl := h <;> decide
  refine (Function.update_of_ne (fun e => hne.2.2 (Proc.devRef_injective .tc e)) _ _).trans (hV.trans
    ((attended_keeps (val₂ m) 8 d r hne.2.1).trans ((Function.update_of_ne (fun e => hne.1 (Proc.devRef_injective .tc e)) _ _).trans ?_)))
  exact before_arg (launchContents m d) r h

theorem val₅_arg (d : Dev nD) (r : Ref sig .tc) (h : IsArg r) : val₅ m d (Proc.devRef .tc r) = m (d, Proc.devRef .tc r) := by
  refine (late_keeps d r ?_).1.trans (val₄_arg d r h)
  obtain rfl | rfl | rfl | rfl | rfl | rfl | rfl | rfl | rfl | rfl | rfl := h <;> decide

theorem val₆_arg (d : Dev nD) (r : Ref sig .tc) (h : IsArg r) : val₆ m d (Proc.devRef .tc r) = m (d, Proc.devRef .tc r) := by
  have hC : after opsC (valₚ m d) (Proc.devRef .tc r) = valₚ m d (Proc.devRef .tc r) := by
    unfold opsC
    obtain rfl | rfl | rfl | rfl | rfl | rfl | rfl | rfl | rfl | rfl | rfl := h <;> after_results_simp
  refine hC.trans ((late_keeps d r ?_).2.trans (val₅_arg d r h))
  obtain rfl | rfl | rfl | rfl | rfl | rfl | rfl | rfl | rfl | rfl | rfl := h <;> decide

/-- A vector of 64 as a row. -/
abbrev asRow (v : S64.Idx → F .f32) : S1x64.Idx → F .f32 := shapeCast S1x64 v shapeCasts_S64_S1x64

theorem val₅_rows (d : Dev nD) :
    val₅ m d (Proc.devRef .tc main_v51) = asRow (F := F) (m (d, Proc.devRef .tc main_arg1))
      ∧ val₅ m d (Proc.devRef .tc main_v52) = asRow (F := F) (m (d, Proc.devRef .tc main_arg2))
      ∧ val₅ m d (Proc.devRef .tc main_v53) = asRow (F := F) (m (d, Proc.devRef .tc main_arg9)) := by
  rw [← val₄_arg (m := m) d main_arg1 (by simp [IsArg]), ← val₄_arg (m := m) d main_arg2 (by simp [IsArg]), ← val₄_arg (m := m) d main_arg9 (by simp [IsArg])]
  unfold val₅ opsD
  refine ⟨?_, ?_, ?_⟩ <;> after_results_simp <;> rfl

/-- The projection call's products and sums, from the new table and the launch memory. -/
def mixes (m : (ℓ : Loc nD τ sig) → Buf (Elt F) ℓ) (d : Dev nD) : S90000x64.Idx → F .f32 :=
  products (val₄ m d (Proc.devRef .tc main_v50)) (m (d, Proc.devRef .tc main_arg0)) (asRow (F := F) (m (d, Proc.devRef .tc main_arg1))) (asRow (F := F) (m (d, Proc.devRef .tc main_arg2)))
    (m (d, Proc.devRef .tc main_arg8)) (asRow (F := F) (m (d, Proc.devRef .tc main_arg9))) (m (d, Proc.devRef .tc main_arg10))
def mixSums (m : (ℓ : Loc nD τ sig) → Buf (Elt F) ℓ) (d : Dev nD) : S2x64.Idx → F .f32 :=
  totals (val₄ m d (Proc.devRef .tc main_v50)) (m (d, Proc.devRef .tc main_arg0)) (asRow (F := F) (m (d, Proc.devRef .tc main_arg1))) (asRow (F := F) (m (d, Proc.devRef .tc main_arg2)))
    (m (d, Proc.devRef .tc main_arg8)) (asRow (F := F) (m (d, Proc.devRef .tc main_arg9))) (m (d, Proc.devRef .tc main_arg10)) 24 (by decide)

theorem val₆_mixes (d : Dev nD) : val₆ m d (Proc.devRef .tc main_v54_0) = mixes m d := by
  have hC : val₆ m d (Proc.devRef .tc main_v54_0) = valₚ m d (Proc.devRef .tc main_v54_0) := by
    unfold val₆ opsC
    after_results_simp
  refine hC.trans ((projected_prod (val₅ m) 16 2 d).trans ?_)
  rw [(late_keeps d main_v50 (by decide)).1, val₅_arg d main_arg0 (by simp [IsArg]), val₅_arg d main_arg8 (by simp [IsArg]),
    val₅_arg d main_arg10 (by simp [IsArg]), (val₅_rows d).1, (val₅_rows d).2.1, (val₅_rows d).2.2]
  rfl

theorem val₆_mixSums (d : Dev nD) : val₆ m d (Proc.devRef .tc main_v54_1) = mixSums m d := by
  have hC : val₆ m d (Proc.devRef .tc main_v54_1) = valₚ m d (Proc.devRef .tc main_v54_1) := by
    unfold val₆ opsC
    after_results_simp
  refine hC.trans ((projected_sums (val₅ m) 16 2 d).trans ?_)
  rw [(late_keeps d main_v50 (by decide)).1, val₅_arg d main_arg0 (by simp [IsArg]), val₅_arg d main_arg8 (by simp [IsArg]),
    val₅_arg d main_arg10 (by simp [IsArg]), (val₅_rows d).1, (val₅_rows d).2.1, (val₅_rows d).2.2]
  rfl

/-- From any memory with its index arrays as the precondition says the program ends with the rows that the indices name,
    with what these attend to in the rows that the indices name, and with the projection call's products and sums, its arguments as they were, and every counter at
    zero. -/
theorem run_value (H : Ok m) :
    θ_run (defs (F := F)) (threads (F := F)) ⟨m, fun _ => 0, ρ⟩
      fun r => (∀ d : Dev nD, (r.2.mem (d, Proc.devRef .tc main_v55) : S180000x128.Idx → F .f32) = gathered (H d).inRange (m (d, Proc.devRef .tc main_arg0) : S180000x128.Idx → F .f32)
          ∧ (r.2.mem (d, Proc.devRef .tc main_v56) : S180000x32.Idx → F .f32) = scattered (H d) (valueAt (attends m d))
          ∧ (r.2.mem (d, Proc.devRef .tc main_v54_0) : S90000x64.Idx → F .f32) = mixes m d
          ∧ (r.2.mem (d, Proc.devRef .tc main_v54_1) : S2x64.Idx → F .f32) = mixSums m d
          ∧ r.2.mem (d, Proc.devRef .tc main_arg0) = m (d, Proc.devRef .tc main_arg0)
          ∧ r.2.mem (d, Proc.devRef .tc main_arg1) = m (d, Proc.devRef .tc main_arg1)
          ∧ r.2.mem (d, Proc.devRef .tc main_arg2) = m (d, Proc.devRef .tc main_arg2)
          ∧ r.2.mem (d, Proc.devRef .tc main_arg3) = m (d, Proc.devRef .tc main_arg3)
          ∧ r.2.mem (d, Proc.devRef .tc main_arg4) = m (d, Proc.devRef .tc main_arg4)
          ∧ r.2.mem (d, Proc.devRef .tc main_arg5) = m (d, Proc.devRef .tc main_arg5)
          ∧ r.2.mem (d, Proc.devRef .tc main_arg6) = m (d, Proc.devRef .tc main_arg6)
          ∧ r.2.mem (d, Proc.devRef .tc main_arg7) = m (d, Proc.devRef .tc main_arg7)
          ∧ r.2.mem (d, Proc.devRef .tc main_arg8) = m (d, Proc.devRef .tc main_arg8)
          ∧ r.2.mem (d, Proc.devRef .tc main_arg9) = m (d, Proc.devRef .tc main_arg9)
          ∧ r.2.mem (d, Proc.devRef .tc main_arg10) = m (d, Proc.devRef .tc main_arg10))
        ∧ r.2.sem = fun _ => 0 := by
  have hm (b : Ref sig .tc) (hb : ¬(Proc.devRef (τ := τ) .tc b).isScoped = true) : Proc.devRef .tc b ∈ Pipeline.ucRefs τ sig :=
    Finset.mem_filter.mpr ⟨devRef_mem_tcRefs _, hb⟩
  refine (θ_run _ _ _).mono (fun r h => ?_) (run_main m ρ (vi_lt H) (wi_lt H) (wi_distinct H))
  have arg (d : Dev nD) (b : Ref sig .tc) (hb : ¬(Proc.devRef (τ := τ) .tc b).isScoped = true) (ha : IsArg b) : r.2.mem (d, Proc.devRef .tc b) = m (d, Proc.devRef .tc b) :=
    (h.1 d _ (hm b hb)).trans (val₆_arg d b ha)
  refine ⟨fun d => ⟨(h.1 d _ (hm main_v55 (by decide))).trans (val₆_gathered H d), (h.1 d _ (hm main_v56 (by decide))).trans (val₆_scattered H d),
    (h.1 d _ (hm main_v54_0 (by decide))).trans (val₆_mixes d), (h.1 d _ (hm main_v54_1 (by decide))).trans (val₆_mixSums d), ?_⟩, h.2⟩
  exact ⟨arg d main_arg0 (by decide) (by simp [IsArg]), arg d main_arg1 (by decide) (by simp [IsArg]), arg d main_arg2 (by decide) (by simp [IsArg]), arg d main_arg3 (by decide) (by simp [IsArg]), arg d main_arg4 (by decide) (by simp [IsArg]), arg d main_arg5 (by decide) (by simp [IsArg]), arg d main_arg6 (by decide) (by simp [IsArg]), arg d main_arg7 (by decide) (by simp [IsArg]), arg d main_arg8 (by decide) (by simp [IsArg]), arg d main_arg9 (by decide) (by simp [IsArg]), arg d main_arg10 (by decide) (by simp [IsArg])⟩

end Program

/-! ## The attention's values -/

/-- Over the extended reals the attention call computes every group's output. -/
theorem attends_eq {m : (ℓ : Loc nD τ sig) → Buf (Elt Ideal) ℓ} (H : Ok m) (d : Dev nD) :
    attends m d = Group.output (H d).inRange (m (d, Proc.devRef .tc main_arg0)) (m (d, Proc.devRef .tc main_arg1)) (m (d, Proc.devRef .tc main_arg2))
      (m (d, Proc.devRef .tc main_arg6)) (m (d, Proc.devRef .tc main_arg7)) := by
  funext j
  obtain ⟨g, i, e, rfl⟩ : ∃ g i e, j = ix3 g i e := ⟨_, _, _, eq_ix3 j⟩
  unfold attends groups Group.output
  refine (Group.block_at _ _ _ _ _ ⟨g.val % 8, by omega⟩ i e).trans (congrArg (fun f => Group.attend f _ _ i e) (funext fun i => funext fun k => ?_))
  refine Group.scaled_congr ?_ ?_ ?_
  · have hlt : (⟨g.val * 300 + i.val, by omega⟩ : Fin 180000).val < 180224 := by dsimp only; omega
    have hv := (vi_eq H d ⟨g.val * 300 + i.val, hlt⟩).trans (dif_pos (by dsimp only; omega))
    have hx : vx m d = m (d, Proc.devRef .tc main_arg0) := before_arg (launchContents m d) main_arg0 (.inl rfl)
    have hb := (H d).inRange.rowAt_lt ⟨g.val * 300 + i.val, by omega⟩
    have hn : (⟨g.val / 8 * 2400 + (g.val % 8 * 300 + i.val), by omega⟩ : Fin 180224) = ⟨g.val * 300 + i.val, hlt⟩ := Fin.ext (by dsimp only; omega)
    rw [hx]
    refine congrArg (m (d, Proc.devRef .tc main_arg0) : S180000x128.Idx → Ideal .f32) (congrArg (fun z => ix2 z (⟨k.val, by omega⟩ : Fin 128)) (Fin.ext ?_))
    show ((vi m d : S180224.Idx → BitVec 32) (ix1 ⟨g.val / 8 * 2400 + (g.val % 8 * 300 + i.val), _⟩)).toNat % 180000 = _
    rw [hn, hv, BitVec.toNat_ofNat]
    show rowAt _ _ _ ⟨g.val * 300 + i.val, _⟩ % 2 ^ 32 % 180000 = rowAt _ _ _ ⟨g.val * 300 + i.val, _⟩
    omega
  · refine Eq.trans ?_ (before_v35 (launchContents m d) g k)
    refine congrArg (after opsBefore (launchContents m d) (Proc.devRef .tc main_v35) : S600x32.Idx → Ideal .f32) (congrArg (fun z => ix2 z k) (Fin.ext ?_))
    show g.val / 8 * 8 + g.val % 8 = g.val
    omega
  · refine Eq.trans ?_ (before_v43 (launchContents m d) g k)
    refine congrArg (after opsBefore (launchContents m d) (Proc.devRef .tc main_v43) : S600x32.Idx → Ideal .f32) (congrArg (fun z => ix2 z k) (Fin.ext ?_))
    show g.val / 8 * 8 + g.val % 8 = g.val
    omega

/-! ## The projection's values -/

/-- Over the extended reals the projection call computes every pixel's products, from the new table. -/
theorem mixes_at {m : (ℓ : Loc nD τ sig) → Buf (Elt Ideal) ℓ} (H : Ok m) (d : Dev nD) (x : S180000x128.Idx → EReal) (sc sh bo : S64.Idx → EReal)
    (hx : m (d, Proc.devRef .tc main_arg0) = x) (hsc : m (d, Proc.devRef .tc main_arg1) = sc) (hsh : m (d, Proc.devRef .tc main_arg2) = sh)
    (hbo : m (d, Proc.devRef .tc main_arg9) = bo) (p : Fin 90000) (co : Fin 64) :
    mixes m d (ix2 p co)
      = Mix.mixed (m (d, Proc.devRef .tc main_arg8)) (fun e => bo (ix1 e)) (m (d, Proc.devRef .tc main_arg10))
          (fun k => scattered (H d) (valueAt (Group.output (H d).inRange x sc sh (m (d, Proc.devRef .tc main_arg6)) (m (d, Proc.devRef .tc main_arg7))))
            (ix2 ⟨k.val / 32 * 90000 + p.val, by omega⟩ ⟨k.val % 32, by omega⟩))
          (fun k => max (x (ix2 ⟨k.val / 32 * 90000 + p.val, by omega⟩ ⟨k.val % 32, by omega⟩) * sc (ix1 k) + sh (ix1 k)) 0) co := by
  subst hx hsc hsh hbo
  have row (v : S64.Idx → EReal) (k : Fin 64) : asRow (F := Ideal) v (ix2 0 k) = v (ix1 k) := by pointwise
  unfold mixes
  rw [Mix.products_at, ← attends_eq H d]
  simp only [row]
  exact congrArg (fun u => Mix.mixed _ _ _ u _ co) (funext fun k => val₄_scattered H d ⟨k.val / 32 * 90000 + p.val, by omega⟩ ⟨k.val % 32, by omega⟩)

/-- And the sums it leaves are those of these products. -/
theorem mixSums_eq {m : (ℓ : Loc nD τ sig) → Buf (Elt Ideal) ℓ} (d : Dev nD) : mixSums m d = Mix.sumsOf (mixes m d) :=
  Mix.totals_eq _ _ _ _ _ _ _ (by decide)

end Cert.Proof.Calls

end
-- ==== Proof.RefGroup.lean ====
/-
  The reference's attention, one group of 300 rows at a time: its two projections, its scores, its softmax and its weighted values
  are, over the extended reals, the mathematics of one group.
-/
module

public import proofs.«01_k».proof.Proof.Gen.ReferenceIdeal.Run
public import proofs.«01_k».proof.Proof.Block

@[expose] public section

noncomputable section

namespace Cert.Proof.Reference

open Cert.ReferenceIdeal Cert.ReferenceIdeal.Gen Cert.Proof.Group

open Idealize.ShloMosaic

variable {F : FTy → Type} [FloatOps F]

/-- Every row's key, in the first half of the channels, and its value, in the second. -/
def keysValues (x : FVec F S600x300x32 .f32) (w : FVec F S64x32 .f32) : FVec F S600x300x64 .f32 :=
  Host.dotGeneral dot_S600x300x32_S32x64_S600x300x64_2_0_01_1_n_n none x (transpose S32x64 [1, 0] w transposes_S64x32_S32x64_1_0)

/-- Every row's query. -/
def queries (x : FVec F S600x300x32 .f32) (w : FVec F S32x32 .f32) : FVec F S600x300x32 .f32 :=
  Host.dotGeneral dot_S600x300x32_S32x32_S600x300x32_2_0_01_1_n_n none x (transpose S32x32 [1, 0] w transposes_S32x32_S32x32_1_0)

/-- The scaled products of queries and keys. -/
def scores (q k : FVec F S600x300x32 .f32) : FVec F S600x300x300 .f32 :=
  mulf (Host.dotGeneral dot_S600x300x32_S600x300x32_S600x300x300_2_2_1_1_0_0 none q k)
    (broadcastInDim S600x300x300 ![] bcast_S_S600x300x300 (constant S_ .f32 0x3E3504F3#32))

/-- The exponentials of the scores below the row's greatest. -/
def weights (d : FVec F S600x300x300 .f32) : FVec F S600x300x300 .f32 :=
  Host.exp (subf d (broadcastInDim S600x300x300 ![0, 1, 2] bcast_S600x300x1_S600x300x300_0_1_2
    (broadcastInDim S600x300x1 ![0, 1] bcast_S600x300_S600x300x1_0_1
      (maximumf (broadcastInDim S600x300 ![] bcast_S_S600x300 (constant S_ .f32 0xFF800000#32))
        (Host.reduce FloatOps.maximumf d (constant S_ .f32 0xFF800000#32) reducesTo_S600x300x300_S600x300_d2 h_S_)))))

/-- The exponentials divided by the row's sum. -/
def softs (e : FVec F S600x300x300 .f32) : FVec F S600x300x300 .f32 :=
  Host.divf e (broadcastInDim S600x300x300 ![0, 1, 2] bcast_S600x300x1_S600x300x300_0_1_2
    (broadcastInDim S600x300x1 ![0, 1] bcast_S600x300_S600x300x1_0_1
      (Host.reduceAdd e (constant S_ .f32 0x00000000#32) reducesTo_S600x300x300_S600x300_d2 h_S_)))

/-- What the rows attend to. -/
def attended (x : FVec F S600x300x32 .f32) (wq : FVec F S32x32 .f32) (wkv : FVec F S64x32 .f32) : FVec F S600x300x32 .f32 :=
  Host.dotGeneral dot_S600x300x300_S600x300x32_S600x300x32_2_1_1_2_0_0 none
    (softs (weights (scores (queries x wq) (extractStridedSlice S600x300x32 ![0, 0, 0] (keysValues x wkv) slices_S600x300x64_S600x300x32_0_0_0))))
    (extractStridedSlice S600x300x32 ![0, 0, 32] (keysValues x wkv) slices_S600x300x64_S600x300x32_0_0_32)

/-! ## At one group -/

theorem queries_at (x : FVec Ideal S600x300x32 .f32) (w : FVec Ideal S32x32 .f32) (g : Fin 600) (i : Fin 300) (e : Fin 32) :
    queries x w (ix3 g i e) = query (fun i k => x (ix3 g i k)) w i e := by
  unfold queries query
  pointwise

theorem keysValues_at (x : FVec Ideal S600x300x32 .f32) (w : FVec Ideal S64x32 .f32) (g : Fin 600) (i : Fin 300) (e : Fin 64) :
    keysValues x w (ix3 g i e) = keyValue (fun i k => x (ix3 g i k)) w i e := by
  unfold keysValues keyValue
  pointwise

theorem scores_at (q k : FVec Ideal S600x300x32 .f32) (g : Fin 600) (i j : Fin 300) :
    scores q k (ix3 g i j) = (∑ e : Fin 32, q (ix3 g i e) * k (ix3 g j e)) * Ideal.ofBits .f32 0x3E3504F3#32 := by
  unfold scores
  pointwise

/-- A row's greatest, started from the smallest. -/
theorem greatest_at {n₀ n₁ n₂ : ℕ} {u : Shape} (x : (⟨3, ![n₀, n₁, n₂]⟩ : Shape).Idx → Ideal .f32) (v : u.Idx → Ideal .f32) (w : EReal) (hv : ∀ j, v j = w)
    (h : (⟨3, ![n₀, n₁, n₂]⟩ : Shape).ReducesTo [2] ⟨2, ![n₀, n₁]⟩) (hu : 0 < u.numel) (a : Fin n₀) (b : Fin n₁) :
    Host.reduce FloatOps.maximumf x v h hu (ix2 a b) = Finset.univ.fold max w fun k : Fin n₂ => x (ix3 a b k) := by
  rw [Host.reduce_eq_fold, hv]
  exact h.fold_fiber_r3_a2 (ix2 a b) _ w x

theorem weights_at (d : FVec Ideal S600x300x300 .f32) (g : Fin 600) (i j : Fin 300) :
    weights d (ix3 g i j) = weight (fun i j => d (ix3 g i j)) i j := by
  have key : ∀ y : FVec Ideal S600x300 .f32,
      Host.exp (subf d (broadcastInDim S600x300x300 ![0, 1, 2] bcast_S600x300x1_S600x300x300_0_1_2
        (broadcastInDim S600x300x1 ![0, 1] bcast_S600x300_S600x300x1_0_1
          (maximumf (broadcastInDim S600x300 ![] bcast_S_S600x300 (constant S_ .f32 0xFF800000#32)) y)))) (ix3 g i j)
        = FloatOps.exp (F := Ideal) (φ := .f32) (d (ix3 g i j) - max (Ideal.ofBits .f32 0xFF800000#32) (y (ix2 g i))) := fun y => by pointwise
  unfold weights
  have e := greatest_at d (constant S_ .f32 0xFF800000#32) (Ideal.ofBits .f32 0xFF800000#32) (fun _ => rfl) reducesTo_S600x300x300_S600x300_d2 h_S_ g i
  refine (key _).trans ((congrArg (fun z => FloatOps.exp (F := Ideal) (φ := .f32) (d (ix3 g i j) - max (Ideal.ofBits .f32 0xFF800000#32) z)) e).trans ?_)
  rw [max_eq_right (Finset.le_fold_max _ |>.mpr (Or.inl le_rfl))]
  rfl

theorem softs_at (e : FVec Ideal S600x300x300 .f32) (g : Fin 600) (i j : Fin 300) :
    softs e (ix3 g i j) = FloatOps.divf (F := Ideal) (φ := .f32) (e (ix3 g i j)) (∑ k : Fin 300, e (ix3 g i k)) := by
  unfold softs
  pointwise

theorem attended_at (x : FVec Ideal S600x300x32 .f32) (wq : FVec Ideal S32x32 .f32) (wkv : FVec Ideal S64x32 .f32) (g : Fin 600) (i : Fin 300) (e : Fin 32) :
    attended x wq wkv (ix3 g i e) = attend (fun i k => x (ix3 g i k)) wq wkv i e := by
  have low (t : FVec Ideal S600x300x64 .f32) (i : Fin 300) (e : Fin 32) : extractStridedSlice S600x300x32 ![0, 0, 0] t slices_S600x300x64_S600x300x32_0_0_0 (ix3 g i e)
      = t (ix3 g i ⟨e.val, by omega⟩) := by pointwise
  have high (t : FVec Ideal S600x300x64 .f32) (i : Fin 300) (e : Fin 32) : extractStridedSlice S600x300x32 ![0, 0, 32] t slices_S600x300x64_S600x300x32_0_0_32 (ix3 g i e)
      = t (ix3 g i ⟨32 + e.val, by omega⟩) := by pointwise
  have hd : (fun i j => scores (queries x wq) (extractStridedSlice S600x300x32 ![0, 0, 0] (keysValues x wkv) slices_S600x300x64_S600x300x32_0_0_0) (ix3 g i j))
      = score (fun i k => x (ix3 g i k)) wq wkv := by
    funext i j
    rw [scores_at]
    unfold score
    simp only [queries_at, low, keysValues_at]
  have key : ∀ s (v : FVec Ideal S600x300x32 .f32),
      Host.dotGeneral (F := Ideal) (φ₁ := .f32) dot_S600x300x300_S600x300x32_S600x300x32_2_1_1_2_0_0 none s v (ix3 g i e)
        = ∑ j : Fin 300, s (ix3 g i j) * v (ix3 g j e) := fun s v => by pointwise
  unfold attended
  rw [key]
  unfold attend soft
  simp only [softs_at, weights_at, hd, high, keysValues_at]

end Cert.Proof.Reference

end
-- ==== Proof.Reference.lean ====
/-
  What the reference computes: the rows of the table that the heads' pixels name, what these rows attend to, in the rows that
  the heads' pixels name, and the products of every pixel with their sums.
-/
module

public import proofs.«01_k».proof.Proof.Gen.ReferenceIdeal.Run
public import proofs.«01_k».proof.Proof.Perm
public import proofs.«01_k».proof.Proof.RefGroup
public import proofs.«01_k».proof.Proof.Mix
public import proofs.«01_k».proof.Proof.Output
public import Idealize.ShloMosaic.Lib.Routing.OpsPair
public import Idealize.ShloMosaic.Lib.Routing.OpsSet

@[expose] public section

noncomputable section

namespace Cert.Proof.Reference

open Cert.ReferenceIdeal Cert.ReferenceIdeal.Gen Cert.Proof.Index

open Idealize.ShloMosaic Idealize.ShloMosaic.StableHlo

variable {F : FTy → Type} [FloatOps F]

/-- An index array of half a head, as the lookup asks for it. -/
def column (i : IVec S150x300 32) : IVec S150x300x1 32 :=
  broadcastInDim S150x300x1 ![0, 1] bcast_S150x300_S150x300x1_0_1
    (select (cmpi .slt i (broadcastInDim S150x300 ![] bcast_S_S150x300 (constantI S_ 32 0#32)))
      (addi i (broadcastInDim S150x300 ![] bcast_S_S150x300 (constantI S_ 32 45000#32))) i)

/-- The lookup of half a head in one list. -/
def take (x : IVec S45000 32) (i : IVec S150x300 32) : IVec S150x300 32 :=
  select (Host.reduce IntOp.andi
      (andi (cmpi .sge (column i) (broadcastInDim S150x300x1 ![] bcast_S_S150x300x1 (constantI S_ 32 0#32)))
        (cmpi .sle (column i) (broadcastInDim S150x300x1 ![0, 1, 2] bcast_S1x1x1_S150x300x1_0_1_2
          (broadcastInDim S1x1x1 ![2] bcast_S1_S1x1x1_2 (constantI S1 32 44999#32)))))
      (constantI S_ 1 1#1) reducesTo_S150x300x1_S150x300_d2 h_S_)
    (Host.gather gather_S45000_S150x300x1_S150x300_n_0_n_n_0_2_1 x (column i))
    (broadcastInDim S150x300 ![] bcast_S_S150x300 (constantI S_ 32 2147483648#32))

/-- One head's square of pixels, from its square of places in the two lists. -/
def square (obj bg : IVec S45000 32) (q : IVec S1x300x300 32) : IVec S300x300 32 :=
  concatenate S300x300 0
    [⟨S150x300, take obj (extractStridedSlice S150x300 ![0, 0] (shapeCast _ q shapeCasts_S1x300x300_S300x300) slices_S300x300_S150x300_0_0)⟩,
     ⟨S150x300, take bg (extractStridedSlice S150x300 ![150, 0] (shapeCast _ q shapeCasts_S1x300x300_S300x300) slices_S300x300_S150x300_150_0)⟩]
    concatenates_S150x300_S150x300_S300x300_d0

/-- One head's square of pixels as the list of rows that a lookup or an update asks for. -/
def list (p : IVec S300x300 32) : IVec S90000x1 32 :=
  broadcastInDim S90000x1 ![0] bcast_S90000_S90000x1_0
    (select (cmpi .slt (shapeCast S90000 p shapeCasts_S300x300_S90000) (broadcastInDim S90000 ![] bcast_S_S90000 (constantI S_ 32 0#32)))
      (addi (shapeCast S90000 p shapeCasts_S300x300_S90000) (broadcastInDim S90000 ![] bcast_S_S90000 (constantI S_ 32 90000#32)))
      (shapeCast S90000 p shapeCasts_S300x300_S90000))

/-- One head's rows, from its part of the table and its square of pixels. -/
def rows {φ : FTy} (t : FVec F S90000x128 φ) (p : IVec S300x300 32) : FVec F S90000x128 φ :=
  Host.gather gather_S90000x128_S90000x1_S90000x128_1_0_n_n_0_1_1128 t (list p)

/-- A channel's scale or shift, on every row. -/
def along (v : FVec F S32 .f32) : FVec F S90000x32 .f32 :=
  broadcastInDim S90000x32 ![0, 1] bcast_S1x32_S90000x32_0_1 (broadcastInDim S1x32 ![1] bcast_S32_S1x32_1 v)

/-- One head's channels, scaled and shifted, negatives set to zero. -/
def scaled (t : FVec F S90000x128 .f32) (s h : FVec F S32 .f32) : FVec F S90000x32 .f32 :=
  maximumf (addf (mulf (extractStridedSlice S90000x32 ![0, 0] t slices_S90000x128_S90000x32_0_0) (along s)) (along h))
    (broadcastInDim S90000x32 ![] bcast_S_S90000x32 (constant S_ .f32 0x00000000#32))

/-- One head's square of pixels, as the lookup of all its rows asks for it. -/
def wrapped (p : IVec S300x300 32) : IVec S300x300x1 32 :=
  broadcastInDim S300x300x1 ![0, 1] bcast_S300x300_S300x300x1_0_1
    (select (cmpi .slt p (broadcastInDim S300x300 ![] bcast_S_S300x300 (constantI S_ 32 0#32)))
      (addi p (broadcastInDim S300x300 ![] bcast_S_S300x300 (constantI S_ 32 90000#32))) p)

/-- One head's sequences: the channels at its pixels. -/
def sequences (y : FVec F S90000x32 .f32) (p : IVec S300x300 32) : FVec F S300x300x32 .f32 :=
  Host.gather gather_S90000x32_S300x300x1_S300x300x32_2_0_n_n_0_2_132 y (wrapped p)

/-- One head's new table, from its old channels, its square of pixels and its values. -/
def updated (y : FVec F S90000x32 .f32) (p : IVec S300x300 32) (v : FVec F S300x32x300 .f32) : FVec F S90000x32 .f32 :=
  transpose S90000x32 [1, 0]
    (Host.scatter scatter_S32x90000_S90000x1_S32x90000_0_1_1_1 (fun _ b => b)
      (transpose S32x90000 [1, 0] y transposes_S90000x32_S32x90000_1_0)
      (list p)
      (shapeCast S32x90000 (transpose S32x300x300 [1, 0, 2] v transposes_S300x32x300_S32x300x300_1_0_2) shapeCasts_S32x300x300_S32x90000))
    transposes_S32x90000_S90000x32_1_0

/-- Head 0's channels and head 1's. -/
def first (x : FVec F S180000x128 .f32) (sc sh : FVec F S64 .f32) : FVec F S90000x32 .f32 :=
  scaled (extractStridedSlice S90000x128 ![0, 0] x slices_S180000x128_S90000x128_0_0)
    (extractStridedSlice S32 ![0] sc slices_S64_S32_0) (extractStridedSlice S32 ![0] sh slices_S64_S32_0)
def second (x : FVec F S180000x128 .f32) (sc sh : FVec F S64 .f32) : FVec F S90000x32 .f32 :=
  scaled (extractStridedSlice S90000x128 ![90000, 0] x slices_S180000x128_S90000x128_90000_0)
    (extractStridedSlice S32 ![32] sc slices_S64_S32_32) (extractStridedSlice S32 ![32] sh slices_S64_S32_32)

/-- Both heads' sequences. -/
def all (x : FVec F S180000x128 .f32) (sc sh : FVec F S64 .f32) (obj bg : IVec S45000 32) (rand : IVec S2x300x300 32) : FVec F S600x300x32 .f32 :=
  concatenate S600x300x32 0
    [⟨S300x300x32, sequences (first x sc sh) (square obj bg (extractStridedSlice S1x300x300 ![0, 0, 0] rand slices_S2x300x300_S1x300x300_0_0_0))⟩,
     ⟨S300x300x32, sequences (second x sc sh) (square obj bg (extractStridedSlice S1x300x300 ![1, 0, 0] rand slices_S2x300x300_S1x300x300_1_0_0))⟩]
    concatenates_S300x300x32_S300x300x32_S600x300x32_d0

/-- Head 0's new table and head 1's. -/
def freshFirst (x : FVec F S180000x128 .f32) (sc sh : FVec F S64 .f32) (o : FVec F S600x300x32 .f32) (obj bg : IVec S45000 32) (rand : IVec S2x300x300 32) : FVec F S90000x32 .f32 :=
  updated (first x sc sh)
    (square obj bg (extractStridedSlice S1x300x300 ![0, 0, 0] rand slices_S2x300x300_S1x300x300_0_0_0))
    (extractStridedSlice S300x32x300 ![0, 0, 0] (shapeCast S600x32x300 o shapeCasts_S600x300x32_S600x32x300) slices_S600x32x300_S300x32x300_0_0_0)
def freshSecond (x : FVec F S180000x128 .f32) (sc sh : FVec F S64 .f32) (o : FVec F S600x300x32 .f32) (obj bg : IVec S45000 32) (rand : IVec S2x300x300 32) : FVec F S90000x32 .f32 :=
  updated (second x sc sh)
    (square obj bg (extractStridedSlice S1x300x300 ![1, 0, 0] rand slices_S2x300x300_S1x300x300_1_0_0))
    (extractStridedSlice S300x32x300 ![300, 0, 0] (shapeCast S600x32x300 o shapeCasts_S600x300x32_S600x32x300) slices_S600x32x300_S300x32x300_300_0_0)

/-- The new table, from what the sequences attend to. -/
def renewed (x : FVec F S180000x128 .f32) (sc sh : FVec F S64 .f32) (o : FVec F S600x300x32 .f32) (obj bg : IVec S45000 32) (rand : IVec S2x300x300 32) : FVec F S180000x32 .f32 :=
  concatenate S180000x32 0
    [⟨S90000x32, freshFirst x sc sh o obj bg rand⟩, ⟨S90000x32, freshSecond x sc sh o obj bg rand⟩] concatenates_S90000x32_S90000x32_S180000x32_d0

/-- The new table. -/
def result' (x : FVec F S180000x128 .f32) (sc sh : FVec F S64 .f32) (obj bg : IVec S45000 32) (rand : IVec S2x300x300 32)
    (wq : FVec F S32x32 .f32) (wkv : FVec F S64x32 .f32) : FVec F S180000x32 .f32 :=
  renewed x sc sh (attended (all x sc sh obj bg rand) wq wkv) obj bg rand

/-- The rows read. -/
def result {φ : FTy} (x : FVec F S180000x128 φ) (obj bg : IVec S45000 32) (rand : IVec S2x300x300 32) : FVec F S180000x128 φ :=
  concatenate S180000x128 0
    [⟨S90000x128, rows (extractStridedSlice S90000x128 ![0, 0] x slices_S180000x128_S90000x128_0_0)
        (square obj bg (extractStridedSlice S1x300x300 ![0, 0, 0] rand slices_S2x300x300_S1x300x300_0_0_0))⟩,
     ⟨S90000x128, rows (extractStridedSlice S90000x128 ![90000, 0] x slices_S180000x128_S90000x128_90000_0)
        (square obj bg (extractStridedSlice S1x300x300 ![1, 0, 0] rand slices_S2x300x300_S1x300x300_1_0_0))⟩]
    concatenates_S90000x128_S90000x128_S180000x128_d0

set_option maxRecDepth 8192 in
theorem out_eq (V : Valuation τ sig (Elt F)) : Value.val3 V (Proc.devRef .tc main_v134)
    = result (F := F) (φ := .f32) (V (Proc.devRef .tc main_arg0)) (V (Proc.devRef .tc main_arg3)) (V (Proc.devRef .tc main_arg4)) (V (Proc.devRef .tc main_arg5)) :=
  (Value.val3_main_v134 V).trans rfl

set_option maxRecDepth 8192 in
theorem out'_eq (V : Valuation τ sig (Elt F)) : Value.val3 V (Proc.devRef .tc main_v135)
    = result' (F := F) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) :=
  (Value.val3_main_v135 V).trans rfl

/-- Two heads' rows of one pixel, side by side. -/
def beside (a b : FVec F S90000x32 .f32) : FVec F S90000x64 .f32 :=
  concatenate S90000x64 1 [⟨S90000x32, a⟩, ⟨S90000x32, b⟩] concatenates_S90000x32_S90000x32_S90000x64_d1

/-- A head's channels, written out the other way and back. -/
def turned (a : FVec F S90000x32 .f32) : FVec F S90000x32 .f32 :=
  transpose S90000x32 [1, 0] (transpose S32x90000 [1, 0] a transposes_S90000x32_S32x90000_1_0) transposes_S32x90000_S90000x32_1_0

/-- The output projection. -/
def projection (u : FVec F S90000x64 .f32) (wo : FVec F S64x64 .f32) (bo : FVec F S64 .f32) : FVec F S90000x64 .f32 :=
  maximumf (addf (Host.dotGeneral dot_S90000x64_S64x64_S90000x64_1_0_0_1_n_n none u (transpose S64x64 [1, 0] wo transposes_S64x64_S64x64_1_0))
      (broadcastInDim S90000x64 ![0, 1] bcast_S1x64_S90000x64_0_1 (broadcastInDim S1x64 ![1] bcast_S64_S1x64_1 bo)))
    (broadcastInDim S90000x64 ![] bcast_S_S90000x64 (constant S_ .f32 0x00000000#32))

/-- The products, from the new channels and the scaled ones. -/
def product (u v : FVec F S90000x64 .f32) (wo : FVec F S64x64 .f32) (bo : FVec F S64 .f32) (w2 : FVec F S64x128 .f32) : FVec F S90000x64 .f32 :=
  Host.dotGeneral dot_S90000x128_S128x64_S90000x64_1_0_0_1_n_n none
    (concatenate S90000x128 1 [⟨S90000x64, projection u wo bo⟩, ⟨S90000x64, v⟩] concatenates_S90000x64_S90000x64_S90000x128_d1)
    (transpose S128x64 [1, 0] w2 transposes_S64x128_S128x64_1_0)

/-- The sums of the products and of their squares. -/
def sums (z : FVec F S90000x64 .f32) : FVec F S2x64 .f32 :=
  concatenate S2x64 0
    [⟨S1x64, broadcastInDim S1x64 ![1] bcast_S64_S1x64_1 (Host.reduceAdd z (constant S_ .f32 0x00000000#32) reducesTo_S90000x64_S64_d0 h_S_)⟩,
     ⟨S1x64, broadcastInDim S1x64 ![1] bcast_S64_S1x64_1 (Host.reduceAdd (mulf z z) (constant S_ .f32 0x00000000#32) reducesTo_S90000x64_S64_d0 h_S_)⟩]
    concatenates_S1x64_S1x64_S2x64_d0

/-- The products of all pixels. -/
def mixture (x : FVec F S180000x128 .f32) (sc sh : FVec F S64 .f32) (obj bg : IVec S45000 32) (rand : IVec S2x300x300 32)
    (wq : FVec F S32x32 .f32) (wkv : FVec F S64x32 .f32) (wo : FVec F S64x64 .f32) (bo : FVec F S64 .f32) (w2 : FVec F S64x128 .f32) : FVec F S90000x64 .f32 :=
  product (beside (freshFirst x sc sh (attended (all x sc sh obj bg rand) wq wkv) obj bg rand) (freshSecond x sc sh (attended (all x sc sh obj bg rand) wq wkv) obj bg rand))
    (beside (turned (first x sc sh)) (turned (second x sc sh))) wo bo w2

set_option maxRecDepth 8192 in
theorem fresh_fst (V : Valuation τ sig (Elt F)) : Value.res_main_v102 V = freshFirst (F := F) (V (Proc.devRef .tc main_arg0)) (V (Proc.devRef .tc main_arg1)) (V (Proc.devRef .tc main_arg2))
      (attended (all (V (Proc.devRef .tc main_arg0)) (V (Proc.devRef .tc main_arg1)) (V (Proc.devRef .tc main_arg2)) (V (Proc.devRef .tc main_arg3))
        (V (Proc.devRef .tc main_arg4)) (V (Proc.devRef .tc main_arg5))) (V (Proc.devRef .tc main_arg6)) (V (Proc.devRef .tc main_arg7)))
      (V (Proc.devRef .tc main_arg3)) (V (Proc.devRef .tc main_arg4)) (V (Proc.devRef .tc main_arg5)) := rfl

set_option maxRecDepth 8192 in
theorem fresh_snd (V : Valuation τ sig (Elt F)) : Value.res_main_v114 V = freshSecond (F := F) (V (Proc.devRef .tc main_arg0)) (V (Proc.devRef .tc main_arg1)) (V (Proc.devRef .tc main_arg2))
      (attended (all (V (Proc.devRef .tc main_arg0)) (V (Proc.devRef .tc main_arg1)) (V (Proc.devRef .tc main_arg2)) (V (Proc.devRef .tc main_arg3))
        (V (Proc.devRef .tc main_arg4)) (V (Proc.devRef .tc main_arg5))) (V (Proc.devRef .tc main_arg6)) (V (Proc.devRef .tc main_arg7)))
      (V (Proc.devRef .tc main_arg3)) (V (Proc.devRef .tc main_arg4)) (V (Proc.devRef .tc main_arg5)) := rfl

/-- The products, from equal tables. -/
theorem mixture_of {a a' b b' c c' d d' : FVec F S90000x32 .f32} (wo : FVec F S64x64 .f32) (bo : FVec F S64 .f32) (w2 : FVec F S64x128 .f32)
    (ha : a = a') (hb : b = b') (hc : c = c') (hd : d = d') :
    product (beside a b) (beside c d) wo bo w2 = product (beside a' b') (beside c' d') wo bo w2 := by
  rw [ha, hb, hc, hd]

set_option maxRecDepth 8192 in
theorem mixture_eq (V : Valuation τ sig (Elt F)) : Value.val3 V (Proc.devRef .tc main_v127)
    = mixture (F := F) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) :=
  (Value.val3_main_v127 V).trans (mixture_of _ _ _ (fresh_fst V) (fresh_snd V) rfl rfl)

set_option maxRecDepth 8192 in
theorem sums_eq (V : Valuation τ sig (Elt F)) : Value.val3 V (Proc.devRef .tc main_v133) = sums (F := F) (Value.val3 V (Proc.devRef .tc main_v127)) :=
  (Value.val3_main_v133 V).trans (congrArg sums (Value.val3_main_v127 V).symm)

theorem column_eq (i : IVec S150x300 32) (h : ∀ j, (i j).toNat < 45000) :
    column i = broadcastInDim S150x300x1 ![0, 1] bcast_S150x300_S150x300x1_0_1 i := by
  unfold column
  rw [wrap_eq]
  · exact fun _ => rfl
  · exact fun j => (h j).trans (by decide)

theorem column_at (i : IVec S150x300 32) (h : ∀ j, (i j).toNat < 45000) (r : Fin 150) (c : Fin 300) (z : Fin 1) :
    column i (ix3 r c z) = i (ix2 r c) := by
  rw [column_eq i h]
  pointwise

theorem column_lt (i : IVec S150x300 32) (h : ∀ j, (i j).toNat < 45000) (j : S150x300x1.Idx) : (column i j).toNat < 45000 := by
  obtain ⟨r, c, z, rfl⟩ : ∃ r c z, j = ix3 r c z := ⟨_, _, _, eq_ix3 j⟩
  rw [column_at i h]; exact h _

/-- The lookup at a place in range. -/
theorem take_at (x : IVec S45000 32) (i : IVec S150x300 32) (h : ∀ j, (i j).toNat < 45000) (r : Fin 150) (c : Fin 300) :
    take x i (ix2 r c) = at45 x (i (ix2 r c)) := by
  unfold take
  rw [fill_eq (hi := 44999)]
  rotate_left
  · decide
  · exact fun _ => rfl
  · exact fun _ => rfl
  · exact fun j => Nat.le_of_lt_succ (column_lt i h j)
  · exact fun _ => rfl
  refine (ValueIdx.gather_take_apply (by decide) gather_S45000_S150x300x1_S150x300_n_0_n_n_0_2_1_wf x (column i) (ix2 r c)).trans ?_
  unfold at45
  have e : column i (ValueIdx.takeIdx (ix2 r c)) = i (ix2 r c) := by
    rw [show ValueIdx.takeIdx (ix2 r c) = ix3 r c 0 from by funext a; fin_cases a <;> rfl, column_at i h]
  have hb := h (ix2 r c)
  refine congrArg x ?_
  funext a
  obtain rfl : a = 0 := Subsingleton.elim _ _
  refine Fin.ext ?_
  show min (column i (ValueIdx.takeIdx (ix2 r c))).toInt.toNat (45000 - 1) = (i (ix2 r c)).toNat % 45000
  rw [e, WordCmp.toInt_eq_toNat_of_lt_half (by show _ < 2 ^ 31; omega), Int.toNat_natCast]
  omega

/-- One head's pixel at row `r` and column `c`. -/
theorem square_at (obj bg : IVec S45000 32) (q : IVec S1x300x300 32) (h : ∀ j, (q j).toNat < 45000) (r c : Fin 300) :
    square obj bg q (ix2 r c) = if r.val < 150 then at45 obj (q (ix3 0 r c)) else at45 bg (q (ix3 0 r c)) := by
  have hs (off : Fin 2 → ℕ) (hh) (j : S150x300.Idx) :
      (extractStridedSlice S150x300 off (shapeCast S300x300 q shapeCasts_S1x300x300_S300x300) hh j).toNat < 45000 := h _
  unfold square
  pointwise
  split
  · rw [take_at _ _ (hs _ _)]; congr 1; pointwise
  · rw [take_at _ _ (hs _ _)]; congr 1; pointwise
    exact congrArg (fun z => q (ix3 0 z c)) (Fin.ext (by show 150 + (r.val - 150) = r.val; omega))

theorem list_at (p : IVec S300x300 32) (h : ∀ j, (p j).toNat < 90000) (n : Fin 90000) (z : Fin 1) :
    list p (ix2 n z) = p (ix2 ⟨n.val / 300, by omega⟩ ⟨n.val % 300, by omega⟩) := by
  unfold list
  rw [wrap_eq]
  rotate_left
  · exact fun _ => rfl
  · exact fun j => (h _).trans (by decide)
  pointwise

/-- One head's rows. -/
theorem rows_at {φ : FTy} (t : FVec F S90000x128 φ) (p : IVec S300x300 32) (h : ∀ j, (p j).toNat < 90000) (n : Fin 90000) (e : Fin 128) :
    rows t p (ix2 n e) = t (ix2 ⟨(p (ix2 ⟨n.val / 300, by omega⟩ ⟨n.val % 300, by omega⟩)).toNat, h _⟩ e) := by
  unfold rows
  refine Routing.gather_row _ rfl rfl rfl rfl rfl t _ n e ⟨_, h _⟩ ?_ (by decide)
  refine (list_at p h n 0).trans ?_
  exact (BitVec.ofNat_toNat _ _).symm ▸ by simp

/-- Where an update lands: in its own channel, at the row that its word names. -/
theorem lands (idx : IVec S90000x1 32) (ch ch' : Fin 32) (n r : Fin 90000) :
    scatter_S32x90000_S90000x1_S32x90000_0_1_1_1.resultIdx? (ix2 ch n) idx = some (ix2 ch' r)
      ↔ ch = ch' ∧ (idx (ix2 n 0)).toInt = (r.val : Int) := by
  have w0 : scatter_S32x90000_S90000x1_S32x90000_0_1_1_1.window (ix2 ch n) 0 = ch.val := by
    unfold ScatterDims.window
    rw [dif_pos (by decide)]; rfl
  have w1 : scatter_S32x90000_S90000x1_S32x90000_0_1_1_1.window (ix2 ch n) 1 = 0 := by
    unfold ScatterDims.window
    rw [dif_neg (by decide)]
  have s0 : scatter_S32x90000_S90000x1_S32x90000_0_1_1_1.start (ix2 ch n) idx 0 = 0 := by
    unfold ScatterDims.start
    rw [dif_neg (by decide)]
  have s1 : scatter_S32x90000_S90000x1_S32x90000_0_1_1_1.start (ix2 ch n) idx 1 = (idx (ix2 n 0)).toInt := by
    unfold ScatterDims.start
    rw [dif_pos (by decide)]
    refine congrArg (fun z => (idx z).toInt) ?_
    funext a
    match a with
    | ⟨0, _⟩ => rfl
    | ⟨1, _⟩ => exact Subsingleton.elim (α := Fin 1) _ _
  refine (Routing.resultIdx?_ix2 _ _ _ _ _).trans ?_
  rw [w0, w1, s0, s1]
  constructor
  · rintro ⟨h, h'⟩; exact ⟨Fin.ext (by omega), by omega⟩
  · rintro ⟨rfl, h⟩; exact ⟨by omega, by omega⟩

/-- One head's new table, at the row of the pixel of row `r` and column `c` of its square, no pixel being there twice. -/
theorem updated_at (t : FVec F S90000x32 .f32) (p : IVec S300x300 32) (v : FVec F S300x32x300 .f32) (h : ∀ j, (p j).toNat < 90000)
    (inj : ∀ r c r' c' : Fin 300, (p (ix2 r c)).toNat = (p (ix2 r' c')).toNat → r = r' ∧ c = c') (r c : Fin 300) (ch : Fin 32) :
    updated t p v (ix2 ⟨(p (ix2 r c)).toNat, h _⟩ ch) = v (ix3 r ch c) := by
  have hn : r.val * 300 + c.val < 90000 := by omega
  have place (r c : Fin 300) (n : Fin 90000) (e : n.val = r.val * 300 + c.val) : list p (ix2 n 0) = p (ix2 r c) := by
    rw [list_at p h]
    refine congrArg p ?_
    rw [show (⟨n.val / 300, by omega⟩ : Fin 300) = r from Fin.ext (by dsimp only; omega),
      show (⟨n.val % 300, by omega⟩ : Fin 300) = c from Fin.ext (by dsimp only; omega)]
  have word (n : Fin 90000) : (list p (ix2 n 0)).toInt = ((list p (ix2 n 0)).toNat : Int) := by
    rw [list_at p h]
    exact WordCmp.toInt_eq_toNat_of_lt_half ((h _).trans (by decide))
  have val (r c : Fin 300) (ch : Fin 32) (n : Fin 90000) (e : n.val = r.val * 300 + c.val) :
      shapeCast S32x90000 (transpose S32x300x300 [1, 0, 2] v transposes_S300x32x300_S32x300x300_1_0_2) shapeCasts_S32x300x300_S32x90000 (ix2 ch n)
        = v (ix3 r ch c) := by
    pointwise
    rw [show (⟨n.val / 300, by omega⟩ : Fin 300) = r from Fin.ext (by dsimp only; omega),
      show (⟨n.val % 300, by omega⟩ : Fin 300) = c from Fin.ext (by dsimp only; omega)]
  unfold updated
  have key := Routing.scatter_set_hit scatter_S32x90000_S90000x1_S32x90000_0_1_1_1
    (transpose S32x90000 [1, 0] t transposes_S90000x32_S32x90000_1_0)
    (list p) (shapeCast S32x90000 (transpose S32x300x300 [1, 0, 2] v transposes_S300x32x300_S32x300x300_1_0_2) shapeCasts_S32x300x300_S32x90000)
    (ix2 ch ⟨(p (ix2 r c)).toNat, h _⟩) (v (ix3 r ch c)) (fun k hk => by
      obtain ⟨ch', n, rfl⟩ : ∃ ch' n, k = ix2 ch' n := ⟨_, _, eq_ix2 k⟩
      obtain ⟨rfl, e⟩ := (lands _ _ _ _ _).mp hk
      have hq : n.val = (⟨n.val / 300, by omega⟩ : Fin 300).val * 300 + (⟨n.val % 300, by omega⟩ : Fin 300).val := by dsimp only; omega
      rw [word, place ⟨n.val / 300, by omega⟩ ⟨n.val % 300, by omega⟩ n hq] at e
      obtain ⟨e1, e2⟩ := inj _ _ _ _ (Int.ofNat.inj e)
      exact val r c ch' n (by rw [← e1, ← e2]; exact hq))
    (ix2 ch ⟨r.val * 300 + c.val, hn⟩) ((lands _ _ _ _ _).mpr ⟨rfl, by rw [word, place r c _ rfl]⟩)
  refine Eq.trans ?_ key
  pointwise

section Whole

variable {obj bg : IVec S45000 32} {rand : IVec S2x300x300 32}

theorem square_pixel (H : InRange obj bg rand) (h : Fin 2) (off : Fin 3 → ℕ) (ho : off = ![h.val, 0, 0]) (hh) (r c : Fin 300) :
    square obj bg (extractStridedSlice S1x300x300 off rand hh) (ix2 r c) = pixel obj bg rand h r c := by
  subst ho
  rw [square_at obj bg (extractStridedSlice S1x300x300 ![h.val, 0, 0] rand hh) (fun _ => H.rand _)]
  unfold pixel
  pointwise

theorem square_lt (H : InRange obj bg rand) (h : Fin 2) (off : Fin 3 → ℕ) (ho : off = ![h.val, 0, 0]) (hh) (j : S300x300.Idx) :
    (square obj bg (extractStridedSlice S1x300x300 off rand hh) j).toNat < 90000 := by
  obtain ⟨r, c, rfl⟩ : ∃ r c, j = ix2 r c := ⟨_, _, eq_ix2 j⟩
  rw [square_pixel H h off ho]; exact H.pixel_lt h r c

theorem result_eq {φ : FTy} (x : FVec F S180000x128 φ) (H : InRange obj bg rand) :
    result x obj bg rand = gathered H x := by
  funext j
  obtain ⟨n, e, rfl⟩ : ∃ n e, j = ix2 n e := ⟨_, _, eq_ix2 j⟩
  unfold result
  pointwise
  split
  · rw [rows_at _ _ (square_lt H 0 ![0, 0, 0] rfl _)]
    pointwise
    refine congrArg (fun z => x (ix2 z e)) (Fin.ext ?_)
    show (square _ _ _ _).toNat = rowAt obj bg rand n
    rw [square_pixel H 0 ![0, 0, 0] rfl,
      rowAt_of (0 : Fin 2) ⟨n.val / 300, by omega⟩ ⟨n.val % 300, by omega⟩ n (by rw [Fin.val_zero, Nat.zero_mul, Nat.zero_add]; exact (Nat.div_add_mod' _ _).symm)]
    show _ = 0 * 90000 + _
    omega
  · rw [rows_at _ _ (square_lt H 1 ![1, 0, 0] rfl _)]
    pointwise
    refine congrArg (fun z => x (ix2 z e)) (Fin.ext ?_)
    show 90000 + (square _ _ _ _).toNat = rowAt obj bg rand n
    rw [square_pixel H 1 ![1, 0, 0] rfl,
      rowAt_of (1 : Fin 2) ⟨(n.val - 90000) / 300, by omega⟩ ⟨(n.val - 90000) % 300, by omega⟩ n (by rw [Fin.val_one]; dsimp only; omega)]
    rfl

/-- One head's new table, read at the row that the list of both heads names at place `n`. -/
theorem updated_row (H : Perms obj bg rand) (h : Fin 2) (t : FVec F S90000x32 .f32) (off : Fin 3 → ℕ) (ho : off = ![h.val, 0, 0]) (hh)
    (v : FVec F S300x32x300 .f32) (n : Fin 180000) (hn : n.val / 90000 = h.val) (ch : Fin 32) (m : Fin 90000)
    (hm : h.val * 90000 + m.val = (row H n).val) :
    updated t (square obj bg (extractStridedSlice S1x300x300 off rand hh)) v (ix2 m ch) = v (ix3 ⟨n.val / 300 % 300, by omega⟩ ch ⟨n.val % 300, by omega⟩) := by
  have e := rowAt_of (obj := obj) (bg := bg) (rand := rand) h ⟨n.val / 300 % 300, by omega⟩ ⟨n.val % 300, by omega⟩ n (by dsimp only; omega)
  have em : m = ⟨(square obj bg (extractStridedSlice S1x300x300 off rand hh) (ix2 ⟨n.val / 300 % 300, by omega⟩ ⟨n.val % 300, by omega⟩)).toNat,
      square_lt H.inRange h off ho hh _⟩ := Fin.ext (by
    show m.val = (square obj bg (extractStridedSlice S1x300x300 off rand hh) (ix2 ⟨n.val / 300 % 300, by omega⟩ ⟨n.val % 300, by omega⟩)).toNat
    rw [square_pixel H.inRange h off ho]
    have hm : h.val * 90000 + m.val = rowAt obj bg rand n := hm
    omega)
  rw [em]
  refine updated_at t _ v (square_lt H.inRange h off ho hh) (fun r c r' c' e => ?_) _ _ ch
  rw [square_pixel H.inRange h off ho, square_pixel H.inRange h off ho] at e
  exact H.pixel_inj h r c r' c' e

theorem renewed_eq (x : FVec F S180000x128 .f32) (sc sh : FVec F S64 .f32) (o : FVec F S600x300x32 .f32) (H : Perms obj bg rand) :
    renewed x sc sh o obj bg rand = scattered H (valueAt o) := by
  refine eq_scattered H _ _ fun n ch => ?_
  have hp := H.inRange.pixel_lt ⟨n.val / 90000, by omega⟩ ⟨n.val / 300 % 300, by omega⟩ ⟨n.val % 300, by omega⟩
  have hrow : (row H n).val = n.val / 90000 * 90000 + (pixel obj bg rand ⟨n.val / 90000, by omega⟩ ⟨n.val / 300 % 300, by omega⟩ ⟨n.val % 300, by omega⟩).toNat := rfl
  unfold renewed freshFirst freshSecond
  pointwise
  split
  · rw [updated_row H 0 _ ![0, 0, 0] rfl _ _ n (by rw [Fin.val_zero]; omega) ch _ (by rw [Fin.val_zero]; dsimp only; omega)]
    pointwise
    unfold valueAt
    congr 2 <;> exact Fin.ext (by dsimp only; omega)
  · rw [updated_row H 1 _ ![1, 0, 0] rfl _ _ n (by rw [Fin.val_one]; omega) ch _ (by rw [Fin.val_one]; dsimp only; omega)]
    pointwise
    unfold valueAt
    congr 2 <;> exact Fin.ext (by dsimp only; omega)

/-! ## The sequences -/

theorem scaled_at (t : FVec Ideal S90000x128 .f32) (s h : FVec Ideal S32 .f32) (n : Fin 90000) (k : Fin 32) :
    scaled t s h (ix2 n k) = max (t (ix2 n ⟨k.val, by omega⟩) * s (ix1 k) + h (ix1 k)) 0 := by
  unfold scaled along
  pointwise

theorem wrapped_at (p : IVec S300x300 32) (h : ∀ j, (p j).toNat < 90000) (r c : Fin 300) (z : Fin 1) : wrapped p (ix3 r c z) = p (ix2 r c) := by
  unfold wrapped
  rw [wrap_eq]
  rotate_left
  · exact fun _ => rfl
  · exact fun j => (h j).trans (by decide)
  pointwise

/-- The lookup of a row at a place of a square. -/
theorem sequences_at (y : FVec F S90000x32 .f32) (p : IVec S300x300 32) (h : ∀ j, (p j).toNat < 90000) (r c : Fin 300) (k : Fin 32) :
    sequences y p (ix3 r c k) = y (ix2 ⟨(p (ix2 r c)).toNat, h _⟩ k) := by
  unfold sequences Host.gather
  refine congrArg y (funext fun a => Fin.ext ?_)
  match a with
  | ⟨0, _⟩ =>
    show GatherDims.start _ _ _ 0 + GatherDims.batchCoord _ _ 0 + GatherDims.offCoord _ _ 0 = (p (ix2 r c)).toNat
    rw [GatherDims.batchCoord_eq_zero _ _ _ (by decide), GatherDims.offCoord_eq_zero _ _ _ (by decide)]
    unfold GatherDims.start
    rw [dif_pos (by decide)]
    have e : GatherDims.siIdx gather_S90000x32_S300x300x1_S300x300x32_2_0_n_n_0_2_132 (ix3 r c k) ⟨0, by decide⟩ = ix3 r c 0 := by
      funext b
      match b with
      | ⟨0, _⟩ => rfl
      | ⟨1, _⟩ => rfl
      | ⟨2, _⟩ => rfl
    refine (congrArg (fun z => min (wrapped p z).toInt.toNat (90000 - 1) + 0 + 0) e).trans ?_
    have hb := h (ix2 r c)
    rw [wrapped_at p h, WordCmp.toInt_eq_toNat_of_lt_half (by show _ < 2 ^ 31; omega), Int.toNat_natCast]
    omega
  | ⟨1, _⟩ =>
    show GatherDims.start _ _ _ 1 + GatherDims.batchCoord _ _ 1 + GatherDims.offCoord _ _ 1 = k.val
    rw [GatherDims.batchCoord_eq_zero _ _ _ (by decide)]
    unfold GatherDims.start GatherDims.offCoord
    rw [dif_neg (by decide), dif_pos (by decide)]
    show 0 + 0 + k.val = k.val
    omega

theorem all_at (H : InRange obj bg rand) (x : FVec Ideal S180000x128 .f32) (sc sh : FVec Ideal S64 .f32) (g : Fin 600) (i : Fin 300) (k : Fin 32) :
    all x sc sh obj bg rand (ix3 g i k) = Group.pixels H x sc sh g i k := by
  unfold all Group.pixels
  pointwise
  split
  · rename_i hg
    rw [sequences_at _ _ (square_lt H 0 ![0, 0, 0] rfl _)]
    unfold first
    rw [scaled_at]
    pointwise
    refine Group.scaled_congr (congrArg (fun z => x (ix2 z ⟨k.val, by omega⟩)) (Fin.ext ?_)) (congrArg (fun z => sc (ix1 z)) (Fin.ext ?_)) (congrArg (fun z => sh (ix1 z)) (Fin.ext ?_))
    · show (square _ _ _ _).toNat = rowAt obj bg rand _
      rw [square_pixel H 0 ![0, 0, 0] rfl, rowAt_of (0 : Fin 2) ⟨g.val, hg⟩ i _ (by rw [Fin.val_zero]; dsimp only; omega)]
      show _ = 0 * 90000 + _
      omega
    · dsimp only; omega
    · dsimp only; omega
  · rename_i hg
    rw [sequences_at _ _ (square_lt H 1 ![1, 0, 0] rfl _)]
    unfold second
    rw [scaled_at]
    pointwise
    refine Group.scaled_congr (congrArg (fun z => x (ix2 z ⟨k.val, by omega⟩)) (Fin.ext ?_)) (congrArg (fun z => sc (ix1 z)) (Fin.ext ?_)) (congrArg (fun z => sh (ix1 z)) (Fin.ext ?_))
    · show 90000 + (square _ _ _ _).toNat = rowAt obj bg rand _
      rw [square_pixel H 1 ![1, 0, 0] rfl, rowAt_of (1 : Fin 2) ⟨g.val - 300, by omega⟩ i _ (by rw [Fin.val_one]; dsimp only; omega)]
      rfl
    · dsimp only; omega
    · dsimp only; omega

theorem result'_eq (x : FVec Ideal S180000x128 .f32) (sc sh : FVec Ideal S64 .f32) (wq : FVec Ideal S32x32 .f32) (wkv : FVec Ideal S64x32 .f32) (H : Perms obj bg rand) :
    result' x sc sh obj bg rand wq wkv = scattered H (valueAt (Group.output H.inRange x sc sh wq wkv)) := by
  unfold result'
  rw [renewed_eq _ _ _ _ H]
  refine congrArg (fun o => scattered H (valueAt o)) (funext fun j => ?_)
  obtain ⟨g, i, e, rfl⟩ : ∃ g i e, j = ix3 g i e := ⟨_, _, _, eq_ix3 j⟩
  rw [attended_at]
  exact congrArg (fun f => Group.attend f wq wkv i e) (funext fun i => funext fun k => all_at H.inRange x sc sh g i k)

/-- The row of a pixel and head in the two heads' tables, laid end to end, is its row in them side by side. -/
theorem beside_at {G : FTy → Type} [FloatOps G] (a b : FVec G S90000x32 .f32) (p : Fin 90000) (k : Fin 64) :
    beside a b (ix2 p k)
      = concatenate S180000x32 0 [⟨S90000x32, a⟩, ⟨S90000x32, b⟩] concatenates_S90000x32_S90000x32_S180000x32_d0
          (ix2 ⟨k.val / 32 * 90000 + p.val, by omega⟩ ⟨k.val % 32, by omega⟩) := by
  unfold beside
  pointwise
  by_cases h : k.val < 32
  · rw [dif_pos h, dif_pos (by omega)]
    exact congrArg a (congrArg₂ ix2 (Fin.ext (by dsimp only; omega)) (Fin.ext (by dsimp only; omega)))
  · rw [dif_neg h, dif_neg (by omega)]
    exact congrArg b (congrArg₂ ix2 (Fin.ext (by dsimp only; omega)) (Fin.ext (by dsimp only; omega)))

theorem turned_at {G : FTy → Type} [FloatOps G] (a : FVec G S90000x32 .f32) (p : Fin 90000) (k : Fin 32) : turned a (ix2 p k) = a (ix2 p k) := by
  unfold turned
  pointwise

/-- A pixel's scaled channels, of both heads. -/
theorem channels_at (x : FVec Ideal S180000x128 .f32) (sc sh : FVec Ideal S64 .f32) (p : Fin 90000) (k : Fin 64) :
    beside (turned (first x sc sh)) (turned (second x sc sh)) (ix2 p k)
      = max (x (ix2 ⟨k.val / 32 * 90000 + p.val, by omega⟩ ⟨k.val % 32, by omega⟩) * sc (ix1 k) + sh (ix1 k)) 0 := by
  unfold beside
  pointwise
  split
  · rw [turned_at]
    unfold first
    rw [scaled_at]
    pointwise
    refine Group.scaled_congr (congrArg x (congrArg₂ ix2 (Fin.ext ?_) (Fin.ext ?_))) (congrArg (fun z => sc (ix1 z)) (Fin.ext ?_)) (congrArg (fun z => sh (ix1 z)) (Fin.ext ?_))
      <;> dsimp only <;> omega
  · rw [turned_at]
    unfold second
    rw [scaled_at]
    pointwise
    refine Group.scaled_congr (congrArg x (congrArg₂ ix2 (Fin.ext ?_) (Fin.ext ?_))) (congrArg (fun z => sc (ix1 z)) (Fin.ext ?_)) (congrArg (fun z => sh (ix1 z)) (Fin.ext ?_))
      <;> dsimp only <;> omega

theorem projection_at (u : FVec Ideal S90000x64 .f32) (wo : FVec Ideal S64x64 .f32) (bo : FVec Ideal S64 .f32) (p : Fin 90000) (e : Fin 64) :
    projection u wo bo (ix2 p e) = Mix.projected wo (fun e => bo (ix1 e)) (fun k => u (ix2 p k)) e := by
  unfold projection Mix.projected
  pointwise

theorem product_at (u v : FVec Ideal S90000x64 .f32) (wo : FVec Ideal S64x64 .f32) (bo : FVec Ideal S64 .f32) (w2 : FVec Ideal S64x128 .f32)
    (p : Fin 90000) (co : Fin 64) :
    product u v wo bo w2 (ix2 p co) = Mix.mixed wo (fun e => bo (ix1 e)) w2 (fun k => u (ix2 p k)) (fun k => v (ix2 p k)) co := by
  have key : product u v wo bo w2 (ix2 p co)
      = ∑ c : Fin (64 + 64), (if h : c.val < 64 then projection u wo bo (ix2 p ⟨c.val, h⟩) else v (ix2 p ⟨c.val - 64, by omega⟩)) * w2 (ix2 co ⟨c.val, by omega⟩) := by
    unfold product
    pointwise
  rw [key, Fin.sum_univ_add]
  unfold Mix.mixed
  refine congrArg₂ (· + ·) (Finset.sum_congr rfl fun e _ => ?_) (Finset.sum_congr rfl fun e _ => ?_)
  · rw [dif_pos (by simp), ← projection_at]
    rfl
  · rw [dif_neg (by simp)]
    refine congrArg₂ (· * ·) (congrArg (fun z => v (ix2 p z)) (Fin.ext ?_)) rfl
    show 64 + e.val - 64 = e.val
    omega

theorem sums_of (z : FVec Ideal S90000x64 .f32) : sums z = Mix.sumsOf z := by
  funext j
  obtain ⟨b, co, rfl⟩ : ∃ b co, j = ix2 b co := ⟨_, _, eq_ix2 j⟩
  unfold sums Mix.sumsOf
  pointwise
  split <;> rfl

/-- The products of all pixels, from the new table and the scaled channels. -/
theorem mixture_at (x : FVec Ideal S180000x128 .f32) (sc sh : FVec Ideal S64 .f32) (wq : FVec Ideal S32x32 .f32) (wkv : FVec Ideal S64x32 .f32)
    (wo : FVec Ideal S64x64 .f32) (bo : FVec Ideal S64 .f32) (w2 : FVec Ideal S64x128 .f32) (H : Perms obj bg rand) (p : Fin 90000) (co : Fin 64) :
    mixture x sc sh obj bg rand wq wkv wo bo w2 (ix2 p co)
      = Mix.mixed wo (fun e => bo (ix1 e)) w2
          (fun k => scattered H (valueAt (Group.output H.inRange x sc sh wq wkv)) (ix2 ⟨k.val / 32 * 90000 + p.val, by omega⟩ ⟨k.val % 32, by omega⟩))
          (fun k => max (x (ix2 ⟨k.val / 32 * 90000 + p.val, by omega⟩ ⟨k.val % 32, by omega⟩) * sc (ix1 k) + sh (ix1 k)) 0) co := by
  unfold mixture
  rw [product_at, ← result'_eq x sc sh wq wkv H]
  refine congrArg₂ (fun u v => Mix.mixed wo (fun e => bo (ix1 e)) w2 u v co) (funext fun k => ?_) (funext fun k => channels_at x sc sh p k)
  unfold result' renewed
  exact beside_at _ _ p k

end Whole

end Cert.Proof.Reference

end
-- ==== Proof.Same.lean ====
/-
  The program over machine words and the program over real numbers are the same text, written out twice: here the two are shown
  equal piece by piece, so what is proved of the one for every number type holds of the other. Only the table of bodies needs a
  case per processor and label; each case, and the rest, is an unfolding.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxHeartbeats 8000000 in
/-- The four bodies and the labels' table. -/
theorem bodies_eq : Cert.Kernel.defs₀ (F := F) = Cert.KernelIdeal.defs₀ (F := F) := by
  funext p l a
  match p, l, a with
  | .scVector _ _, 0, _ | .scVector _ _, 1, _ | .scVector _ _, 2, _ | .scVector _ _, 3, _ => rfl
  | .scScalar _, 0, _ | .scScalar _, 1, _ | .scScalar _, 2, _ | .scScalar _, 3, _ => rfl
  | .tc, 0, _ | .tc, 1, (_, _) | .tc, 2, _ | .tc, 3, (_, _) => rfl

set_option maxHeartbeats 8000000 in
/-- The bodies as the launches call them. -/
theorem defs_eq : Cert.Kernel.defs (F := F) = Cert.KernelIdeal.defs (F := F) :=
  congrArg (fun d => Cert.KernelIdeal.sc.defs (Pipeline.defs Cert.KernelIdeal.pcfgs d)) (bodies_eq (F := F))

set_option maxHeartbeats 8000000 in
/-- The host program as far as the new table's padding. -/
theorem main_part0_eq : Cert.Kernel.main_part0 (F := F) = Cert.KernelIdeal.main_part0 (F := F) := rfl

set_option maxHeartbeats 8000000 in
/-- The rest of the host program. -/
theorem main_part1_eq : Cert.Kernel.main_part1 (F := F) = Cert.KernelIdeal.main_part1 (F := F) := rfl

set_option maxHeartbeats 8000000 in
/-- The host program. -/
theorem main_eq : Cert.Kernel.main (F := F) = Cert.KernelIdeal.main (F := F) :=
  funext fun d => congrArg₂ (fun a b => (a d).bind fun _ => b d) (main_part0_eq (F := F)) (main_part1_eq (F := F))

set_option maxHeartbeats 8000000 in
/-- All threads. -/
theorem threads_eq : Cert.Kernel.threads (F := F) = Cert.KernelIdeal.threads (F := F) :=
  congrArg (fun p => Cert.KernelIdeal.sc.threads p) (main_eq (F := F))

/-- What holds of the runs of one program holds of the runs of an equal one. -/
theorem run_of_eq {n : Nat} {τ : Topo} {sig : RefSig} {Val : EltTy → Type} {Λ : Labels} {defs defs' : Defs n τ sig Val Λ}
    {p p' : (c : Thread n τ) → Prog (TpuEff n τ sig Val Λ c.2) PUnit} (hd : defs' = defs) (hp : p' = p) {s : MemSt n τ sig Val}
    {Q : PUnit × MemSt n τ sig Val → Prop} (h : θ_run defs p s Q) : θ_run defs' p' s Q := by
  subst hd hp
  exact h

end Cert.Proof.Same

end
-- ==== Proof.lean ====
/-
  The claims: frames of the program of the four calls and of its reference, and that both end with the same rows, the same new
  table, the same products and the same sums; and the like of the first convolution's program and of the second batch
  normalisation's, each with its own reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_permutations
public import proofs.«01_k».proof.Proof.Gen.First
public import proofs.«01_k».proof.Proof.Gen.FirstIdeal
public import proofs.«01_k».proof.Proof.Gen.FirstReferenceIdeal
public import proofs.«01_k».proof.Proof.Gen.FirstReferenceIdeal.Run
public import proofs.«01_k».proof.Proof.Gen.Last
public import proofs.«01_k».proof.Proof.Gen.LastIdeal
public import proofs.«01_k».proof.Proof.Gen.LastReferenceIdeal
public import proofs.«01_k».proof.Proof.Gen.LastReferenceIdeal.Run
public import proofs.«01_k».proof.Proof.Gen.Pre_sums_of_products
public import proofs.«01_k».proof.Proof.FirstReference
public import proofs.«01_k».proof.Proof.FirstSame
public import proofs.«01_k».proof.Proof.LastReference
public import proofs.«01_k».proof.Proof.LastSame
public import proofs.«01_k».proof.Proof.List
public import proofs.«01_k».proof.Proof.Reference
public import proofs.«01_k».proof.Proof.Same
public import Idealize.ShloMosaic.Lib.Quiescent

@[expose] public section

noncomputable section

namespace Cert.Proof

open Idealize.ShloMosaic Cert.Proof.Index

/-- Over any numbers the program runs to its end, leaves its arguments as they were and every semaphore at zero. -/
theorem frame {F : FTy → Type} [FloatOps F] {m : (ℓ : Loc Cert.KernelIdeal.nD Cert.KernelIdeal.τ Cert.KernelIdeal.sig) → Buf (Elt F) ℓ}
    (ρ : Dev Cert.KernelIdeal.nD → PrngReg) (H : Calls.Ok m) :
    θ_run (Cert.KernelIdeal.defs (F := F)) (Cert.KernelIdeal.threads (F := F)) ⟨m, fun _ => 0, ρ⟩ fun r =>
      (∀ c : Dev Cert.KernelIdeal.nD, r.2.mem (c, Proc.devRef .tc Cert.KernelIdeal.main_arg0) = m (c, Proc.devRef .tc Cert.KernelIdeal.main_arg0)
      ∧ r.2.mem (c, Proc.devRef .tc Cert.KernelIdeal.main_arg1) = m (c, Proc.devRef .tc Cert.KernelIdeal.main_arg1)
      ∧ r.2.mem (c, Proc.devRef .tc Cert.KernelIdeal.main_arg2) = m (c, Proc.devRef .tc Cert.KernelIdeal.main_arg2)
      ∧ r.2.mem (c, Proc.devRef .tc Cert.KernelIdeal.main_arg3) = m (c, Proc.devRef .tc Cert.KernelIdeal.main_arg3)
      ∧ r.2.mem (c, Proc.devRef .tc Cert.KernelIdeal.main_arg4) = m (c, Proc.devRef .tc Cert.KernelIdeal.main_arg4)
      ∧ r.2.mem (c, Proc.devRef .tc Cert.KernelIdeal.main_arg5) = m (c, Proc.devRef .tc Cert.KernelIdeal.main_arg5)
      ∧ r.2.mem (c, Proc.devRef .tc Cert.KernelIdeal.main_arg6) = m (c, Proc.devRef .tc Cert.KernelIdeal.main_arg6)
      ∧ r.2.mem (c, Proc.devRef .tc Cert.KernelIdeal.main_arg7) = m (c, Proc.devRef .tc Cert.KernelIdeal.main_arg7)
      ∧ r.2.mem (c, Proc.devRef .tc Cert.KernelIdeal.main_arg8) = m (c, Proc.devRef .tc Cert.KernelIdeal.main_arg8)
      ∧ r.2.mem (c, Proc.devRef .tc Cert.KernelIdeal.main_arg9) = m (c, Proc.devRef .tc Cert.KernelIdeal.main_arg9)
      ∧ r.2.mem (c, Proc.devRef .tc Cert.KernelIdeal.main_arg10) = m (c, Proc.devRef .tc Cert.KernelIdeal.main_arg10))
      ∧ r.2.sem = fun _ => 0 :=
  (θ_run Cert.KernelIdeal.defs _ _).mono (fun _ h => ⟨fun c => (h.1 c).2.2.2.2, h.2⟩) (Calls.run_value (F := F) (m := m) ρ H)

theorem frame_kernel : Cert.quiescent_Kernel := fun m ρ hpre =>
  Same.run_of_eq (Same.defs_eq (F := Bits)) (Same.threads_eq (F := Bits))
    (frame (F := Bits) (m := m) ρ fun d => perms_of_pre _ _ _ _ _ _ _ _ _ _ _ (hpre d))

theorem frame_ideal : Cert.quiescent_KernelIdeal := fun m ρ hpre =>
  frame (F := Ideal) (m := m) ρ fun d => perms_of_pre _ _ _ _ _ _ _ _ _ _ _ (hpre d)

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference's products are those that the projection call computes. -/
theorem products_eq {m : (ℓ : Loc Cert.KernelIdeal.nD Cert.KernelIdeal.τ Cert.KernelIdeal.sig) → Buf (Elt Ideal) ℓ} (H : Calls.Ok m) (c : Dev Cert.KernelIdeal.nD) :
    Reference.mixture (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3)) (m (c, Proc.devRef .tc Cert.KernelIdeal.main_arg4))
      (m (c, Proc.devRef .tc Cert.KernelIdeal.main_arg5)) (m (c, Proc.devRef .tc Cert.KernelIdeal.main_arg6)) (m (c, Proc.devRef .tc Cert.KernelIdeal.main_arg7))
      (m (c, Proc.devRef .tc Cert.KernelIdeal.main_arg8)) (m (c, Proc.devRef .tc Cert.KernelIdeal.main_arg9)) (m (c, Proc.devRef .tc Cert.KernelIdeal.main_arg10))
      = Calls.mixes m c := by
  funext j
  obtain ⟨p, co, rfl⟩ : ∃ p co, j = ix2 p co := ⟨_, _, eq_ix2 j⟩
  exact (Reference.mixture_at _ _ _ _ _ _ _ _ (H c) p co).trans (Calls.mixes_at H c _ _ _ _ rfl rfl rfl rfl p co).symm

/-- Kernel and reference end with the same rows, the same new table, the same products and the same sums. -/
theorem same_results : Cert.algebraic_KernelIdeal_ReferenceIdeal := by
  intro m g m' g' hpre hagree
  have H : Calls.Ok m := fun d => perms_of_pre _ _ _ _ _ _ _ _ _ _ _ (hpre d)
  have mix (c : Dev Cert.KernelIdeal.nD) : Cert.ReferenceIdeal.Value.val3 (StableHlo.launchContents m' c) (Proc.devRef .tc Cert.ReferenceIdeal.main_v127) = Calls.mixes m c := by
    obtain ⟨h0, h1, h2, h3, h4, h5, h6, h7, h8, h9, h10⟩ := hagree c
    refine (Reference.mixture_eq (StableHlo.launchContents m' c)).trans ?_
    unfold StableHlo.launchContents
    rw [h0, h1, h2, h3, h4, h5, h6, h7, h8, h9, h10]
    exact products_eq H c
  refine ⟨fun c => gathered (H c).inRange (m (c, Proc.devRef .tc Cert.KernelIdeal.main_arg0)),
    fun c => scattered (H c) (valueAt (Group.output (H c).inRange (m (c, Proc.devRef .tc Cert.KernelIdeal.main_arg0))
      (m (c, Proc.devRef .tc Cert.KernelIdeal.main_arg1)) (m (c, Proc.devRef .tc Cert.KernelIdeal.main_arg2))
      (m (c, Proc.devRef .tc Cert.KernelIdeal.main_arg6)) (m (c, Proc.devRef .tc Cert.KernelIdeal.main_arg7)))),
    fun c => Calls.mixes m c, fun c => Mix.sumsOf (Calls.mixes m c),
    (θ_run Cert.KernelIdeal.defs _ _).mono
      (fun _ h c => ⟨(h.1 c).1, (h.1 c).2.1.trans (congrArg (fun o => scattered (H c) (valueAt o)) (Calls.attends_eq H c)), (h.1 c).2.2.1,
        (h.1 c).2.2.2.1.trans (Calls.mixSums_eq c), (h.1 c).2.2.2.2⟩) (Calls.run_value (F := Ideal) g H),
    (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.Value.run (F := Ideal) m' g')⟩
  · obtain ⟨h0, h1, h2, h3, h4, h5, h6, h7, h8, h9, h10⟩ := hagree c
    refine (Cert.ReferenceIdeal.Value.val3_main_v134 (StableHlo.launchContents m' c)).symm.trans ((Reference.out_eq (StableHlo.launchContents m' c)).trans ?_)
    unfold StableHlo.launchContents
    rw [h0, h3, h4, h5]
    exact Reference.result_eq _ (H c).inRange
  · obtain ⟨h0, h1, h2, h3, h4, h5, h6, h7, h8, h9, h10⟩ := hagree c
    refine (Cert.ReferenceIdeal.Value.val3_main_v135 (StableHlo.launchContents m' c)).symm.trans ((Reference.out'_eq (StableHlo.launchContents m' c)).trans ?_)
    unfold StableHlo.launchContents
    rw [h0, h1, h2, h3, h4, h5, h6, h7]
    exact Reference.result'_eq _ _ _ _ _ (H c)
  · exact (Cert.ReferenceIdeal.Value.val3_main_v127 (StableHlo.launchContents m' c)).symm.trans (mix c)
  · refine (Cert.ReferenceIdeal.Value.val3_main_v133 (StableHlo.launchContents m' c)).symm.trans ((Reference.sums_eq (StableHlo.launchContents m' c)).trans ?_)
    exact (congrArg (Reference.sums (F := Ideal)) (mix c)).trans (Reference.sums_of _)

theorem frame_first : Cert.quiescent_First := fun m ρ _ =>
  Same.run_of_eq (Conv.Same.defs_eq (F := Bits)) (Conv.Same.threads_eq (F := Bits)) (Conv.frame (F := Bits) m ρ)

theorem frame_first_ideal : Cert.quiescent_FirstIdeal := fun m ρ _ => Conv.frame (F := Ideal) m ρ

theorem frame_first_reference : Cert.quiescent_FirstReferenceIdeal := fun m ρ _ =>
  (θ_run Cert.FirstReferenceIdeal.defs _ _).mono (fun r h => ⟨fun c => (h c).2.2, sem_eq_zero_of_no_sems (by decide) r.2⟩)
    (Cert.FirstReferenceIdeal.Value.run (F := Ideal) m ρ)

/-- The first convolution's call and its reference end with the same slab and the same sums. -/
theorem same_first : Cert.algebraic_FirstIdeal_FirstReferenceIdeal := by
  intro m g m' g' _ hagree
  have hx (c : Dev Cert.FirstIdeal.nD) := (Conv.V_pixels m c).trans (Conv.rows_eq _)
  have hw (c : Dev Cert.FirstIdeal.nD) := Conv.V_weights m c
  refine ⟨fun c => Conv.slab (Conv.V m c Cert.FirstIdeal.main_v0) (Conv.V m c Cert.FirstIdeal.main_arg1),
    fun c => Conv.totals (Conv.V m c Cert.FirstIdeal.main_v0) (Conv.V m c Cert.FirstIdeal.main_arg1),
    Conv.value m g,
    (θ_run Cert.FirstReferenceIdeal.defs _ _).mono (fun r h c => ⟨(h c).1.trans ?_, (h c).2.1.trans ?_, (h c).2.2⟩)
      (Cert.FirstReferenceIdeal.Value.run (F := Ideal) m' g')⟩
  · obtain ⟨h0, h1⟩ := hagree c
    rw [h0, h1]
    exact (Conv.reference_slab _ _).trans (congrArg₂ Conv.slab (hx c).symm (hw c).symm)
  · obtain ⟨h0, h1⟩ := hagree c
    rw [h0, h1]
    exact (Conv.reference_sums _ _).trans (congrArg₂ Conv.totals (hx c).symm (hw c).symm)

theorem frame_last : Cert.quiescent_Last := fun m ρ _ =>
  Same.run_of_eq Norm.Same.defs_eq Norm.Same.threads_eq (@Norm.frame Bits _ Norm.Same.wordNamed m ρ)

theorem frame_last_ideal : Cert.quiescent_LastIdeal := fun m ρ _ => Norm.frame (F := Ideal) m ρ

theorem frame_last_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

/-- The second batch normalisation's call and its reference end with the same image. -/
theorem same_last : Cert.algebraic_LastIdeal_LastReferenceIdeal_pre_sums_of_products := by
  intro m g m' g' hpre hagree
  refine ⟨fun c => Norm.image (Norm.V m c Cert.LastIdeal.main_arg0) (Norm.V m c Cert.LastIdeal.main_arg1) (Norm.V m c Cert.LastIdeal.main_v0) (Norm.V m c Cert.LastIdeal.main_v1),
    Norm.value m g,
    (θ_run Cert.LastReferenceIdeal.defs _ _).mono (fun r h c => ⟨(h c).1.trans ?_, (h c).2⟩)
      (Cert.LastReferenceIdeal.Value.run (F := Ideal) m' g')⟩
  obtain ⟨h0, h1, h2, h3⟩ := hagree c
  rw [h0, h2, h3]
  refine (Norm.result_eq _ _ _ _ (Norm.sums_of_pre _ _ _ _ (hpre c))).trans ?_
  exact congr (congr (congrArg₂ Norm.image (Norm.V_arg0 m c).symm (Norm.V_arg1 m c).symm) (Norm.V_scale m c).symm) (Norm.V_shift m c).symm

theorem claim : Cert.Claim :=
  ⟨Cert.Kernel.Gen.facts, Cert.KernelIdeal.Gen.facts, Cert.ReferenceIdeal.Gen.facts, Cert.First.Gen.facts, Cert.FirstIdeal.Gen.facts,
    Cert.FirstReferenceIdeal.Gen.facts, Cert.Last.Gen.facts, Cert.LastIdeal.Gen.facts, Cert.LastReferenceIdeal.Gen.facts,
    Cert.Pre_permutations.Gen.facts, Cert.Pre_sums_of_products.Gen.facts,
    frame_kernel, frame_ideal, frame_reference, fun m ρ _ => frame_reference m ρ trivial, frame_first, frame_first_ideal, frame_first_reference,
    frame_last, frame_last_ideal, fun m ρ _ => frame_last_ideal m ρ trivial, frame_last_reference, fun m ρ _ => frame_last_reference m ρ trivial,
    trivial, same_results, trivial, same_first,
    IdealRules.named_const.statement Cert.LastIdeal.κ "inv_npix" .f32 0x373A69DC#32 ((90000⁻¹ : ℝ) : EReal) rfl, same_last⟩

end Cert.Proof

end
